-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v334) = v2 c
          ∧ r.2.mem ((c.tc : Thread Cert.ReferenceIdeal.nD Cert.ReferenceIdeal.τ).loc Cert.ReferenceIdeal.main_v326) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x5120 : Shape := ⟨2, ![48, 5120]⟩
abbrev S5120 : Shape := ⟨1, ![5120]⟩
abbrev S14336x20x128 : Shape := ⟨3, ![14336, 20, 128]⟩
abbrev S14336x20x12 : Shape := ⟨3, ![14336, 20, 12]⟩
abbrev S14336x20 : Shape := ⟨2, ![14336, 20]⟩
abbrev S1x5120 : Shape := ⟨2, ![1, 5120]⟩
abbrev S20x14336x128 : Shape := ⟨3, ![20, 14336, 128]⟩
abbrev S12x20x14336 : Shape := ⟨3, ![12, 20, 14336]⟩
abbrev S20x14336 : Shape := ⟨2, ![20, 14336]⟩
abbrev S48x20 : Shape := ⟨2, ![48, 20]⟩
abbrev S48x14336 : Shape := ⟨2, ![48, 14336]⟩
abbrev S48x56 : Shape := ⟨2, ![48, 56]⟩
abbrev S56x48x512 : Shape := ⟨3, ![56, 48, 512]⟩
abbrev S56x48x128 : Shape := ⟨3, ![56, 48, 128]⟩
abbrev S20x512x128 : Shape := ⟨3, ![20, 512, 128]⟩
abbrev S12x20x512 : Shape := ⟨3, ![12, 20, 512]⟩
abbrev S20x512 : Shape := ⟨2, ![20, 512]⟩
abbrev S48x512 : Shape := ⟨2, ![48, 512]⟩
abbrev S2x48x512 : Shape := ⟨3, ![2, 48, 512]⟩
abbrev S2x48x128 : Shape := ⟨3, ![2, 48, 128]⟩
abbrev S20x48x512 : Shape := ⟨3, ![20, 48, 512]⟩
abbrev S20x48x128 : Shape := ⟨3, ![20, 48, 128]⟩
abbrev S144x256 : Shape := ⟨2, ![144, 256]⟩
abbrev S2x4x20x512 : Shape := ⟨4, ![2, 4, 20, 512]⟩
abbrev S3x192x512 : Shape := ⟨3, ![3, 192, 512]⟩
abbrev S48 : Shape := ⟨1, ![48]⟩
abbrev S48x1 : Shape := ⟨2, ![48, 1]⟩
abbrev S256x256 : Shape := ⟨2, ![256, 256]⟩
abbrev S48x128 : Shape := ⟨2, ![48, 128]⟩
abbrev S48x256 : Shape := ⟨2, ![48, 256]⟩
abbrev S1x256 : Shape := ⟨2, ![1, 256]⟩
abbrev S1x48x256 : Shape := ⟨3, ![1, 48, 256]⟩
abbrev S1x48x128 : Shape := ⟨3, ![1, 48, 128]⟩
abbrev S1x20x512 : Shape := ⟨3, ![1, 20, 512]⟩
abbrev S1x1x20x512 : Shape := ⟨4, ![1, 1, 20, 512]⟩
abbrev S4x512 : Shape := ⟨2, ![4, 512]⟩
abbrev S24x512 : Shape := ⟨2, ![24, 512]⟩
abbrev S16x512 : Shape := ⟨2, ![16, 512]⟩
abbrev S8x512 : Shape := ⟨2, ![8, 512]⟩
abbrev S192x512 : Shape := ⟨2, ![192, 512]⟩
abbrev S1x192x512 : Shape := ⟨3, ![1, 192, 512]⟩
abbrev S144x192 : Shape := ⟨2, ![144, 192]⟩
abbrev S144x512 : Shape := ⟨2, ![144, 512]⟩
abbrev S96x192 : Shape := ⟨2, ![96, 192]⟩
abbrev S96x512 : Shape := ⟨2, ![96, 512]⟩
abbrev S48x192 : Shape := ⟨2, ![48, 192]⟩
abbrev S1x512x128 : Shape := ⟨3, ![1, 512, 128]⟩
abbrev S512x128 : Shape := ⟨2, ![512, 128]⟩
abbrev S128x512 : Shape := ⟨2, ![128, 512]⟩
abbrev S256x512 : Shape := ⟨2, ![256, 512]⟩
abbrev S1x1x1x512 : Shape := ⟨4, ![1, 1, 1, 512]⟩
abbrev S1x512 : Shape := ⟨2, ![1, 512]⟩
abbrev S32x512 : Shape := ⟨2, ![32, 512]⟩
abbrev S64x512 : Shape := ⟨2, ![64, 512]⟩
abbrev S1x48x512 : Shape := ⟨3, ![1, 48, 512]⟩
abbrev S512x512 : Shape := ⟨2, ![512, 512]⟩

abbrev nBuf : Space → Nat
  | .hbm => 25
  | .vmem => 33
  | .smem => 0
  | _ => 0

abbrev bufTy : (tb : Table) → Fin (tcTables nBuf tb) → BufTy
  | .hbm, ⟨0, _⟩ => ⟨S48x5120, .f32⟩
  | .hbm, ⟨1, _⟩ => ⟨S5120, .f32⟩
  | .hbm, ⟨2, _⟩ => ⟨S14336x20x128, .i8⟩
  | .hbm, ⟨3, _⟩ => ⟨S14336x20x12, .i8⟩
  | .hbm, ⟨4, _⟩ => ⟨S14336x20, .i16⟩
  | .hbm, ⟨5, _⟩ => ⟨S14336x20, .i16⟩
  | .hbm, ⟨6, _⟩ => ⟨S14336x20x128, .i8⟩
  | .hbm, ⟨7, _⟩ => ⟨S14336x20x12, .i8⟩
  | .hbm, ⟨8, _⟩ => ⟨S14336x20, .i16⟩
  | .hbm, ⟨9, _⟩ => ⟨S14336x20, .i16⟩
  | .hbm, ⟨10, _⟩ => ⟨S1x5120, .f32⟩
  | .hbm, ⟨11, _⟩ => ⟨S20x14336x128, .i8⟩
  | .hbm, ⟨12, _⟩ => ⟨S12x20x14336, .i8⟩
  | .hbm, ⟨13, _⟩ => ⟨S20x14336, .i16⟩
  | .hbm, ⟨14, _⟩ => ⟨S20x14336, .i16⟩
  | .hbm, ⟨15, _⟩ => ⟨S20x14336x128, .i8⟩
  | .hbm, ⟨16, _⟩ => ⟨S12x20x14336, .i8⟩
  | .hbm, ⟨17, _⟩ => ⟨S20x14336, .i16⟩
  | .hbm, ⟨18, _⟩ => ⟨S20x14336, .i16⟩
  | .hbm, ⟨19, _⟩ => ⟨S48x5120, .i8⟩
  | .hbm, ⟨20, _⟩ => ⟨S48x20, .f32⟩
  | .hbm, ⟨21, _⟩ => ⟨S48x14336, .i8⟩
  | .hbm, ⟨22, _⟩ => ⟨S48x56, .f32⟩
  | .hbm, ⟨23, _⟩ => ⟨S56x48x512, .bf16⟩
  | .hbm, ⟨24, _⟩ => ⟨S56x48x128, .f32⟩
  | .local _ .vmem, ⟨0, _⟩ => ⟨S48x5120, .f32⟩
  | .local _ .vmem, ⟨1, _⟩ => ⟨S1x5120, .f32⟩
  | .local _ .vmem, ⟨2, _⟩ => ⟨S20x512x128, .i8⟩
  | .local _ .vmem, ⟨3, _⟩ => ⟨S20x512x128, .i8⟩
  | .local _ .vmem, ⟨4, _⟩ => ⟨S12x20x512, .i8⟩
  | .local _ .vmem, ⟨5, _⟩ => ⟨S12x20x512, .i8⟩
  | .local _ .vmem, ⟨6, _⟩ => ⟨S20x512, .i16⟩
  | .local _ .vmem, ⟨7, _⟩ => ⟨S20x512, .i16⟩
  | .local _ .vmem, ⟨8, _⟩ => ⟨S20x512, .i16⟩
  | .local _ .vmem, ⟨9, _⟩ => ⟨S20x512, .i16⟩
  | .local _ .vmem, ⟨10, _⟩ => ⟨S20x512x128, .i8⟩
  | .local _ .vmem, ⟨11, _⟩ => ⟨S20x512x128, .i8⟩
  | .local _ .vmem, ⟨12, _⟩ => ⟨S12x20x512, .i8⟩
  | .local _ .vmem, ⟨13, _⟩ => ⟨S12x20x512, .i8⟩
  | .local _ .vmem, ⟨14, _⟩ => ⟨S20x512, .i16⟩
  | .local _ .vmem, ⟨15, _⟩ => ⟨S20x512, .i16⟩
  | .local _ .vmem, ⟨16, _⟩ => ⟨S20x512, .i16⟩
  | .local _ .vmem, ⟨17, _⟩ => ⟨S20x512, .i16⟩
  | .local _ .vmem, ⟨18, _⟩ => ⟨S48x5120, .i8⟩
  | .local _ .vmem, ⟨19, _⟩ => ⟨S48x20, .f32⟩
  | .local _ .vmem, ⟨20, _⟩ => ⟨S48x512, .i8⟩
  | .local _ .vmem, ⟨21, _⟩ => ⟨S48x512, .i8⟩
  | .local _ .vmem, ⟨22, _⟩ => ⟨S48x56, .f32⟩
  | .local _ .vmem, ⟨23, _⟩ => ⟨S2x48x512, .bf16⟩
  | .local _ .vmem, ⟨24, _⟩ => ⟨S2x48x512, .bf16⟩
  | .local _ .vmem, ⟨25, _⟩ => ⟨S2x48x128, .f32⟩
  | .local _ .vmem, ⟨26, _⟩ => ⟨S2x48x128, .f32⟩
  | .local _ .vmem, ⟨27, _⟩ => ⟨S20x48x512, .bf16⟩
  | .local _ .vmem, ⟨28, _⟩ => ⟨S20x48x128, .f32⟩
  | .local _ .vmem, ⟨29, _⟩ => ⟨S144x256, .bf16⟩
  | .local _ .vmem, ⟨30, _⟩ => ⟨S2x4x20x512, .i32⟩
  | .local _ .vmem, ⟨31, _⟩ => ⟨S3x192x512, .bf16⟩
  | .local _ .vmem, ⟨32, _⟩ => ⟨S20x512, .f32⟩
  | _, _ => ⟨S48x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S48x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20x512x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S12x20x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S20x512 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20x512 .i16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S20x512x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S12x20x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S20x512 .i16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S20x512 .i16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S48x5120 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S48x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S48x512 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S48x56 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2x48x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x48x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S48x5120 : Shape := ⟨2, ![48, 5120]⟩
abbrev S5120 : Shape := ⟨1, ![5120]⟩
abbrev S14336x20x128 : Shape := ⟨3, ![14336, 20, 128]⟩
abbrev S14336x20x12 : Shape := ⟨3, ![14336, 20, 12]⟩
abbrev S14336x20 : Shape := ⟨2, ![14336, 20]⟩
abbrev S_ : Shape := ⟨0, ![]⟩
abbrev S48 : Shape := ⟨1, ![48]⟩
abbrev S48x1 : Shape := ⟨2, ![48, 1]⟩
abbrev S1x5120 : Shape := ⟨2, ![1, 5120]⟩
abbrev S48x20x256 : Shape := ⟨3, ![48, 20, 256]⟩
abbrev S48x20 : Shape := ⟨2, ![48, 20]⟩
abbrev S48x20x1 : Shape := ⟨3, ![48, 20, 1]⟩
abbrev S48x20x8x32 : Shape := ⟨4, ![48, 20, 8, 32]⟩
abbrev S48x20x8 : Shape := ⟨3, ![48, 20, 8]⟩
abbrev S14336x20x4 : Shape := ⟨3, ![14336, 20, 4]⟩
abbrev S14336x20x8 : Shape := ⟨3, ![14336, 20, 8]⟩
abbrev S14336x20x4x2x1 : Shape := ⟨5, ![14336, 20, 4, 2, 1]⟩
abbrev S14336x20x4x32 : Shape := ⟨4, ![14336, 20, 4, 32]⟩
abbrev S14336x20x4x1x1 : Shape := ⟨5, ![14336, 20, 4, 1, 1]⟩
abbrev S14336x20x4x1 : Shape := ⟨4, ![14336, 20, 4, 1]⟩
abbrev S48x20x4x2x32 : Shape := ⟨5, ![48, 20, 4, 2, 32]⟩
abbrev S48x20x4x1x32 : Shape := ⟨5, ![48, 20, 4, 1, 32]⟩
abbrev S48x20x4x32 : Shape := ⟨4, ![48, 20, 4, 32]⟩
abbrev S20x48x14336 : Shape := ⟨3, ![20, 48, 14336]⟩
abbrev S20x14336 : Shape := ⟨2, ![20, 14336]⟩
abbrev S20x1x14336 : Shape := ⟨3, ![20, 1, 14336]⟩
abbrev S20x48 : Shape := ⟨2, ![20, 48]⟩
abbrev S20x48x1 : Shape := ⟨3, ![20, 48, 1]⟩
abbrev S48x14336 : Shape := ⟨2, ![48, 14336]⟩
abbrev S48x56x256 : Shape := ⟨3, ![48, 56, 256]⟩
abbrev S48x56 : Shape := ⟨2, ![48, 56]⟩
abbrev S48x56x1 : Shape := ⟨3, ![48, 56, 1]⟩

abbrev nBuf : Space → Nat
  | .hbm => 453
  | .vmem => 0
  | .smem => 0
  | _ => 0

abbrev hbmTy0_0 (i : Nat) : BufTy := match i % 128 with
  | 0 => ⟨S48x5120, .f32⟩
  | 1 => ⟨S5120, .f32⟩
  | 2 => ⟨S14336x20x128, .i8⟩
  | 3 => ⟨S14336x20x12, .i8⟩
  | 4 => ⟨S14336x20, .i16⟩
  | 5 => ⟨S14336x20, .i16⟩
  | 6 => ⟨S14336x20x128, .i8⟩
  | 7 => ⟨S14336x20x12, .i8⟩
  | 8 => ⟨S14336x20, .i16⟩
  | 9 => ⟨S14336x20, .i16⟩
  | 10 => ⟨S48x5120, .f32⟩
  | 11 => ⟨S_, .f32⟩
  | 12 => ⟨S48, .f32⟩
  | 13 => ⟨S48x1, .f32⟩
  | 14 => ⟨S_, .f32⟩
  | 15 => ⟨S48x1, .f32⟩
  | 16 => ⟨S48x1, .f32⟩
  | 17 => ⟨S_, .f32⟩
  | 18 => ⟨S48x1, .f32⟩
  | 19 => ⟨S48x1, .f32⟩
  | 20 => ⟨S48x1, .f32⟩
  | 21 => ⟨S48x5120, .f32⟩
  | 22 => ⟨S48x5120, .f32⟩
  | 23 => ⟨S1x5120, .f32⟩
  | 24 => ⟨S48x5120, .f32⟩
  | 25 => ⟨S48x5120, .f32⟩
  | 26 => ⟨S48x20x256, .f32⟩
  | 27 => ⟨S48x20x256, .f32⟩
  | 28 => ⟨S_, .f32⟩
  | 29 => ⟨S48x20, .f32⟩
  | 30 => ⟨S_, .f32⟩
  | 31 => ⟨S48x20, .f32⟩
  | 32 => ⟨S48x20, .i1⟩
  | 33 => ⟨S_, .f32⟩
  | 34 => ⟨S48x20, .f32⟩
  | 35 => ⟨S48x20, .f32⟩
  | 36 => ⟨S_, .f32⟩
  | 37 => ⟨S_, .f32⟩
  | 38 => ⟨S48x20, .f32⟩
  | 39 => ⟨S48x20, .f32⟩
  | 40 => ⟨S48x20x1, .f32⟩
  | 41 => ⟨S48x20x256, .f32⟩
  | 42 => ⟨S48x20x256, .f32⟩
  | 43 => ⟨S48x20x256, .f32⟩
  | 44 => ⟨S_, .i32⟩
  | 45 => ⟨S_, .i32⟩
  | 46 => ⟨S_, .f32⟩
  | 47 => ⟨S48x20x256, .f32⟩
  | 48 => ⟨S48x20x256, .f32⟩
  | 49 => ⟨S_, .f32⟩
  | 50 => ⟨S48x20x256, .f32⟩
  | 51 => ⟨S48x20x256, .f32⟩
  | 52 => ⟨S48x20x256, .i32⟩
  | 53 => ⟨S48x20x256, .i8⟩
  | 54 => ⟨S48x5120, .i8⟩
  | 55 => ⟨S48x20x8x32, .i8⟩
  | 56 => ⟨S48x20x8x32, .i32⟩
  | 57 => ⟨S48x20x8x32, .f32⟩
  | 58 => ⟨S_, .f32⟩
  | 59 => ⟨S48x20x8, .f32⟩
  | 60 => ⟨S14336x20x128, .i32⟩
  | 61 => ⟨S14336x20x12, .i32⟩
  | 62 => ⟨S14336x20x4, .i32⟩
  | 63 => ⟨S14336x20x4, .i32⟩
  | 64 => ⟨S14336x20x4, .i32⟩
  | 65 => ⟨S_, .i32⟩
  | 66 => ⟨S14336x20x4, .i32⟩
  | 67 => ⟨S14336x20x4, .i32⟩
  | 68 => ⟨S_, .i32⟩
  | 69 => ⟨S14336x20x4, .i32⟩
  | 70 => ⟨S14336x20x4, .i32⟩
  | 71 => ⟨S_, .i32⟩
  | 72 => ⟨S14336x20x4, .i32⟩
  | 73 => ⟨S14336x20x4, .i32⟩
  | 74 => ⟨S_, .i32⟩
  | 75 => ⟨S14336x20x4, .i32⟩
  | 76 => ⟨S14336x20x4, .i32⟩
  | 77 => ⟨S14336x20x4, .i32⟩
  | 78 => ⟨S14336x20x8, .i32⟩
  | 79 => ⟨S_, .i32⟩
  | 80 => ⟨S14336x20x4, .i32⟩
  | 81 => ⟨S14336x20x4, .i32⟩
  | 82 => ⟨S_, .i32⟩
  | 83 => ⟨S14336x20x4, .i32⟩
  | 84 => ⟨S14336x20x4, .i32⟩
  | 85 => ⟨S_, .i32⟩
  | 86 => ⟨S14336x20x4, .i32⟩
  | 87 => ⟨S14336x20x4, .i32⟩
  | 88 => ⟨S_, .i32⟩
  | 89 => ⟨S14336x20x4, .i32⟩
  | 90 => ⟨S14336x20x4, .i32⟩
  | 91 => ⟨S14336x20x4, .i32⟩
  | 92 => ⟨S14336x20x8, .i32⟩
  | 93 => ⟨S14336x20x4x2x1, .i32⟩
  | 94 => ⟨S14336x20x4x32, .i32⟩
  | 95 => ⟨S14336x20x4x1x1, .i32⟩
  | 96 => ⟨S14336x20x4x1, .i32⟩
  | 97 => ⟨S_, .i32⟩
  | 98 => ⟨S14336x20x4x32, .i32⟩
  | 99 => ⟨S14336x20x4x32, .i32⟩
  | 100 => ⟨S14336x20x4x32, .i32⟩
  | 101 => ⟨S14336x20x4x32, .i32⟩
  | 102 => ⟨S14336x20x4x1x1, .i32⟩
  | 103 => ⟨S14336x20x4x1, .i32⟩
  | 104 => ⟨S_, .i32⟩
  | 105 => ⟨S14336x20x4x32, .i32⟩
  | 106 => ⟨S14336x20x4x32, .i32⟩
  | 107 => ⟨S14336x20x4x32, .i32⟩
  | 108 => ⟨S14336x20x4x32, .i32⟩
  | 109 => ⟨S48x20x4x2x32, .i8⟩
  | 110 => ⟨S48x20x4x1x32, .i8⟩
  | 111 => ⟨S48x20x4x32, .i8⟩
  | 112 => ⟨S48x20x4x32, .i32⟩
  | 113 => ⟨S48x20x4x32, .f32⟩
  | 114 => ⟨S48x20x4x32, .bf16⟩
  | 115 => ⟨S_, .i32⟩
  | 116 => ⟨S14336x20x4x32, .i32⟩
  | 117 => ⟨S14336x20x4x32, .i32⟩
  | 118 => ⟨S14336x20x4x32, .f32⟩
  | 119 => ⟨S14336x20x4x32, .bf16⟩
  | 120 => ⟨S20x48x14336, .f32⟩
  | 121 => ⟨S_, .i32⟩
  | 122 => ⟨S14336x20x4x32, .i32⟩
  | 123 => ⟨S14336x20x4x32, .i32⟩
  | 124 => ⟨S14336x20x4x32, .f32⟩
  | 125 => ⟨S14336x20x4x32, .bf16⟩
  | 126 => ⟨S20x48x14336, .f32⟩
  | 127 => ⟨S20x48x14336, .i32⟩
  | _ => ⟨S48x5120, .f32⟩

abbrev hbmTy0_1 (i : Nat) : BufTy := match i % 128 with
  | 0 => ⟨S_, .i32⟩
  | 1 => ⟨S20x48x14336, .i32⟩
  | 2 => ⟨S20x48x14336, .i32⟩
  | 3 => ⟨S20x48x14336, .i32⟩
  | 4 => ⟨S20x48x14336, .i32⟩
  | 5 => ⟨S48x20x4x1x32, .i8⟩
  | 6 => ⟨S48x20x4x32, .i8⟩
  | 7 => ⟨S48x20x4x32, .i32⟩
  | 8 => ⟨S48x20x4x32, .f32⟩
  | 9 => ⟨S48x20x4x32, .bf16⟩
  | 10 => ⟨S_, .i32⟩
  | 11 => ⟨S14336x20x4x32, .i32⟩
  | 12 => ⟨S14336x20x4x32, .i32⟩
  | 13 => ⟨S14336x20x4x32, .f32⟩
  | 14 => ⟨S14336x20x4x32, .bf16⟩
  | 15 => ⟨S20x48x14336, .f32⟩
  | 16 => ⟨S_, .i32⟩
  | 17 => ⟨S14336x20x4x32, .i32⟩
  | 18 => ⟨S14336x20x4x32, .i32⟩
  | 19 => ⟨S14336x20x4x32, .f32⟩
  | 20 => ⟨S14336x20x4x32, .bf16⟩
  | 21 => ⟨S20x48x14336, .f32⟩
  | 22 => ⟨S20x48x14336, .i32⟩
  | 23 => ⟨S_, .i32⟩
  | 24 => ⟨S20x48x14336, .i32⟩
  | 25 => ⟨S20x48x14336, .i32⟩
  | 26 => ⟨S20x48x14336, .i32⟩
  | 27 => ⟨S20x48x14336, .i32⟩
  | 28 => ⟨S20x48x14336, .i32⟩
  | 29 => ⟨S14336x20x8, .f32⟩
  | 30 => ⟨S20x48x14336, .f32⟩
  | 31 => ⟨S14336x20, .i32⟩
  | 32 => ⟨S_, .i32⟩
  | 33 => ⟨S14336x20, .i32⟩
  | 34 => ⟨S14336x20, .i32⟩
  | 35 => ⟨S_, .i32⟩
  | 36 => ⟨S14336x20, .i32⟩
  | 37 => ⟨S14336x20, .i32⟩
  | 38 => ⟨S_, .i32⟩
  | 39 => ⟨S14336x20, .i32⟩
  | 40 => ⟨S14336x20, .i32⟩
  | 41 => ⟨S_, .i32⟩
  | 42 => ⟨S14336x20, .i32⟩
  | 43 => ⟨S14336x20, .i32⟩
  | 44 => ⟨S_, .i32⟩
  | 45 => ⟨S14336x20, .i32⟩
  | 46 => ⟨S14336x20, .i32⟩
  | 47 => ⟨S_, .i32⟩
  | 48 => ⟨S14336x20, .i32⟩
  | 49 => ⟨S14336x20, .i32⟩
  | 50 => ⟨S_, .i32⟩
  | 51 => ⟨S14336x20, .i32⟩
  | 52 => ⟨S14336x20, .i32⟩
  | 53 => ⟨S14336x20, .f32⟩
  | 54 => ⟨S_, .i32⟩
  | 55 => ⟨S14336x20, .i32⟩
  | 56 => ⟨S14336x20, .i1⟩
  | 57 => ⟨S14336x20, .f32⟩
  | 58 => ⟨S_, .f32⟩
  | 59 => ⟨S14336x20, .f32⟩
  | 60 => ⟨S14336x20, .f32⟩
  | 61 => ⟨S14336x20, .f32⟩
  | 62 => ⟨S20x14336, .f32⟩
  | 63 => ⟨S20x1x14336, .f32⟩
  | 64 => ⟨S14336x20, .i32⟩
  | 65 => ⟨S_, .i32⟩
  | 66 => ⟨S14336x20, .i32⟩
  | 67 => ⟨S14336x20, .i32⟩
  | 68 => ⟨S_, .i32⟩
  | 69 => ⟨S14336x20, .i32⟩
  | 70 => ⟨S14336x20, .i32⟩
  | 71 => ⟨S_, .i32⟩
  | 72 => ⟨S14336x20, .i32⟩
  | 73 => ⟨S14336x20, .i32⟩
  | 74 => ⟨S_, .i32⟩
  | 75 => ⟨S14336x20, .i32⟩
  | 76 => ⟨S14336x20, .i32⟩
  | 77 => ⟨S_, .i32⟩
  | 78 => ⟨S14336x20, .i32⟩
  | 79 => ⟨S14336x20, .i32⟩
  | 80 => ⟨S_, .i32⟩
  | 81 => ⟨S14336x20, .i32⟩
  | 82 => ⟨S14336x20, .i32⟩
  | 83 => ⟨S_, .i32⟩
  | 84 => ⟨S14336x20, .i32⟩
  | 85 => ⟨S14336x20, .i32⟩
  | 86 => ⟨S14336x20, .f32⟩
  | 87 => ⟨S_, .i32⟩
  | 88 => ⟨S14336x20, .i32⟩
  | 89 => ⟨S14336x20, .i1⟩
  | 90 => ⟨S14336x20, .f32⟩
  | 91 => ⟨S_, .f32⟩
  | 92 => ⟨S14336x20, .f32⟩
  | 93 => ⟨S14336x20, .f32⟩
  | 94 => ⟨S14336x20, .f32⟩
  | 95 => ⟨S20x14336, .f32⟩
  | 96 => ⟨S20x1x14336, .f32⟩
  | 97 => ⟨S20x48, .f32⟩
  | 98 => ⟨S20x48x1, .f32⟩
  | 99 => ⟨S20x48x14336, .f32⟩
  | 100 => ⟨S20x48x14336, .f32⟩
  | 101 => ⟨S20x48x14336, .f32⟩
  | 102 => ⟨S20x48x14336, .f32⟩
  | 103 => ⟨S20x48x14336, .f32⟩
  | 104 => ⟨S20x48x14336, .f32⟩
  | 105 => ⟨S20x48x14336, .f32⟩
  | 106 => ⟨S20x48x14336, .f32⟩
  | 107 => ⟨S_, .f32⟩
  | 108 => ⟨S48x14336, .f32⟩
  | 109 => ⟨S14336x20x128, .i32⟩
  | 110 => ⟨S14336x20x12, .i32⟩
  | 111 => ⟨S14336x20x4, .i32⟩
  | 112 => ⟨S14336x20x4, .i32⟩
  | 113 => ⟨S14336x20x4, .i32⟩
  | 114 => ⟨S_, .i32⟩
  | 115 => ⟨S14336x20x4, .i32⟩
  | 116 => ⟨S14336x20x4, .i32⟩
  | 117 => ⟨S_, .i32⟩
  | 118 => ⟨S14336x20x4, .i32⟩
  | 119 => ⟨S14336x20x4, .i32⟩
  | 120 => ⟨S_, .i32⟩
  | 121 => ⟨S14336x20x4, .i32⟩
  | 122 => ⟨S14336x20x4, .i32⟩
  | 123 => ⟨S_, .i32⟩
  | 124 => ⟨S14336x20x4, .i32⟩
  | 125 => ⟨S14336x20x4, .i32⟩
  | 126 => ⟨S14336x20x4, .i32⟩
  | 127 => ⟨S14336x20x8, .i32⟩
  | _ => ⟨S48x5120, .f32⟩

abbrev hbmTy0_2 (i : Nat) : BufTy := match i % 128 with
  | 0 => ⟨S_, .i32⟩
  | 1 => ⟨S14336x20x4, .i32⟩
  | 2 => ⟨S14336x20x4, .i32⟩
  | 3 => ⟨S_, .i32⟩
  | 4 => ⟨S14336x20x4, .i32⟩
  | 5 => ⟨S14336x20x4, .i32⟩
  | 6 => ⟨S_, .i32⟩
  | 7 => ⟨S14336x20x4, .i32⟩
  | 8 => ⟨S14336x20x4, .i32⟩
  | 9 => ⟨S_, .i32⟩
  | 10 => ⟨S14336x20x4, .i32⟩
  | 11 => ⟨S14336x20x4, .i32⟩
  | 12 => ⟨S14336x20x4, .i32⟩
  | 13 => ⟨S14336x20x8, .i32⟩
  | 14 => ⟨S14336x20x4x2x1, .i32⟩
  | 15 => ⟨S14336x20x4x32, .i32⟩
  | 16 => ⟨S14336x20x4x1x1, .i32⟩
  | 17 => ⟨S14336x20x4x1, .i32⟩
  | 18 => ⟨S_, .i32⟩
  | 19 => ⟨S14336x20x4x32, .i32⟩
  | 20 => ⟨S14336x20x4x32, .i32⟩
  | 21 => ⟨S14336x20x4x32, .i32⟩
  | 22 => ⟨S14336x20x4x32, .i32⟩
  | 23 => ⟨S14336x20x4x1x1, .i32⟩
  | 24 => ⟨S14336x20x4x1, .i32⟩
  | 25 => ⟨S_, .i32⟩
  | 26 => ⟨S14336x20x4x32, .i32⟩
  | 27 => ⟨S14336x20x4x32, .i32⟩
  | 28 => ⟨S14336x20x4x32, .i32⟩
  | 29 => ⟨S14336x20x4x32, .i32⟩
  | 30 => ⟨S48x20x4x2x32, .i8⟩
  | 31 => ⟨S48x20x4x1x32, .i8⟩
  | 32 => ⟨S48x20x4x32, .i8⟩
  | 33 => ⟨S48x20x4x32, .i32⟩
  | 34 => ⟨S48x20x4x32, .f32⟩
  | 35 => ⟨S48x20x4x32, .bf16⟩
  | 36 => ⟨S_, .i32⟩
  | 37 => ⟨S14336x20x4x32, .i32⟩
  | 38 => ⟨S14336x20x4x32, .i32⟩
  | 39 => ⟨S14336x20x4x32, .f32⟩
  | 40 => ⟨S14336x20x4x32, .bf16⟩
  | 41 => ⟨S20x48x14336, .f32⟩
  | 42 => ⟨S_, .i32⟩
  | 43 => ⟨S14336x20x4x32, .i32⟩
  | 44 => ⟨S14336x20x4x32, .i32⟩
  | 45 => ⟨S14336x20x4x32, .f32⟩
  | 46 => ⟨S14336x20x4x32, .bf16⟩
  | 47 => ⟨S20x48x14336, .f32⟩
  | 48 => ⟨S20x48x14336, .i32⟩
  | 49 => ⟨S_, .i32⟩
  | 50 => ⟨S20x48x14336, .i32⟩
  | 51 => ⟨S20x48x14336, .i32⟩
  | 52 => ⟨S20x48x14336, .i32⟩
  | 53 => ⟨S20x48x14336, .i32⟩
  | 54 => ⟨S48x20x4x1x32, .i8⟩
  | 55 => ⟨S48x20x4x32, .i8⟩
  | 56 => ⟨S48x20x4x32, .i32⟩
  | 57 => ⟨S48x20x4x32, .f32⟩
  | 58 => ⟨S48x20x4x32, .bf16⟩
  | 59 => ⟨S_, .i32⟩
  | 60 => ⟨S14336x20x4x32, .i32⟩
  | 61 => ⟨S14336x20x4x32, .i32⟩
  | 62 => ⟨S14336x20x4x32, .f32⟩
  | 63 => ⟨S14336x20x4x32, .bf16⟩
  | 64 => ⟨S20x48x14336, .f32⟩
  | 65 => ⟨S_, .i32⟩
  | 66 => ⟨S14336x20x4x32, .i32⟩
  | 67 => ⟨S14336x20x4x32, .i32⟩
  | 68 => ⟨S14336x20x4x32, .f32⟩
  | 69 => ⟨S14336x20x4x32, .bf16⟩
  | 70 => ⟨S20x48x14336, .f32⟩
  | 71 => ⟨S20x48x14336, .i32⟩
  | 72 => ⟨S_, .i32⟩
  | 73 => ⟨S20x48x14336, .i32⟩
  | 74 => ⟨S20x48x14336, .i32⟩
  | 75 => ⟨S20x48x14336, .i32⟩
  | 76 => ⟨S20x48x14336, .i32⟩
  | 77 => ⟨S20x48x14336, .i32⟩
  | 78 => ⟨S14336x20x8, .f32⟩
  | 79 => ⟨S20x48x14336, .f32⟩
  | 80 => ⟨S14336x20, .i32⟩
  | 81 => ⟨S_, .i32⟩
  | 82 => ⟨S14336x20, .i32⟩
  | 83 => ⟨S14336x20, .i32⟩
  | 84 => ⟨S_, .i32⟩
  | 85 => ⟨S14336x20, .i32⟩
  | 86 => ⟨S14336x20, .i32⟩
  | 87 => ⟨S_, .i32⟩
  | 88 => ⟨S14336x20, .i32⟩
  | 89 => ⟨S14336x20, .i32⟩
  | 90 => ⟨S_, .i32⟩
  | 91 => ⟨S14336x20, .i32⟩
  | 92 => ⟨S14336x20, .i32⟩
  | 93 => ⟨S_, .i32⟩
  | 94 => ⟨S14336x20, .i32⟩
  | 95 => ⟨S14336x20, .i32⟩
  | 96 => ⟨S_, .i32⟩
  | 97 => ⟨S14336x20, .i32⟩
  | 98 => ⟨S14336x20, .i32⟩
  | 99 => ⟨S_, .i32⟩
  | 100 => ⟨S14336x20, .i32⟩
  | 101 => ⟨S14336x20, .i32⟩
  | 102 => ⟨S14336x20, .f32⟩
  | 103 => ⟨S_, .i32⟩
  | 104 => ⟨S14336x20, .i32⟩
  | 105 => ⟨S14336x20, .i1⟩
  | 106 => ⟨S14336x20, .f32⟩
  | 107 => ⟨S_, .f32⟩
  | 108 => ⟨S14336x20, .f32⟩
  | 109 => ⟨S14336x20, .f32⟩
  | 110 => ⟨S14336x20, .f32⟩
  | 111 => ⟨S20x14336, .f32⟩
  | 112 => ⟨S20x1x14336, .f32⟩
  | 113 => ⟨S14336x20, .i32⟩
  | 114 => ⟨S_, .i32⟩
  | 115 => ⟨S14336x20, .i32⟩
  | 116 => ⟨S14336x20, .i32⟩
  | 117 => ⟨S_, .i32⟩
  | 118 => ⟨S14336x20, .i32⟩
  | 119 => ⟨S14336x20, .i32⟩
  | 120 => ⟨S_, .i32⟩
  | 121 => ⟨S14336x20, .i32⟩
  | 122 => ⟨S14336x20, .i32⟩
  | 123 => ⟨S_, .i32⟩
  | 124 => ⟨S14336x20, .i32⟩
  | 125 => ⟨S14336x20, .i32⟩
  | 126 => ⟨S_, .i32⟩
  | 127 => ⟨S14336x20, .i32⟩
  | _ => ⟨S48x5120, .f32⟩

abbrev hbmTy0_3 (i : Nat) : BufTy := match i % 128 with
  | 0 => ⟨S14336x20, .i32⟩
  | 1 => ⟨S_, .i32⟩
  | 2 => ⟨S14336x20, .i32⟩
  | 3 => ⟨S14336x20, .i32⟩
  | 4 => ⟨S_, .i32⟩
  | 5 => ⟨S14336x20, .i32⟩
  | 6 => ⟨S14336x20, .i32⟩
  | 7 => ⟨S14336x20, .f32⟩
  | 8 => ⟨S_, .i32⟩
  | 9 => ⟨S14336x20, .i32⟩
  | 10 => ⟨S14336x20, .i1⟩
  | 11 => ⟨S14336x20, .f32⟩
  | 12 => ⟨S_, .f32⟩
  | 13 => ⟨S14336x20, .f32⟩
  | 14 => ⟨S14336x20, .f32⟩
  | 15 => ⟨S14336x20, .f32⟩
  | 16 => ⟨S20x14336, .f32⟩
  | 17 => ⟨S20x1x14336, .f32⟩
  | 18 => ⟨S20x48, .f32⟩
  | 19 => ⟨S20x48x1, .f32⟩
  | 20 => ⟨S20x48x14336, .f32⟩
  | 21 => ⟨S20x48x14336, .f32⟩
  | 22 => ⟨S20x48x14336, .f32⟩
  | 23 => ⟨S20x48x14336, .f32⟩
  | 24 => ⟨S20x48x14336, .f32⟩
  | 25 => ⟨S20x48x14336, .f32⟩
  | 26 => ⟨S20x48x14336, .f32⟩
  | 27 => ⟨S20x48x14336, .f32⟩
  | 28 => ⟨S_, .f32⟩
  | 29 => ⟨S48x14336, .f32⟩
  | 30 => ⟨S48x14336, .f32⟩
  | 31 => ⟨S48x14336, .f32⟩
  | 32 => ⟨S_, .f32⟩
  | 33 => ⟨S48x14336, .f32⟩
  | 34 => ⟨S48x14336, .f32⟩
  | 35 => ⟨S_, .f32⟩
  | 36 => ⟨S48x14336, .f32⟩
  | 37 => ⟨S48x14336, .f32⟩
  | 38 => ⟨S48x14336, .f32⟩
  | 39 => ⟨S48x14336, .f32⟩
  | 40 => ⟨S48x56x256, .f32⟩
  | 41 => ⟨S48x56x256, .f32⟩
  | 42 => ⟨S_, .f32⟩
  | 43 => ⟨S48x56, .f32⟩
  | 44 => ⟨S_, .f32⟩
  | 45 => ⟨S48x56, .f32⟩
  | 46 => ⟨S48x56, .i1⟩
  | 47 => ⟨S_, .f32⟩
  | 48 => ⟨S48x56, .f32⟩
  | 49 => ⟨S48x56, .f32⟩
  | 50 => ⟨S_, .f32⟩
  | 51 => ⟨S_, .f32⟩
  | 52 => ⟨S48x56, .f32⟩
  | 53 => ⟨S48x56, .f32⟩
  | 54 => ⟨S48x56x1, .f32⟩
  | 55 => ⟨S48x56x256, .f32⟩
  | 56 => ⟨S48x56x256, .f32⟩
  | 57 => ⟨S48x56x256, .f32⟩
  | 58 => ⟨S_, .i32⟩
  | 59 => ⟨S_, .i32⟩
  | 60 => ⟨S_, .f32⟩
  | 61 => ⟨S48x56x256, .f32⟩
  | 62 => ⟨S48x56x256, .f32⟩
  | 63 => ⟨S_, .f32⟩
  | 64 => ⟨S48x56x256, .f32⟩
  | 65 => ⟨S48x56x256, .f32⟩
  | 66 => ⟨S48x56x256, .i32⟩
  | 67 => ⟨S48x56x256, .i8⟩
  | 68 => ⟨S48x14336, .i8⟩
  | _ => ⟨S48x5120, .f32⟩

abbrev hbmTy (i : Nat) : BufTy := match i / 128 with
  | 0 => hbmTy0_0 i
  | 1 => hbmTy0_1 i
  | 2 => hbmTy0_2 i
  | 3 => hbmTy0_3 i
  | _ => ⟨S48x5120, .f32⟩

abbrev bufTy : (tb : Table) → Fin (tcTables nBuf tb) → BufTy
  | .hbm, ⟨i, _⟩ => hbmTy i
  | _, _ => ⟨S48x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c : Ref sig .tc := ⟨.hbm, 44, rfl⟩
abbrev main_c_6 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_c_11 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_12 : Ref sig .tc := ⟨.hbm, 79, rfl⟩
abbrev main_v48 : Ref sig .tc := ⟨.hbm, 80, rfl⟩
abbrev main_v49 : Ref sig .tc := ⟨.hbm, 81, rfl⟩
abbrev main_c_13 : Ref sig .tc := ⟨.hbm, 82, rfl⟩
abbrev main_v50 : Ref sig .tc := ⟨.hbm, 83, rfl⟩
abbrev main_v51 : Ref sig .tc := ⟨.hbm, 84, rfl⟩
abbrev main_c_14 : Ref sig .tc := ⟨.hbm, 85, rfl⟩
abbrev main_v52 : Ref sig .tc := ⟨.hbm, 86, rfl⟩
abbrev main_v53 : Ref sig .tc := ⟨.hbm, 87, rfl⟩
abbrev main_c_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_16 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_17 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_18 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_c_19 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_21 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_c_22 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_23 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_24 : Ref sig .tc := ⟨.hbm, 160, rfl⟩
abbrev main_v117 : Ref sig .tc := ⟨.hbm, 161, rfl⟩
abbrev main_v118 : Ref sig .tc := ⟨.hbm, 162, rfl⟩
abbrev main_c_25 : Ref sig .tc := ⟨.hbm, 163, rfl⟩
abbrev main_v119 : Ref sig .tc := ⟨.hbm, 164, rfl⟩
abbrev main_v120 : Ref sig .tc := ⟨.hbm, 165, rfl⟩
abbrev main_c_26 : Ref sig .tc := ⟨.hbm, 166, rfl⟩
abbrev main_v121 : Ref sig .tc := ⟨.hbm, 167, rfl⟩
abbrev main_v122 : Ref sig .tc := ⟨.hbm, 168, rfl⟩
abbrev main_c_27 : Ref sig .tc := ⟨.hbm, 169, rfl⟩
abbrev main_v123 : Ref sig .tc := ⟨.hbm, 170, rfl⟩
abbrev main_v124 : Ref sig .tc := ⟨.hbm, 171, rfl⟩
abbrev main_c_28 : Ref sig .tc := ⟨.hbm, 172, rfl⟩
abbrev main_v125 : Ref sig .tc := ⟨.hbm, 173, rfl⟩
abbrev main_v126 : Ref sig .tc := ⟨.hbm, 174, rfl⟩
abbrev main_c_29 : Ref sig .tc := ⟨.hbm, 175, rfl⟩
abbrev main_v127 : Ref sig .tc := ⟨.hbm, 176, rfl⟩
abbrev main_v128 : Ref sig .tc := ⟨.hbm, 177, rfl⟩
abbrev main_c_30 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_c_31 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_32 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_c_33 : Ref sig .tc := ⟨.hbm, 193, rfl⟩
abbrev main_v141 : Ref sig .tc := ⟨.hbm, 194, rfl⟩
abbrev main_v142 : Ref sig .tc := ⟨.hbm, 195, rfl⟩
abbrev main_c_34 : Ref sig .tc := ⟨.hbm, 196, rfl⟩
abbrev main_v143 : Ref sig .tc := ⟨.hbm, 197, rfl⟩
abbrev main_v144 : Ref sig .tc := ⟨.hbm, 198, rfl⟩
abbrev main_c_35 : Ref sig .tc := ⟨.hbm, 199, rfl⟩
abbrev main_v145 : Ref sig .tc := ⟨.hbm, 200, rfl⟩
abbrev main_v146 : Ref sig .tc := ⟨.hbm, 201, rfl⟩
abbrev main_c_36 : Ref sig .tc := ⟨.hbm, 202, rfl⟩
abbrev main_v147 : Ref sig .tc := ⟨.hbm, 203, rfl⟩
abbrev main_v148 : Ref sig .tc := ⟨.hbm, 204, rfl⟩
abbrev main_c_37 : Ref sig .tc := ⟨.hbm, 205, rfl⟩
abbrev main_v149 : Ref sig .tc := ⟨.hbm, 206, rfl⟩
abbrev main_v150 : Ref sig .tc := ⟨.hbm, 207, rfl⟩
abbrev main_c_38 : Ref sig .tc := ⟨.hbm, 208, rfl⟩
abbrev main_v151 : Ref sig .tc := ⟨.hbm, 209, rfl⟩
abbrev main_v152 : Ref sig .tc := ⟨.hbm, 210, rfl⟩
abbrev main_c_39 : Ref sig .tc := ⟨.hbm, 211, rfl⟩
abbrev main_v153 : Ref sig .tc := ⟨.hbm, 212, rfl⟩
abbrev main_v154 : Ref sig .tc := ⟨.hbm, 213, rfl⟩
abbrev main_v155 : Ref sig .tc := ⟨.hbm, 214, rfl⟩
abbrev main_c_40 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_cst_41 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_42 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_c_43 : Ref sig .tc := ⟨.hbm, 242, rfl⟩
abbrev main_v180 : Ref sig .tc := ⟨.hbm, 243, rfl⟩
abbrev main_v181 : Ref sig .tc := ⟨.hbm, 244, rfl⟩
abbrev main_c_44 : Ref sig .tc := ⟨.hbm, 245, rfl⟩
abbrev main_v182 : Ref sig .tc := ⟨.hbm, 246, rfl⟩
abbrev main_v183 : Ref sig .tc := ⟨.hbm, 247, rfl⟩
abbrev main_c_45 : Ref sig .tc := ⟨.hbm, 248, rfl⟩
abbrev main_v184 : Ref sig .tc := ⟨.hbm, 249, rfl⟩
abbrev main_v185 : Ref sig .tc := ⟨.hbm, 250, rfl⟩
abbrev main_c_46 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_c_47 : Ref sig .tc := ⟨.hbm, 256, rfl⟩
abbrev main_v190 : Ref sig .tc := ⟨.hbm, 257, rfl⟩
abbrev main_v191 : Ref sig .tc := ⟨.hbm, 258, rfl⟩
abbrev main_c_48 : Ref sig .tc := ⟨.hbm, 259, rfl⟩
abbrev main_v192 : Ref sig .tc := ⟨.hbm, 260, rfl⟩
abbrev main_v193 : Ref sig .tc := ⟨.hbm, 261, rfl⟩
abbrev main_c_49 : Ref sig .tc := ⟨.hbm, 262, rfl⟩
abbrev main_v194 : Ref sig .tc := ⟨.hbm, 263, rfl⟩
abbrev main_v195 : Ref sig .tc := ⟨.hbm, 264, rfl⟩
abbrev main_c_50 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_c_51 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_c_52 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_c_53 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_c_54 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_c_55 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_c_56 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_c_57 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_c_58 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_c_59 : Ref sig .tc := ⟨.hbm, 337, rfl⟩
abbrev main_v259 : Ref sig .tc := ⟨.hbm, 338, rfl⟩
abbrev main_v260 : Ref sig .tc := ⟨.hbm, 339, rfl⟩
abbrev main_c_60 : Ref sig .tc := ⟨.hbm, 340, rfl⟩
abbrev main_v261 : Ref sig .tc := ⟨.hbm, 341, rfl⟩
abbrev main_v262 : Ref sig .tc := ⟨.hbm, 342, rfl⟩
abbrev main_c_61 : Ref sig .tc := ⟨.hbm, 343, rfl⟩
abbrev main_v263 : Ref sig .tc := ⟨.hbm, 344, rfl⟩
abbrev main_v264 : Ref sig .tc := ⟨.hbm, 345, rfl⟩
abbrev main_c_62 : Ref sig .tc := ⟨.hbm, 346, rfl⟩
abbrev main_v265 : Ref sig .tc := ⟨.hbm, 347, rfl⟩
abbrev main_v266 : Ref sig .tc := ⟨.hbm, 348, rfl⟩
abbrev main_c_63 : Ref sig .tc := ⟨.hbm, 349, rfl⟩
abbrev main_v267 : Ref sig .tc := ⟨.hbm, 350, rfl⟩
abbrev main_v268 : Ref sig .tc := ⟨.hbm, 351, rfl⟩
abbrev main_c_64 : Ref sig .tc := ⟨.hbm, 352, rfl⟩
abbrev main_v269 : Ref sig .tc := ⟨.hbm, 353, rfl⟩
abbrev main_v270 : Ref sig .tc := ⟨.hbm, 354, rfl⟩
abbrev main_c_65 : Ref sig .tc := ⟨.hbm, 355, rfl⟩
abbrev main_v271 : Ref sig .tc := ⟨.hbm, 356, rfl⟩
abbrev main_v272 : Ref sig .tc := ⟨.hbm, 357, rfl⟩
abbrev main_v273 : Ref sig .tc := ⟨.hbm, 358, rfl⟩
abbrev main_c_66 : Ref sig .tc := ⟨.hbm, 359, rfl⟩
abbrev main_v274 : Ref sig .tc := ⟨.hbm, 360, rfl⟩
abbrev main_v275 : Ref sig .tc := ⟨.hbm, 361, rfl⟩
abbrev main_v276 : Ref sig .tc := ⟨.hbm, 362, rfl⟩
abbrev main_cst_67 : Ref sig .tc := ⟨.hbm, 363, rfl⟩
abbrev main_v277 : Ref sig .tc := ⟨.hbm, 364, rfl⟩
abbrev main_v278 : Ref sig .tc := ⟨.hbm, 365, rfl⟩
abbrev main_v279 : Ref sig .tc := ⟨.hbm, 366, rfl⟩
abbrev main_v280 : Ref sig .tc := ⟨.hbm, 367, rfl⟩
abbrev main_v281 : Ref sig .tc := ⟨.hbm, 368, rfl⟩
abbrev main_v282 : Ref sig .tc := ⟨.hbm, 369, rfl⟩
abbrev main_c_68 : Ref sig .tc := ⟨.hbm, 370, rfl⟩
abbrev main_v283 : Ref sig .tc := ⟨.hbm, 371, rfl⟩
abbrev main_v284 : Ref sig .tc := ⟨.hbm, 372, rfl⟩
abbrev main_c_69 : Ref sig .tc := ⟨.hbm, 373, rfl⟩
abbrev main_v285 : Ref sig .tc := ⟨.hbm, 374, rfl⟩
abbrev main_v286 : Ref sig .tc := ⟨.hbm, 375, rfl⟩
abbrev main_c_70 : Ref sig .tc := ⟨.hbm, 376, rfl⟩
abbrev main_v287 : Ref sig .tc := ⟨.hbm, 377, rfl⟩
abbrev main_v288 : Ref sig .tc := ⟨.hbm, 378, rfl⟩
abbrev main_c_71 : Ref sig .tc := ⟨.hbm, 379, rfl⟩
abbrev main_v289 : Ref sig .tc := ⟨.hbm, 380, rfl⟩
abbrev main_v290 : Ref sig .tc := ⟨.hbm, 381, rfl⟩
abbrev main_c_72 : Ref sig .tc := ⟨.hbm, 382, rfl⟩
abbrev main_v291 : Ref sig .tc := ⟨.hbm, 383, rfl⟩
abbrev main_v292 : Ref sig .tc := ⟨.hbm, 384, rfl⟩
abbrev main_c_73 : Ref sig .tc := ⟨.hbm, 385, rfl⟩
abbrev main_v293 : Ref sig .tc := ⟨.hbm, 386, rfl⟩
abbrev main_v294 : Ref sig .tc := ⟨.hbm, 387, rfl⟩
abbrev main_c_74 : Ref sig .tc := ⟨.hbm, 388, rfl⟩
abbrev main_v295 : Ref sig .tc := ⟨.hbm, 389, rfl⟩
abbrev main_v296 : Ref sig .tc := ⟨.hbm, 390, rfl⟩
abbrev main_v297 : Ref sig .tc := ⟨.hbm, 391, rfl⟩
abbrev main_c_75 : Ref sig .tc := ⟨.hbm, 392, rfl⟩
abbrev main_v298 : Ref sig .tc := ⟨.hbm, 393, rfl⟩
abbrev main_v299 : Ref sig .tc := ⟨.hbm, 394, rfl⟩
abbrev main_v300 : Ref sig .tc := ⟨.hbm, 395, rfl⟩
abbrev main_cst_76 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_v307 : Ref sig .tc := ⟨.hbm, 403, rfl⟩
abbrev main_v308 : Ref sig .tc := ⟨.hbm, 404, rfl⟩
abbrev main_v309 : Ref sig .tc := ⟨.hbm, 405, rfl⟩
abbrev main_v310 : Ref sig .tc := ⟨.hbm, 406, rfl⟩
abbrev main_v311 : Ref sig .tc := ⟨.hbm, 407, rfl⟩
abbrev main_v312 : Ref sig .tc := ⟨.hbm, 408, rfl⟩
abbrev main_v313 : Ref sig .tc := ⟨.hbm, 409, rfl⟩
abbrev main_v314 : Ref sig .tc := ⟨.hbm, 410, rfl⟩
abbrev main_v315 : Ref sig .tc := ⟨.hbm, 411, rfl⟩
abbrev main_cst_77 : Ref sig .tc := ⟨.hbm, 412, rfl⟩
abbrev main_v316 : Ref sig .tc := ⟨.hbm, 413, rfl⟩
abbrev main_call7_v0 : Ref sig .tc := ⟨.hbm, 414, rfl⟩
abbrev main_call7_v1 : Ref sig .tc := ⟨.hbm, 415, rfl⟩
abbrev main_call7_cst : Ref sig .tc := ⟨.hbm, 416, rfl⟩
abbrev main_call7_v2 : Ref sig .tc := ⟨.hbm, 417, rfl⟩
abbrev main_call7_v3 : Ref sig .tc := ⟨.hbm, 418, rfl⟩
abbrev main_call7_cst_0 : Ref sig .tc := ⟨.hbm, 419, rfl⟩
abbrev main_call7_v4 : Ref sig .tc := ⟨.hbm, 420, rfl⟩
abbrev main_call7_v5 : Ref sig .tc := ⟨.hbm, 421, rfl⟩
abbrev main_v317 : Ref sig .tc := ⟨.hbm, 422, rfl⟩
abbrev main_v318 : Ref sig .tc := ⟨.hbm, 423, rfl⟩
abbrev main_v319 : Ref sig .tc := ⟨.hbm, 424, rfl⟩
abbrev main_v320 : Ref sig .tc := ⟨.hbm, 425, rfl⟩
abbrev main_cst_78 : Ref sig .tc := ⟨.hbm, 426, rfl⟩
abbrev main_v321 : Ref sig .tc := ⟨.hbm, 427, rfl⟩
abbrev main_cst_79 : Ref sig .tc := ⟨.hbm, 428, rfl⟩
abbrev main_v322 : Ref sig .tc := ⟨.hbm, 429, rfl⟩
abbrev main_v323 : Ref sig .tc := ⟨.hbm, 430, rfl⟩
abbrev main_cst_80 : Ref sig .tc := ⟨.hbm, 431, rfl⟩
abbrev main_v324 : Ref sig .tc := ⟨.hbm, 432, rfl⟩
abbrev main_v325 : Ref sig .tc := ⟨.hbm, 433, rfl⟩
abbrev main_cst_81 : Ref sig .tc := ⟨.hbm, 434, rfl⟩
abbrev main_call8_v0 : Ref sig .tc := ⟨.hbm, 435, rfl⟩
abbrev main_call8_v1 : Ref sig .tc := ⟨.hbm, 436, rfl⟩
abbrev main_v326 : Ref sig .tc := ⟨.hbm, 437, rfl⟩
abbrev main_v327 : Ref sig .tc := ⟨.hbm, 438, rfl⟩
abbrev main_v328 : Ref sig .tc := ⟨.hbm, 439, rfl⟩
abbrev main_v329 : Ref sig .tc := ⟨.hbm, 440, rfl⟩
abbrev main_v330 : Ref sig .tc := ⟨.hbm, 441, rfl⟩
abbrev main_c_82 : Ref sig .tc := ⟨.hbm, 442, rfl⟩
abbrev main_c_83 : Ref sig .tc := ⟨.hbm, 443, rfl⟩
abbrev main_call10_v0 : Ref sig .tc := ⟨.hbm, 444, rfl⟩
abbrev main_call10_v1 : Ref sig .tc := ⟨.hbm, 445, rfl⟩
abbrev main_call10_v2 : Ref sig .tc := ⟨.hbm, 446, rfl⟩
abbrev main_call10_v3 : Ref sig .tc := ⟨.hbm, 447, rfl⟩
abbrev main_call10_v4 : Ref sig .tc := ⟨.hbm, 448, rfl⟩
abbrev main_v331 : Ref sig .tc := ⟨.hbm, 449, rfl⟩
abbrev main_v332 : Ref sig .tc := ⟨.hbm, 450, rfl⟩
abbrev main_v333 : Ref sig .tc := ⟨.hbm, 451, rfl⟩
abbrev main_v334 : Ref sig .tc := ⟨.hbm, 452, rfl⟩

abbrev nD : Nat := 1
abbrev τ : Topo := Topo.v7x

variable {F : FTy → Type} [FloatOps F]
-- ==== Proof.Kern.lean ====
/-
  The value of one product of the kernel, taken apart: `blk` is what the body adds for one 256-wide block of the
  contraction and `acc0` is what it starts from (the correction by the minima), as functions of the loads. The loads
  of the body are named here once, by block, so that the two cases of the run share one form.
-/
module

public import proofs.«01_k».proof.Proof.Gen.KernelIdeal.Skeleton
public import Idealize.ShloMosaic.Lib.Pipeline.Value

@[expose] public section

noncomputable section

namespace Cert.Q4k

open Cert.KernelIdeal Cert.KernelIdeal.Gen Idealize.ShloMosaic Idealize.ShloMosaic.TcCoe

variable {F : FTy → Type} [FloatOps F]

/-! ## The rectangles the body loads, by block -/

theorem inbW (b : Fin 20) : ∀ a, (![b.val, 0, 0] : Fin 3 → Nat) a + S1x512x128.size a ≤ S20x512x128.size a := by
  revert b; decide
theorem inbP (p : Fin 2) (c : Fin 4) (b : Fin 20) :
    ∀ a, (![p.val, c.val, b.val, 0] : Fin 4 → Nat) a + S1x1x1x512.size a ≤ S2x4x20x512.size a := by
  revert p c b; decide
theorem inbA (b : Fin 20) : ∀ a, (![b.val, 0, 0] : Fin 3 → Nat) a + S1x48x512.size a ≤ S20x48x512.size a := by
  revert b; decide
theorem inbS (b : Fin 20) : ∀ a, (![b.val, 0, 0] : Fin 3 → Nat) a + S1x48x128.size a ≤ S20x48x128.size a := by
  revert b; decide
theorem inbD (b : Fin 20) : ∀ a, (![b.val, 0] : Fin 2 → Nat) a + S1x512.size a ≤ S20x512.size a := by
  revert b; decide
theorem inbZ (i : Fin 3) : ∀ a, (![i.val, 0, 0] : Fin 3 → Nat) a + S1x192x512.size a ≤ S3x192x512.size a := by
  revert i; decide
theorem inbX3 : ∀ a, (![0, 0] : Fin 2 → Nat) a + S144x192.size a ≤ S144x256.size a := by decide
theorem inbX2 : ∀ a, (![0, 0] : Fin 2 → Nat) a + S96x192.size a ≤ S144x256.size a := by decide
theorem inbX1 : ∀ a, (![0, 0] : Fin 2 → Nat) a + S48x192.size a ≤ S144x256.size a := by decide
theorem inbC (i : Fin 12) : ∀ a, (![i.val, 0, 0] : Fin 3 → Nat) a + S1x20x512.size a ≤ S12x20x512.size a := by
  revert i; decide

abbrev rW (b : Fin 20) : Rect S20x512x128 := Rect.unit ![b.val, 0, 0] S1x512x128.size (inbW b)
abbrev rP (p : Fin 2) (c : Fin 4) (b : Fin 20) : Rect S2x4x20x512 :=
  Rect.unit ![p.val, c.val, b.val, 0] S1x1x1x512.size (inbP p c b)
abbrev rA (b : Fin 20) : Rect S20x48x512 := Rect.unit ![b.val, 0, 0] S1x48x512.size (inbA b)
abbrev rS (b : Fin 20) : Rect S20x48x128 := Rect.unit ![b.val, 0, 0] S1x48x128.size (inbS b)
abbrev rD (b : Fin 20) : Rect S20x512 := Rect.unit ![b.val, 0] S1x512.size (inbD b)
abbrev rZ (i : Fin 3) : Rect S3x192x512 := Rect.unit ![i.val, 0, 0] S1x192x512.size (inbZ i)
abbrev rX3 : Rect S144x256 := Rect.unit ![0, 0] S144x192.size inbX3
abbrev rX2 : Rect S144x256 := Rect.unit ![0, 0] S96x192.size inbX2
abbrev rX1 : Rect S144x256 := Rect.unit ![0, 0] S48x192.size inbX1
abbrev rC (i : Fin 12) : Rect S12x20x512 := Rect.unit ![i.val, 0, 0] S1x20x512.size (inbC i)

/-- A load of an input's block, or of scratch that an earlier point left. -/
abbrev rdIn {sp : Space} {s : Shape} {e : EltTy} (M : Memref sig .tc sp s e) (h : M.IsWhole) (x : s.Idx → Elt F e)
    (r : Rect s) : r.shape.Idx → Elt F e := View.readAt (Elt F) M.view r.toLoadRect (h.unread x)

theorem rdIn_eq {sp : Space} {s : Shape} {e : EltTy} (M : Memref sig .tc sp s e) (h : M.IsWhole) (x : s.Idx → Elt F e)
    (r : Rect s) : rdIn M h x r = View.ld x r := by
  unfold rdIn; rw [View.readAt_eq_ld, h.read_unread]

/-- A load of scratch that this point wrote. -/
abbrev rdCov {sp : Space} {s : Shape} {e : EltTy} (M : Memref sig .tc sp s e) (L : List (View.Piece (Elt F) s e))
    (r : Rect s) : r.shape.Idx → Elt F e := M.view.readCov L r.toLoadRect

theorem rdCov_eq {sp : Space} {s : Shape} {e : EltTy} (M : Memref sig .tc sp s e) (L : List (View.Piece (Elt F) s e))
    (r : Rect s) : rdCov M L r = View.ld (View.canon L) r := View.readCov_eq_canon' _ _ _

/-! ## One block, and the start -/

/-- What the body makes of the accumulator at one block: of the tile of codes, the eight rows of packed scale halves,
    the quantised row block, its scale and the block's factor `d`. -/
def blk (acc : FVec F S48x512 .f32) (w : Vec F S1x512x128 .i8) (P : Fin 2 → Fin 4 → Vec F S1x1x1x512 .i32)
    (a : Vec F S1x48x512 .bf16) (asb : Vec F S1x48x128 .f32) (df : Vec F S1x512 .f32) : FVec F S48x512 .f32 :=
  k0_pay374 acc (k0_pay365 w) (k0_pay368 (k0_pay366 w) (k0_pay367 (P 0 0))) (k0_pay369 (k0_pay365 w) (P 0 1))
    (k0_pay370 (k0_pay365 w) (P 0 2)) (k0_pay371 (k0_pay365 w) (P 0 3)) (k0_pay372 (k0_pay365 w) (P 1 0))
    (k0_pay373 (k0_pay365 w) (P 1 1)) (P 1 2) (P 1 3) a asb df

/-- The accumulator's start: minus the products of the block sums with the minima. -/
def acc0 (z : Fin 3 → Vec F S1x192x512 .bf16) (x3 : Vec F S144x192 .bf16) (x2 : Vec F S96x192 .bf16)
    (x1 : Vec F S48x192 .bf16) : FVec F S48x512 .f32 :=
  k0_pay364 (k0_pay362 (z 0)) (k0_pay363 (z 1)) (z 2) x3 x2 x1

/-- A product of the kernel, from whole arrays: the tile's codes, the packed scale halves, the scaled minima, the
    factors, the quantised rows, their scales and the three parts of the block sums. -/
def accs (W : Vec F S20x512x128 .i8) (P : Vec F S2x4x20x512 .i32) (Z : Vec F S3x192x512 .bf16) (D : Vec F S20x512 .f32)
    (A : Vec F S20x48x512 .bf16) (S : Vec F S20x48x128 .f32) (X : Vec F S144x256 .bf16) : ℕ → FVec F S48x512 .f32
  | 0 => acc0 (fun i => View.ld Z (rZ i)) (View.ld X rX3) (View.ld X rX2) (View.ld X rX1)
  | k + 1 => if h : k < 20 then
      blk (accs W P Z D A S X k) (View.ld W (rW ⟨k, h⟩)) (fun p c => View.ld P (rP p c ⟨k, h⟩)) (View.ld A (rA ⟨k, h⟩))
        (View.ld S (rS ⟨k, h⟩)) (View.ld D (rD ⟨k, h⟩))
    else accs W P Z D A S X k

theorem accs_succ (W : Vec F S20x512x128 .i8) (P : Vec F S2x4x20x512 .i32) (Z : Vec F S3x192x512 .bf16) (D : Vec F S20x512 .f32)
    (A : Vec F S20x48x512 .bf16) (S : Vec F S20x48x128 .f32) (X : Vec F S144x256 .bf16) (k : Fin 20) :
    accs W P Z D A S X (k.val + 1) =
      blk (accs W P Z D A S X k.val) (View.ld W (rW k)) (fun p c => View.ld P (rP p c k)) (View.ld A (rA k))
        (View.ld S (rS k)) (View.ld D (rD k)) := by
  rw [accs, dif_pos k.isLt]

end Cert.Q4k

end
-- ==== Proof.Quant.lean ====
/-
  What step 0 makes of the row block: the normalised rows, their quantisation by blocks of 256, the permuted codes, the
  scales over the lanes, and the sums of codes over the sub-blocks times the scales, split in three bfloat16 parts.
-/
module

public import proofs.«01_k».proof.Proof.Kern

@[expose] public section

noncomputable section

namespace Cert.Q4k

open Cert.KernelIdeal Cert.KernelIdeal.Gen Idealize.ShloMosaic Idealize.ShloMosaic.TcCoe

variable {F : FTy → Type} [FloatOps F]

theorem inbH (b : Fin 20) : ∀ a, (![0, 256 * b.val] : Fin 2 → Nat) a + S48x256.size a ≤ S48x5120.size a := by
  revert b; decide
theorem inbG (b : Fin 20) : ∀ a, (![0, 256 * b.val] : Fin 2 → Nat) a + S1x256.size a ≤ S1x5120.size a := by
  revert b; decide
theorem inbA2 (b : Fin 20) (o : Fin 2) :
    ∀ a, (![b.val, 0, 256 * o.val] : Fin 3 → Nat) a + S1x48x256.size a ≤ S20x48x512.size a := by
  revert b o; decide
theorem inbX (o : Fin 3) : ∀ a, (![48 * o.val, 0] : Fin 2 → Nat) a + S48x256.size a ≤ S144x256.size a := by
  revert o; decide

abbrev rH (b : Fin 20) : Rect S48x5120 := Rect.unit ![0, 256 * b.val] S48x256.size (inbH b)
abbrev rG (b : Fin 20) : Rect S1x5120 := Rect.unit ![0, 256 * b.val] S1x256.size (inbG b)
abbrev rHH : Rect S48x5120 := Rect.unit ![0, 0] S48x5120.size inb_S48x5120_S48x5120_0_0
abbrev rA2 (b : Fin 20) (o : Fin 2) : Rect S20x48x512 := Rect.unit ![b.val, 0, 256 * o.val] S1x48x256.size (inbA2 b o)
abbrev rX (o : Fin 3) : Rect S144x256 := Rect.unit ![48 * o.val, 0] S48x256.size (inbX o)
abbrev rQS : Rect S48x20 := Rect.unit ![0, 0] S48x20.size inb_S48x20_S48x20_0_0

/-- The matrix that sums a block's codes over its sub-blocks. -/
def sumsV : FVec F S256x256 .bf16 :=
  k0_pay11 (iota .tc S256x256 32 [1] iota_S256x256_d1_w32) k0_pay8 k0_pay9 k0_pay10 128#32

/-- The permuted codes of a block, as bfloat16 numbers. -/
def apV (inv : FVec F S48x1 .f32) (h : Vec F S48x256 .f32) (g : Vec F S1x256 .f32) : FVec F S48x256 .f32 :=
  k0_pay256 inv k0_pay6 h g

/-- The sums of a block's codes, times the scale. -/
def sV (inv : FVec F S48x1 .f32) (h : Vec F S48x256 .f32) (g : Vec F S1x256 .f32) : FVec F S48x256 .f32 :=
  mulf (matmul dot_S48x256_S256x256_S48x256_1_0_0_1_n_n none (k0_pay255 inv h g) sumsV
    (constant S48x256 .f32 0x00000000#32)) (broadcastTo S48x256 (k0_pay251 inv h g) broadcasts_S48x1_S48x256)

/-- The permuted codes of the first `n` blocks, as the pieces they are stored by: eight times, and once. -/
def aPieces (inv : FVec F S48x1 .f32) (h : Fin 20 → Vec F S48x256 .f32) (g : Fin 20 → Vec F S1x256 .f32) :
    (n : ℕ) → n ≤ 20 → List (View.Piece (Elt F) S20x48x512 .bf16)
  | 0, _ => []
  | n + 1, hn => ⟨rA2 ⟨n, hn⟩ 1, k0_pay259 (apV inv (h ⟨n, hn⟩) (g ⟨n, hn⟩))⟩
      :: ⟨rA2 ⟨n, hn⟩ 0, k0_pay258 (apV inv (h ⟨n, hn⟩) (g ⟨n, hn⟩)) k0_pay257⟩ :: aPieces inv h g n (by omega)

/-- The scales of the first `n` blocks over the lanes. -/
def sPieces (inv : FVec F S48x1 .f32) (h : Fin 20 → Vec F S48x256 .f32) (g : Fin 20 → Vec F S1x256 .f32) :
    (n : ℕ) → n ≤ 20 → List (View.Piece (Elt F) S20x48x128 .f32)
  | 0, _ => []
  | n + 1, hn => ⟨rS ⟨n, hn⟩, k0_pay260 (k0_pay251 inv (h ⟨n, hn⟩) (g ⟨n, hn⟩))⟩ :: sPieces inv h g n (by omega)

/-- The codes of the first `n` blocks. -/
def qPieces (inv : FVec F S48x1 .f32) (h : Fin 20 → Vec F S48x256 .f32) (g : Fin 20 → Vec F S1x256 .f32) :
    (n : ℕ) → n ≤ 20 → List (View.Piece (Elt F) S48x5120 .i8)
  | 0, _ => []
  | n + 1, hn => ⟨rH ⟨n, hn⟩, k0_pay253 inv (h ⟨n, hn⟩) (g ⟨n, hn⟩)⟩ :: qPieces inv h g n (by omega)

/-- The scales of the first `n` blocks, a lane each. -/
def scanV (inv : FVec F S48x1 .f32) (h : Fin 20 → Vec F S48x256 .f32) (g : Fin 20 → Vec F S1x256 .f32) :
    (n : ℕ) → n ≤ 20 → FVec F S48x128 .f32
  | 0, _ => broadcast S48x128 (Scalar.ofBits .f32 0x00000000#32)
  | n + 1, hn => select (cmpi .eq (iota .tc S48x128 32 [1] iota_S48x128_d1_w32) (broadcast S48x128 (BitVec.ofNat 32 n)))
      (broadcastTo S48x128 (shapeCast S48x1 (k0_pay251 inv (h ⟨n, hn⟩) (g ⟨n, hn⟩)) shapeCasts_S48x1_S48x1)
        broadcasts_S48x1_S48x128) (scanV inv h g n (by omega))

/-- The lanes of sums of the first `n + 1` blocks of the lower sixteen. -/
def loV (inv : FVec F S48x1 .f32) (h : Fin 20 → Vec F S48x256 .f32) (g : Fin 20 → Vec F S1x256 .f32) :
    (n : ℕ) → n < 16 → FVec F S48x128 .f32
  | 0, _ => addf (broadcast S48x128 (Scalar.ofBits .f32 0x00000000#32))
      (extractStridedSlice S48x128 ![0, 0] (sV inv (h 0) (g 0)) slices_S48x256_o0_0_S48x128)
  | n + 1, hn => addf (loV inv h g n (by omega)) (dynamicRotate 1 (BitVec.ofNat 32 (n + 1)) none
      (extractStridedSlice S48x128 ![0, 0] (sV inv (h ⟨n + 1, by omega⟩) (g ⟨n + 1, by omega⟩))
        slices_S48x256_o0_0_S48x128) rotates_S48x128_d1)

/-- The lanes of sums of the first `n + 1` blocks of the upper four. -/
def hiV (inv : FVec F S48x1 .f32) (h : Fin 20 → Vec F S48x256 .f32) (g : Fin 20 → Vec F S1x256 .f32) :
    (n : ℕ) → n < 4 → FVec F S48x128 .f32
  | 0, _ => addf (broadcast S48x128 (Scalar.ofBits .f32 0x00000000#32))
      (extractStridedSlice S48x128 ![0, 128] (sV inv (h 16) (g 16)) slices_S48x256_o0_128_S48x128)
  | n + 1, hn => addf (hiV inv h g n (by omega)) (dynamicRotate 1 (BitVec.ofNat 32 (n + 1)) none
      (extractStridedSlice S48x128 ![0, 128] (sV inv (h ⟨16 + (n + 1), by omega⟩) (g ⟨16 + (n + 1), by omega⟩))
        slices_S48x256_o0_128_S48x128) rotates_S48x128_d1)

def xV (inv : FVec F S48x1 .f32) (h : Fin 20 → Vec F S48x256 .f32) (g : Fin 20 → Vec F S1x256 .f32) :
    FVec F S48x256 .f32 :=
  concatenate S48x256 1 [⟨S48x128, loV inv h g 15 (by omega)⟩, ⟨S48x128, hiV inv h g 3 (by omega)⟩]
    concatenates_S48x128_S48x128_S48x256_d1

/-- The first bfloat16 part, what it leaves, the second, and the third. -/
def p0V (x : FVec F S48x256 .f32) : FVec F S48x256 .bf16 := truncf .bf16 x bitsLt_bf16_f32
def l1V (x : FVec F S48x256 .f32) : FVec F S48x256 .f32 := subf x (extf .f32 (p0V x) bitsLt_bf16_f32)
def p1V (x : FVec F S48x256 .f32) : FVec F S48x256 .bf16 := truncf .bf16 (l1V x) bitsLt_bf16_f32
def p2V (x : FVec F S48x256 .f32) : FVec F S48x256 .bf16 :=
  truncf .bf16 (subf (l1V x) (extf .f32 (p1V x) bitsLt_bf16_f32)) bitsLt_bf16_f32

def xPieces (x : FVec F S48x256 .f32) : List (View.Piece (Elt F) S144x256 .bf16) :=
  [⟨rX 2, shapeCast S48x256 (p2V x) shapeCasts_S48x256_S48x256⟩,
    ⟨rX 1, shapeCast S48x256 (p1V x) shapeCasts_S48x256_S48x256⟩,
    ⟨rX 0, shapeCast S48x256 (p0V x) shapeCasts_S48x256_S48x256⟩]

end Cert.Q4k

end
-- ==== Proof.Codes.lean ====
/-
  Hand-written, untrusted. THE BLOCK QUANTISER OVER THE EXTENDED REALS: the scale of a block from its largest magnitude, and a
  code, `round (v / scale)` clipped to [-127, 127]. A code is always an integer in that range, a scale is positive (it may be
  `⊤`), and where it is `⊤` every code of the block is zero: so a product of a scale with an integer combination of codes
  is the real product with the scale's real part.
-/
module

public import Idealize.ShloMosaic.Lib.Pointwise
public import Mathlib.Tactic.Positivity
public import Mathlib.Tactic.NormNum
public import Mathlib.Tactic.Linarith

@[expose] public section

noncomputable section

namespace Cert.Q4k

open Idealize.ShloMosaic

/-- The scale of a block whose largest magnitude is `a`. -/
def scaleOf (a : EReal) : EReal := if a = 0 then 1 else Ideal.div a 127

/-- The code of `v` in a block of scale `S`. -/
def codeOf (v S : EReal) : EReal := min 127 (max (-127) (Ideal.liftRound Ideal.roundHalfEven (Ideal.div v S)))

/-- The code as an integer. -/
def codeZ (v S : EReal) : ℤ := ⌊(codeOf v S).toReal⌋

theorem c127 : ((127 : ℝ) : EReal) = 127 := rfl

theorem coe_max (a b : ℝ) : ((max a b : ℝ) : EReal) = max (a : EReal) (b : EReal) :=
  (EReal.coe_strictMono.monotone).map_max
theorem coe_min (a b : ℝ) : ((min a b : ℝ) : EReal) = min (a : EReal) (b : EReal) :=
  (EReal.coe_strictMono.monotone).map_min

theorem clip_int (e : EReal) : ∃ z : ℤ, -127 ≤ z ∧ z ≤ 127 ∧
    min 127 (max (-127) (Ideal.liftRound Ideal.roundHalfEven e)) = ((z : ℝ) : EReal) := by
  have h127 : (127 : EReal) = ((127 : ℝ) : EReal) := rfl
  have hm : (-127 : EReal) = ((-127 : ℝ) : EReal) := rfl
  induction e with
  | bot => exact ⟨-127, by norm_num, by norm_num, by
      rw [Ideal.liftRound_bot, hm, h127, max_eq_left bot_le, min_eq_right (by exact_mod_cast (by norm_num : (-127 : ℝ) ≤ 127))]
      norm_num⟩
  | top => exact ⟨127, by norm_num, by norm_num, by
      rw [Ideal.liftRound_top, hm, h127, max_eq_right le_top, min_eq_left le_top]; norm_num⟩
  | coe r =>
    refine ⟨min 127 (max (-127) (Ideal.roundHalfEven r)), by omega, by omega, ?_⟩
    rw [Ideal.liftRound_coe, hm, h127]
    push_cast
    rw [coe_min, coe_max]
    rfl

theorem codeOf_eq (v S : EReal) : codeOf v S = ((codeZ v S : ℝ) : EReal) := by
  obtain ⟨z, _, _, h⟩ := clip_int (Ideal.div v S)
  unfold codeZ codeOf
  rw [h, EReal.toReal_coe, Int.floor_intCast]

theorem codeZ_le (v S : EReal) : codeZ v S ≤ 127 := by
  obtain ⟨z, _, h2, h⟩ := clip_int (Ideal.div v S)
  unfold codeZ codeOf; rw [h, EReal.toReal_coe, Int.floor_intCast]; exact h2

theorem codeZ_ge (v S : EReal) : -127 ≤ codeZ v S := by
  obtain ⟨z, h1, _, h⟩ := clip_int (Ideal.div v S)
  unfold codeZ codeOf; rw [h, EReal.toReal_coe, Int.floor_intCast]; exact h1

/-- A block of infinite scale has codes zero. -/
theorem codeZ_top (v : EReal) : codeZ v ⊤ = 0 := by
  have h : Ideal.div v ⊤ = ((0 : ℝ) : EReal) := by
    unfold Ideal.div; rw [if_neg (by exact EReal.top_ne_zero), EReal.inv_top, mul_zero]; rfl
  have h0 : Ideal.roundHalfEven 0 = 0 := by
    unfold Ideal.roundHalfEven; simp
  have h127 : (127 : EReal) = ((127 : ℝ) : EReal) := rfl
  have hm : (-127 : EReal) = ((-127 : ℝ) : EReal) := rfl
  unfold codeZ codeOf
  rw [h, Ideal.liftRound_coe, h0, hm, h127, ← coe_max, ← coe_min, EReal.toReal_coe]
  norm_num

/-- A scale of a nonnegative magnitude is positive. -/
theorem scaleOf_pos {a : EReal} (ha : 0 ≤ a) : 0 < scaleOf a := by
  unfold scaleOf
  split_ifs with h
  · exact zero_lt_one
  · have hpos : 0 < a := lt_of_le_of_ne ha (Ne.symm h)
    have e : (127 : EReal) = ((127 : ℝ) : EReal) := rfl
    rw [e, Ideal.div_coe (by norm_num) a]
    exact EReal.mul_pos hpos (by exact_mod_cast (by norm_num : (0 : ℝ) < 1 / 127))

/-- A positive scale times an integer that vanishes where the scale is infinite is the real product. -/
theorem scale_mul {S : EReal} (hS : 0 < S) {r : ℝ} (h0 : S = ⊤ → r = 0) : S * (r : EReal) = ((S.toReal * r : ℝ) : EReal) := by
  induction S with
  | bot => exact absurd hS (not_lt_bot)
  | top => rw [h0 rfl, EReal.coe_zero, mul_zero]; simp
  | coe s => rw [EReal.toReal_coe, EReal.coe_mul]

/-- A finite sum of real terms is real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The code's byte, read back as a signed integer. -/
theorem fptosi_coe (z : ℤ) (h1 : -2147483648 ≤ z) (h2 : z ≤ 2147483647) : Ideal.fptosi 32 ((z : ℝ) : EReal) = BitVec.ofInt 32 z := by
  have e : Ideal.toIntClamped (-(2 ^ (32 - 1) : Nat)) ((2 ^ (32 - 1) : Nat) - 1) ((z : ℝ) : EReal)
      = max (-((2 ^ (32 - 1) : Nat) : ℤ)) (min (((2 ^ (32 - 1) : Nat) : ℤ) - 1) (if (0 : ℝ) ≤ (z : ℝ) then ⌊(z : ℝ)⌋ else ⌈(z : ℝ)⌉)) := rfl
  unfold Ideal.fptosi
  rw [e, Int.floor_intCast, Int.ceil_intCast, ite_self]
  congr 1
  norm_num
  omega

theorem code_byte (z : ℤ) (h1 : -127 ≤ z) (h2 : z ≤ 127) :
    (((BitVec.ofInt 32 z).setWidth 8).signExtend 32).toInt = z := by
  have : ∀ k : Fin 255, (((BitVec.ofInt 32 ((k.val : ℤ) - 127)).setWidth 8).signExtend 32).toInt = (k.val : ℤ) - 127 := by
    decide +kernel
  have := this ⟨(z + 127).toNat, by omega⟩
  have e : (((⟨(z + 127).toNat, by omega⟩ : Fin 255).val : ℤ) - 127) = z := by simp; omega
  rwa [e] at this

end Cert.Q4k

end
-- ==== Proof.Bits.lean ====
/-
  The fields of the packed weights as numbers: the two nibbles of a byte of codes, the eight scales and the eight minima
  of a block, a half float's value; and what the kernel's and the reference's words of each of them are.
-/
module

public import Idealize.ShloMosaic.Lib.Pointwise
public import Idealize.ShloMosaic.Lib.Decide
public import Mathlib.Tactic.Positivity
public import Mathlib.Tactic.NormNum
public import Mathlib.Tactic.Linarith

@[expose] public section

noncomputable section

namespace Cert.Q4k

open Idealize.ShloMosaic

/-! ## Nibbles -/

/-- Nibble `h` of a byte. -/
def nib (x : BitVec 8) (h : Fin 2) : ℕ := if h = 0 then x.toNat % 16 else x.toNat / 16

theorem nib_lt (x : BitVec 8) (h : Fin 2) : nib x h < 16 := by
  have := x.isLt
  unfold nib; split <;> omega

/-- The kernel's word of a byte: the low nibble in the low half, the high nibble in the high half. -/
def nibWord (x : BitVec 8) : BitVec 32 :=
  (x.setWidth 32 &&& 15#32) ||| (((x.setWidth 32).sshiftRight 4) <<< 16)

theorem forall_byte {P : BitVec 8 → Prop} (h : ∀ i : Fin 256, P (BitVec.ofFin i)) (x : BitVec 8) : P x := h x.toFin

theorem nibWord_half (x : BitVec 8) (h : Fin 2) :
    ((nibWord x).extractLsb' (16 * h.val) 16).toInt = (nib x h : ℤ) := by
  revert h
  refine forall_byte (P := fun x => ∀ h : Fin 2, ((nibWord x).extractLsb' (16 * h.val) 16).toInt = (nib x h : ℤ)) ?_ x
  decide +kernel

/-! ## Scales and minima -/

/-- Scale `j` of the block packed in the twelve bytes `s`. -/
def scN (s : Fin 12 → BitVec 8) (j : Fin 8) : ℕ :=
  if h : j.val < 4 then (s ⟨j.val, by omega⟩).toNat % 64
  else (s ⟨j.val + 4, by omega⟩).toNat % 16 + 16 * ((s ⟨j.val - 4, by omega⟩).toNat / 64)

/-- Minimum `j` of the block packed in the twelve bytes `s`. -/
def mnN (s : Fin 12 → BitVec 8) (j : Fin 8) : ℕ :=
  if h : j.val < 4 then (s ⟨4 + j.val, by omega⟩).toNat % 64
  else (s ⟨j.val + 4, by omega⟩).toNat / 16 + 16 * ((s ⟨j.val, by omega⟩).toNat / 64)

theorem scN_lt (s : Fin 12 → BitVec 8) (j : Fin 8) : scN s j < 64 := by
  unfold scN; split
  · omega
  · have := (s ⟨j.val - 4, by omega⟩).isLt; omega

theorem mnN_lt (s : Fin 12 → BitVec 8) (j : Fin 8) : mnN s j < 64 := by
  unfold mnN; split
  · omega
  · have := (s ⟨j.val, by omega⟩).isLt; have := (s ⟨j.val + 4, by omega⟩).isLt; omega

theorem and63 (x : BitVec 8) : (x.setWidth 32 &&& 63#32) = BitVec.ofNat 32 (x.toNat % 64) :=
  forall_byte (P := fun x => (x.setWidth 32 &&& 63#32) = BitVec.ofNat 32 (x.toNat % 64)) (by decide +kernel) x

theorem and15 (x : BitVec 8) : (x.setWidth 32 &&& 15#32) = BitVec.ofNat 32 (x.toNat % 16) :=
  forall_byte (P := fun x => (x.setWidth 32 &&& 15#32) = BitVec.ofNat 32 (x.toNat % 16)) (by decide +kernel) x

theorem shr4 (x : BitVec 8) : (x.setWidth 32).sshiftRight 4 = BitVec.ofNat 32 (x.toNat / 16) :=
  forall_byte (P := fun x => (x.setWidth 32).sshiftRight 4 = BitVec.ofNat 32 (x.toNat / 16)) (by decide +kernel) x

theorem shr6 (x : BitVec 8) : ((x.setWidth 32).sshiftRight 6) <<< 4 = BitVec.ofNat 32 (16 * (x.toNat / 64)) :=
  forall_byte (P := fun x => ((x.setWidth 32).sshiftRight 6) <<< 4 = BitVec.ofNat 32 (16 * (x.toNat / 64)))
    (by decide +kernel) x

theorem or_fields : ∀ (a : Fin 16) (b : Fin 4),
    BitVec.ofNat 32 a.val ||| BitVec.ofNat 32 (16 * b.val) = BitVec.ofNat 32 (a.val + 16 * b.val) := by decide +kernel

theorem or_low (x y : BitVec 8) :
    (x.setWidth 32 &&& 15#32) ||| (((y.setWidth 32).sshiftRight 6) <<< 4)
      = BitVec.ofNat 32 (x.toNat % 16 + 16 * (y.toNat / 64)) := by
  rw [and15, shr6]
  exact or_fields ⟨x.toNat % 16, by omega⟩ ⟨y.toNat / 64, by have := y.isLt; omega⟩

theorem or_high (x y : BitVec 8) :
    ((x.setWidth 32).sshiftRight 4) ||| (((y.setWidth 32).sshiftRight 6) <<< 4)
      = BitVec.ofNat 32 (x.toNat / 16 + 16 * (y.toNat / 64)) := by
  rw [shr4, shr6]
  exact or_fields ⟨x.toNat / 16, by have := x.isLt; omega⟩ ⟨y.toNat / 64, by have := y.isLt; omega⟩

/-! ## The packed halves of the scales -/

/-- The kernel's formula for the bits of a small natural number as a float. -/
def f32b (v : BitVec 32) : BitVec 32 :=
  if v.slt 2#32 then v * 1065353216#32
  else if v.slt 4#32 then 1065353216#32 + v <<< 22 else 1073741824#32 + v <<< 21

/-- The kernel's word of two numbers: their bfloat16 patterns, `lo` in the low half. -/
def pairW (lo hi : BitVec 32) : BitVec 32 := (f32b lo) >>> 16 ||| ((f32b hi) >>> 16) <<< 16

/-- Piece `p` of a scale: its upper three bits, or its lower three. -/
def pc (p : Fin 2) (v : ℕ) : ℕ := if p = 0 then v / 8 else v % 8

theorem pc_lt (p : Fin 2) {v : ℕ} (h : v < 64) : pc p v < 8 := by
  unfold pc; split <;> omega

theorem pieces_eq : ∀ v : Fin 64, (BitVec.ofNat 32 v.val).sshiftRight 3 = BitVec.ofNat 32 (v.val / 8)
    ∧ (BitVec.ofNat 32 v.val) &&& 7#32 = BitVec.ofNat 32 (v.val % 8) := by decide +kernel

theorem pairW_half : ∀ (lo hi : Fin 8) (h : Fin 2),
    (pairW (BitVec.ofNat 32 lo.val) (BitVec.ofNat 32 hi.val)).extractLsb' (16 * h.val) 16
      = (f32b (BitVec.ofNat 32 (if h = 0 then lo.val else hi.val))).extractLsb' 16 16 := by decide +kernel

theorem bf16_small (v : Fin 8) :
    Ideal.ofBits .bf16 ((f32b (BitVec.ofNat 32 v.val)).extractLsb' 16 16) = ((v.val : ℝ) : EReal) := by
  have e : ∀ v : Fin 8, (f32b (BitVec.ofNat 32 v.val)).extractLsb' 16 16
      = (![0#16, 16256#16, 16384#16, 16448#16, 16512#16, 16544#16, 16576#16, 16608#16] : Fin 8 → BitVec 16) v := by
    decide +kernel
  rw [e]
  fin_cases v <;> simp [Ideal.ofBits, Ideal.ieee] <;> norm_num <;> rw [← EReal.coe_mul] <;> norm_num

theorem pairW_value (lo hi : ℕ) (hl : lo < 8) (hh : hi < 8) (h : Fin 2) :
    Ideal.ofBits .bf16 ((pairW (BitVec.ofNat 32 lo) (BitVec.ofNat 32 hi)).extractLsb' (16 * h.val) 16)
      = (((if h = 0 then lo else hi : ℕ) : ℝ) : EReal) := by
  rw [pairW_half ⟨lo, hl⟩ ⟨hi, hh⟩ h]
  exact bf16_small ⟨if h = 0 then lo else hi, by split <;> assumption⟩

/-! ## Half floats -/

/-- The single float of a half float's bits in the normal range, scaled to its exponent. -/
def f16Bits (x : BitVec 16) : BitVec 32 := ((x.signExtend 32) &&& 32767#32) <<< 13

/-- The kernel's value of a half float's bits. -/
def f16K (x : BitVec 16) : EReal :=
  if ((x.signExtend 32) &&& 32767#32).slt 1024#32 then
    Ideal.ofBits .f32 (f16Bits x + 947912704#32) - Ideal.ofBits .f32 0x38800000#32
  else Ideal.ofBits .f32 (f16Bits x + 939524096#32)

end Cert.Q4k

end
-- ==== Proof.Half.lean ====
/-
  A half float's value from its bits: what the kernel computes from them and what the reference computes from them is
  the same real number.
-/
module

public import proofs.«01_k».proof.Proof.Bits
public import Mathlib.Tactic.FieldSimp
public import Mathlib.Tactic.Ring

@[expose] public section

noncomputable section

namespace Cert.Q4k

open Idealize.ShloMosaic

/-- The value of a half float's bits, its sign dropped and its largest exponent a binade like the others. -/
def f16V (x : BitVec 16) : ℝ :=
  if x.toNat % 32768 < 1024 then (x.toNat % 32768 : ℕ) * (2 : ℝ) ^ (-24 : ℤ)
  else (1024 + x.toNat % 32768 % 1024 : ℕ) * (2 : ℝ) ^ ((x.toNat % 32768 / 1024 : ℕ) - 25 : ℤ)

/-- A normal single float from its exponent and fraction. -/
theorem f32_normal (E f : ℕ) (h0 : 0 < E) (h1 : E < 255) (hf : f < 8388608) :
    Ideal.ofBits .f32 (BitVec.ofNat 32 (E * 8388608 + f)) = (((8388608 + f : ℕ) * (2 : ℝ) ^ ((E : ℤ) - 150) : ℝ) : EReal) := by
  have hlt : E * 8388608 + f < 2 ^ 32 := by omega
  have hx : ((BitVec.ofNat 32 (E * 8388608 + f)).extractLsb' 23 8).toNat = E := by
    rw [BitVec.extractLsb'_toNat, BitVec.toNat_ofNat, Nat.mod_eq_of_lt hlt, Nat.shiftRight_eq_div_pow]; omega
  have hfr : ((BitVec.ofNat 32 (E * 8388608 + f)).extractLsb' 0 23).toNat = f := by
    rw [BitVec.extractLsb'_toNat, BitVec.toNat_ofNat, Nat.mod_eq_of_lt hlt, Nat.shiftRight_eq_div_pow]; omega
  have hs : ((BitVec.ofNat 32 (E * 8388608 + f)).extractLsb' (8 + 23) 1 == 1#1) = false := by
    rw [beq_eq_false_iff_ne]
    intro h
    have := congrArg BitVec.toNat h
    rw [BitVec.extractLsb'_toNat, BitVec.toNat_ofNat, Nat.mod_eq_of_lt hlt, Nat.shiftRight_eq_div_pow] at this
    simp at this
    omega
  show Ideal.ieee 8 23 (BitVec.ofNat 32 (E * 8388608 + f)) = _
  unfold Ideal.ieee
  simp only [hx, hfr, hs]
  rw [if_neg (by omega), if_neg (by omega)]
  congr 1
  have e : (E : ℤ) - (2 ^ (8 - 1) - 1) - (23 : ℕ) = (E : ℤ) - 150 := by norm_num; ring
  rw [e]
  norm_num

theorem signExtend_and (x : BitVec 16) : x.signExtend 32 &&& 65535#32 = x.setWidth 32 := by
  apply BitVec.eq_of_getLsbD_eq
  intro i hi
  have h : (65535#32).getLsbD i = decide (i < 16) := by
    revert i; decide
  rw [BitVec.getLsbD_and, h, BitVec.getLsbD_signExtend, BitVec.getLsbD_setWidth]
  by_cases hi' : i < 16
  · simp [hi', hi]
  · simp [hi', BitVec.getLsbD_of_ge x i (by omega)]

theorem and_low (x : BitVec 16) : x.setWidth 32 &&& 32767#32 = BitVec.ofNat 32 (x.toNat % 32768) := by
  apply BitVec.eq_of_toNat_eq
  have hx := x.isLt
  rw [BitVec.toNat_and, BitVec.toNat_setWidth, BitVec.toNat_ofNat, BitVec.toNat_ofNat, Nat.mod_eq_of_lt (by omega : x.toNat < 2 ^ 32)]
  have := Nat.and_two_pow_sub_one_eq_mod x.toNat 15
  norm_num at this ⊢
  omega

theorem signExtend_low (x : BitVec 16) : x.signExtend 32 &&& 32767#32 = BitVec.ofNat 32 (x.toNat % 32768) := by
  rw [← and_low, ← signExtend_and, BitVec.and_assoc]
  rfl

theorem shl13 (n k : ℕ) (hn : n < 32768) (hk : k < 2 ^ 30) :
    (BitVec.ofNat 32 n) <<< 13 + BitVec.ofNat 32 k = BitVec.ofNat 32 (n * 8192 + k) := by
  apply BitVec.eq_of_toNat_eq
  rw [BitVec.toNat_add, BitVec.toNat_shiftLeft, BitVec.toNat_ofNat, BitVec.toNat_ofNat, BitVec.toNat_ofNat, Nat.shiftLeft_eq]
  norm_num at hk ⊢

theorem slt1024 (n : ℕ) (hn : n < 32768) : (BitVec.ofNat 32 n).slt 1024#32 = decide (n < 1024) := by
  unfold BitVec.slt
  have e : (BitVec.ofNat 32 n).toInt = (n : ℤ) := by
    rw [BitVec.toInt_eq_toNat_of_lt (by rw [BitVec.toNat_ofNat]; omega), BitVec.toNat_ofNat]; congr 1; omega
  rw [e]
  have : (1024#32 : BitVec 32).toInt = 1024 := by decide
  rw [this]
  congr 1; simp

/-- The normal binade of the pattern `n`, as both programs read it. -/
theorem normal_value (n : ℕ) (hn : n < 32768) :
    Ideal.ofBits .f32 (BitVec.ofNat 32 (n * 8192 + 939524096))
      = (((1024 + n % 1024 : ℕ) * (2 : ℝ) ^ ((n / 1024 : ℕ) - 25 : ℤ) : ℝ) : EReal) := by
  have e : n * 8192 + 939524096 = (n / 1024 + 112) * 8388608 + (n % 1024) * 8192 := by omega
  rw [e, f32_normal _ _ (by omega) (by omega) (by omega)]
  congr 1
  have e2 : ((n / 1024 + 112 : ℕ) : ℤ) - 150 = ((n / 1024 : ℕ) - 25 : ℤ) + (-13) := by push_cast; ring
  have e3 : (8388608 + n % 1024 * 8192 : ℕ) = (1024 + n % 1024) * 8192 := by omega
  rw [e2, e3, zpow_add₀ (by norm_num)]
  push_cast
  have : (2 : ℝ) ^ (-13 : ℤ) = 1 / 8192 := by norm_num
  rw [this]; ring

theorem small_const : Ideal.ofBits .f32 (BitVec.ofNat 32 947912704) = (((2 : ℝ) ^ (-14 : ℤ) : ℝ) : EReal) := by
  have e : 947912704 = 113 * 8388608 + 0 := by norm_num
  rw [e, f32_normal _ _ (by omega) (by omega) (by omega)]
  congr 1
  norm_num

theorem tiny_const : Ideal.ofBits .f32 (BitVec.ofNat 32 864026624) = (((2 : ℝ) ^ (-24 : ℤ) : ℝ) : EReal) := by
  have e : 864026624 = 103 * 8388608 + 0 := by norm_num
  rw [e, f32_normal _ _ (by omega) (by omega) (by omega)]
  congr 1
  norm_num

/-- The kernel's value. -/
theorem f16K_eq (x : BitVec 16) : f16K x = ((f16V x : ℝ) : EReal) := by
  have hn : x.toNat % 32768 < 32768 := Nat.mod_lt _ (by norm_num)
  unfold f16K f16V f16Bits
  rw [signExtend_low, slt1024 _ hn]
  generalize x.toNat % 32768 = n at hn
  by_cases h : n < 1024
  · rw [if_pos (by simpa using h), if_pos h, shl13 _ _ hn (by norm_num)]
    have e : n * 8192 + 947912704 = 113 * 8388608 + n * 8192 := by omega
    rw [e, f32_normal _ _ (by omega) (by omega) (by omega), small_const, ← EReal.coe_sub]
    congr 1
    push_cast
    have e1 : (2 : ℝ) ^ (((113 : ℕ) : ℤ) - 150) = 1 / 137438953472 := by norm_num
    have e2 : (2 : ℝ) ^ (-14 : ℤ) = 1 / 16384 := by norm_num
    have e3 : (2 : ℝ) ^ (-24 : ℤ) = 1 / 16777216 := by norm_num
    push_cast at e1
    rw [e1, e2, e3]; ring
  · rw [if_neg (by simpa using h), if_neg h, shl13 _ _ hn (by norm_num)]
    exact normal_value n hn

/-- The reference's value: the fraction times `2^-24` at exponent zero, the normal binade otherwise. -/
def f16R (x : BitVec 16) : EReal :=
  if (((x.signExtend 32 &&& 65535#32).sshiftRight 10) &&& 31#32) == 0#32 then
    ((((x.signExtend 32 &&& 65535#32) &&& 1023#32).toInt : ℝ) : EReal) * Ideal.ofBits .f32 (BitVec.ofNat 32 864026624)
  else Ideal.ofBits .f32 ((((x.signExtend 32 &&& 65535#32) &&& 32767#32) <<< 13) + 939524096#32)

theorem f16R_eq (x : BitVec 16) : f16R x = ((f16V x : ℝ) : EReal) := by
  have hx := x.isLt
  have hn : x.toNat % 32768 < 32768 := Nat.mod_lt _ (by norm_num)
  have hm : (x.setWidth 32).msb = false := by
    rw [BitVec.msb_eq_false_iff_two_mul_lt, BitVec.toNat_setWidth]; omega
  have he : (((x.setWidth 32).sshiftRight 10) &&& 31#32).toNat = x.toNat % 32768 / 1024 := by
    rw [BitVec.sshiftRight_eq_of_msb_false hm, BitVec.toNat_and, BitVec.toNat_ushiftRight, BitVec.toNat_setWidth,
      Nat.mod_eq_of_lt (by omega : x.toNat < 2 ^ 32), Nat.shiftRight_eq_div_pow]
    have := Nat.and_two_pow_sub_one_eq_mod (x.toNat / 2 ^ 10) 5
    norm_num at this ⊢
    omega
  have hf : ((x.setWidth 32) &&& 1023#32).toInt = ((x.toNat % 1024 : ℕ) : ℤ) := by
    have e : ((x.setWidth 32) &&& 1023#32).toNat = x.toNat % 1024 := by
      rw [BitVec.toNat_and, BitVec.toNat_setWidth, Nat.mod_eq_of_lt (by omega : x.toNat < 2 ^ 32)]
      have := Nat.and_two_pow_sub_one_eq_mod x.toNat 10
      norm_num at this ⊢
      omega
    rw [BitVec.toInt_eq_toNat_of_lt (by omega), e]
  unfold f16R f16V
  rw [signExtend_and, and_low, hf]
  by_cases h : x.toNat % 32768 < 1024
  · have h0 : (((x.setWidth 32).sshiftRight 10) &&& 31#32) = 0#32 := by
      apply BitVec.eq_of_toNat_eq; rw [he]; simp; omega
    rw [h0, if_pos (by simp), if_pos h, tiny_const, ← EReal.coe_mul]
    congr 2
    have : x.toNat % 1024 = x.toNat % 32768 := by omega
    rw [this]; exact Int.cast_natCast _
  · have h0 : (((x.setWidth 32).sshiftRight 10) &&& 31#32) ≠ 0#32 := by
      intro e
      have := congrArg BitVec.toNat e
      rw [he] at this
      simp at this
      omega
    rw [if_neg (by simpa using h0), if_neg h, shl13 _ _ hn (by norm_num)]
    exact normal_value _ hn

end Cert.Q4k

end
-- ==== Proof.Spec.lean ====
/-
  What both programs compute, in plain words: the normalised row, its quantisation by blocks of 256, the product of a
  quantised row with one packed row of weights, and the gated activation.
-/
module

public import proofs.«01_k».proof.Proof.Codes
public import proofs.«01_k».proof.Proof.Half

@[expose] public section

noncomputable section

namespace Cert.Q4k

open Idealize.ShloMosaic

/-! ## The quantiser -/

/-- The largest magnitude of a block. -/
def amax (v : Fin 256 → EReal) : EReal :=
  Finset.univ.fold max (Ideal.ofBits .f32 4286578688#32) fun x => max (v x) (-(v x))

theorem amax_nonneg (v : Fin 256 → EReal) : 0 ≤ amax v := by
  unfold amax
  rw [Finset.le_fold_max]
  refine Or.inr ⟨0, Finset.mem_univ _, ?_⟩
  rcases le_total 0 (v 0) with h | h
  · exact le_max_of_le_left h
  · exact le_max_of_le_right (by rw [EReal.neg_nonneg]; exact h)

/-- The scale of a block. -/
def qS (v : Fin 256 → EReal) : EReal := scaleOf (amax v)

theorem qS_pos (v : Fin 256 → EReal) : 0 < qS v := scaleOf_pos (amax_nonneg v)

/-- A code as a byte. -/
def codeB (v S : EReal) : BitVec 8 := BitVec.setWidth 8 (Ideal.fptosi 32 (codeOf v S))

theorem codeB_eq (v S : EReal) : codeB v S = BitVec.setWidth 8 (BitVec.ofInt 32 (codeZ v S)) := by
  have h1 := codeZ_ge v S
  have h2 := codeZ_le v S
  unfold codeB
  rw [codeOf_eq, fptosi_coe _ (by omega) (by omega)]

theorem codeB_toInt (v S : EReal) : (BitVec.signExtend 32 (codeB v S)).toInt = codeZ v S := by
  rw [codeB_eq]
  exact code_byte _ (codeZ_ge v S) (codeZ_le v S)

/-! ## The normalised rows -/

/-- A row's element, normalised by the row's root mean square, times the gain. -/
def rowN (h : Fin 48 → Fin 5120 → EReal) (gain : Fin 5120 → EReal) (t : Fin 48) (k : Fin 5120) : EReal :=
  Ideal.div (h t k) (Ideal.sqrt (Ideal.div (∑ x, h t x * h t x) (Ideal.ofBits .f32 1168113664#32)
    + Ideal.ofBits .f32 925353388#32)) * gain k

/-- Element `x` of block `b`. -/
def at256 {N : ℕ} (b : Fin N) (x : Fin 256) : Fin (N * 256) := ⟨b.val * 256 + x.val, by
  have := b.isLt; have := x.isLt; nlinarith⟩

def xS (h : Fin 48 → Fin 5120 → EReal) (gain : Fin 5120 → EReal) (t : Fin 48) (b : Fin 20) : EReal :=
  qS fun x => rowN h gain t (at256 b x)

def xQ (h : Fin 48 → Fin 5120 → EReal) (gain : Fin 5120 → EReal) (t : Fin 48) (b : Fin 20) (x : Fin 256) : ℤ :=
  codeZ (rowN h gain t (at256 b x)) (xS h gain t b)

/-! ## The product -/

/-- The integer product of a block of codes with the block's weights, scaled by their integer scales. -/
def sI (q : Fin 256 → ℤ) (w : Fin 128 → BitVec 8) (s : Fin 12 → BitVec 8) : ℤ :=
  ∑ h : Fin 2, ∑ c : Fin 4, ∑ l : Fin 32, q ⟨64 * c.val + 32 * h.val + l.val, by omega⟩
    * ((scN s ⟨2 * c.val + h.val, by omega⟩ * nib (w ⟨32 * c.val + l.val, by omega⟩) h : ℕ) : ℤ)

/-- The block's sums of codes times the block's integer minima. -/
def mI (q : Fin 256 → ℤ) (s : Fin 12 → BitVec 8) : ℤ :=
  ∑ j : Fin 8, (∑ l : Fin 32, q ⟨32 * j.val + l.val, by omega⟩) * (mnN s j : ℤ)

/-- One block's share of a product. -/
def term (S : EReal) (q : Fin 256 → ℤ) (w : Fin 128 → BitVec 8) (s : Fin 12 → BitVec 8) (d dm : BitVec 16) : EReal :=
  S * (((f16V d : ℝ) : EReal) * ((sI q w s : ℝ) : EReal) - ((f16V dm : ℝ) : EReal) * ((mI q s : ℝ) : EReal))

/-- The product of a quantised row with a packed row of weights. -/
def prodV (S : Fin 20 → EReal) (q : Fin 20 → Fin 256 → ℤ) (w : Fin 20 → Fin 128 → BitVec 8) (s : Fin 20 → Fin 12 → BitVec 8)
    (d dm : Fin 20 → BitVec 16) : EReal :=
  ∑ b, term (S b) (q b) (w b) (s b) (d b) (dm b)

/-- The gated activation. -/
def actV (g u : EReal) : EReal := g * Ideal.div 1 (1 + Ideal.exp (-g)) * u

/-- The scale `127`. -/
theorem c127_bits : Ideal.ofBits .f32 1123942400#32 = 127 := by
  have e : (1123942400#32 : BitVec 32) = BitVec.ofNat 32 (133 * 8388608 + 8257536) := rfl
  rw [e, f32_normal _ _ (by omega) (by omega) (by omega)]
  have : ((127 : ℝ) : EReal) = 127 := rfl
  rw [← this]
  congr 1
  norm_num

end Cert.Q4k

end
-- ==== Proof.QBlk.lean ====
/-
  One block of the quantiser at `Ideal`: its scale, its codes, the permuted codes, and the sums of codes over the
  sub-blocks of 32 times the scale.
-/
module

public import proofs.«01_k».proof.Proof.Quant
public import proofs.«01_k».proof.Proof.Spec
public import Idealize.ShloMosaic.Lib.Pointwise
public import Idealize.ShloMosaic.Lib.WordCmp

@[expose] public section

noncomputable section

namespace Cert.Q4k

open Cert.KernelIdeal Cert.KernelIdeal.Gen Idealize.ShloMosaic Idealize.ShloMosaic.TcCoe

variable (inv : FVec Ideal S48x1 .f32) (h : Vec Ideal S48x256 .f32) (g : Vec Ideal S1x256 .f32) (t : Fin 48)

/-- The normalised block's row. -/
def nV (x : Fin 256) : EReal := Ideal.div (h (ix2 t x)) (inv (ix2 t 0)) * g (ix2 0 x)

/-- Its codes, as integers. -/
def nQ (x : Fin 256) : ℤ := codeZ (nV inv h g t x) (qS (nV inv h g t))

theorem pay250_apply (x : Fin 256) : k0_pay250 (F := Ideal) inv h g (ix2 t x) = nV inv h g t x := by
  pointwise [k0_pay250]
  rfl

theorem pay251_apply (z : Fin 1) : k0_pay251 (F := Ideal) inv h g (ix2 t z) = qS (nV inv h g t) := by
  pointwise [k0_pay251]
  unfold qS scaleOf amax
  rw [c127_bits]
  simp only [pay250_apply]
  rfl

theorem pay252_apply (x : Fin 256) : k0_pay252 (F := Ideal) inv h g (ix2 t x) = ((nQ inv h g t x : ℝ) : EReal) := by
  pointwise [k0_pay252]
  rw [pay250_apply, pay251_apply]
  unfold nQ
  rw [← codeOf_eq]
  unfold codeOf
  have e1 : (((127#32 : BitVec 32).toInt : ℝ) : EReal) = 127 := by
    have : (127#32 : BitVec 32).toInt = 127 := by decide
    rw [this]; rfl
  have e2 : (((4294967169#32 : BitVec 32).toInt : ℝ) : EReal) = -127 := by
    have : (4294967169#32 : BitVec 32).toInt = -127 := by decide
    rw [this, Int.cast_neg, EReal.coe_neg]; rfl
  rw [e1, e2]

theorem fptosi8_coe (z : ℤ) (h1 : -127 ≤ z) (h2 : z ≤ 127) :
    Ideal.fptosi 8 ((z : ℝ) : EReal) = BitVec.setWidth 8 (BitVec.ofInt 32 z) := by
  unfold Ideal.fptosi
  rw [Ideal.toIntClamped_coe, Int.floor_intCast, Int.ceil_intCast, ite_self]
  have : ∀ k : Fin 255, BitVec.ofInt 8 (max (-((2 ^ (8 - 1) : Nat) : ℤ)) (min (((2 ^ (8 - 1) : Nat) : ℤ) - 1) ((k.val : ℤ) - 127)))
      = BitVec.setWidth 8 (BitVec.ofInt 32 ((k.val : ℤ) - 127)) := by decide +kernel
  have := this ⟨(z + 127).toNat, by omega⟩
  have e : (((⟨(z + 127).toNat, by omega⟩ : Fin 255).val : ℤ) - 127) = z := by simp; omega
  rw [e] at this
  exact this

theorem pay253_apply (x : Fin 256) :
    k0_pay253 (F := Ideal) inv h g (ix2 t x) = codeB (nV inv h g t x) (qS (nV inv h g t)) := by
  pointwise [k0_pay253]
  rw [pay252_apply, codeB_eq]
  exact fptosi8_coe _ (codeZ_ge _ _) (codeZ_le _ _)

/-! ## The permutation -/

/-- The source of column `y` of the permuted codes. -/
def permI (y : Fin 256) : Fin 256 := ⟨64 * (y.val / 64) + 32 * (y.val % 2) + y.val % 64 / 2, by omega⟩

theorem permI_word : ∀ y : Fin 256, IntOp.addi
          (IntOp.addi (IntOp.andi (BitVec.ofNat 32 y.val) 4294967232#32)
            (IntOp.muli (IntOp.andi (BitVec.ofNat 32 y.val) 1#32) 32#32))
          (IntOp.shrsi ArithUnit.vector (IntOp.andi (BitVec.ofNat 32 y.val) 63#32) 1#32)
      = BitVec.ofNat 32 (permI y).val := by decide +kernel

theorem pay6_apply (x y : Fin 256) : k0_pay6 (F := Ideal) (ix2 x y) = if x = permI y then 1 else 0 := by
  pointwise [k0_pay6]
  rw [permI_word, WordCmp.cmpi_eq_eq_toNat, WordCmp.select_ofBool]
  have : ((BitVec.ofNat 32 x.val).toNat = (BitVec.ofNat 32 (permI y).val).toNat) ↔ x = permI y := by
    rw [BitVec.toNat_ofNat, BitVec.toNat_ofNat, Nat.mod_eq_of_lt (by omega), Nat.mod_eq_of_lt (by omega), Fin.ext_iff]
  simp only [this, decide_eq_true_eq]

theorem apV_apply (y : Fin 256) : apV (F := Ideal) inv h g (ix2 t y) = ((nQ inv h g t (permI y) : ℝ) : EReal) := by
  pointwise [apV, k0_pay256, k0_pay255]
  simp only [pay252_apply, pay6_apply, mul_ite, mul_one, mul_zero]
  rw [Finset.sum_ite_eq' Finset.univ (permI y)]
  simp

/-! ## The sums over the sub-blocks -/

/-- The sum of codes over sub-block `j`. -/
def nU (j : Fin 8) : ℤ := ∑ l : Fin 32, nQ inv h g t ⟨32 * j.val + l.val, by omega⟩

/-- Whether column `y` of the matrix of sums takes sub-block `j`. -/
def sumCol (j y : ℕ) : Bool := (decide (y < 128) && decide (y = 16 * j)) || (decide (128 ≤ y) && decide (y = 128 + 8 * j))

theorem sums_word1 : ∀ x : Fin 256, IntOp.muli (IntOp.shrsi ArithUnit.vector (BitVec.ofNat 32 x.val) 5#32) 16#32
    = BitVec.ofNat 32 (16 * (x.val / 32)) := by decide +kernel
theorem sums_word2 : ∀ x : Fin 256, IntOp.addi (128#32) (IntOp.muli (IntOp.shrsi ArithUnit.vector (BitVec.ofNat 32 x.val) 5#32) 8#32)
    = BitVec.ofNat 32 (128 + 8 * (x.val / 32)) := by decide +kernel
theorem lt_word1 : ∀ y : Fin 256, IntOp.cmpi CmpIPredicate.slt (BitVec.ofNat 32 y.val) 128#32 = BitVec.ofBool (decide (y.val < 128)) := by
  decide +kernel
theorem lt_word2 : ∀ y : Fin 256, IntOp.cmpi CmpIPredicate.sge (BitVec.ofNat 32 y.val) 128#32 = BitVec.ofBool (decide (128 ≤ y.val)) := by
  decide +kernel

theorem sumsV_apply (x y : Fin 256) : sumsV (F := Ideal) (ix2 x y) = if sumCol (x.val / 32) y.val then 1 else 0 := by
  pointwise [sumsV, k0_pay7, k0_pay8, k0_pay9, k0_pay10, k0_pay11]
  rw [sums_word1, sums_word2, lt_word1, lt_word2, WordCmp.cmpi_eq_eq_toNat, WordCmp.cmpi_eq_eq_toNat, WordCmp.andi_ofBool,
    WordCmp.andi_ofBool, WordCmp.ori_ofBool, WordCmp.select_ofBool]
  simp only [BitVec.toNat_ofNat]
  rw [Nat.mod_eq_of_lt (by omega : y.val < 2 ^ 32), Nat.mod_eq_of_lt (by omega : 16 * (x.val / 32) < 2 ^ 32),
    Nat.mod_eq_of_lt (by omega : 128 + 8 * (x.val / 32) < 2 ^ 32)]
  rfl

/-- The elements of a block, by sub-block. -/
def subEquiv : Fin 8 × Fin 32 ≃ Fin 256 where
  toFun p := ⟨32 * p.1.val + p.2.val, by have := p.1.isLt; have := p.2.isLt; omega⟩
  invFun x := (⟨x.val / 32, by omega⟩, ⟨x.val % 32, by omega⟩)
  left_inv p := Prod.ext (Fin.ext (by have := p.2.isLt; show (32 * p.1.val + p.2.val) / 32 = p.1.val; omega))
    (Fin.ext (by have := p.2.isLt; show (32 * p.1.val + p.2.val) % 32 = p.2.val; omega))
  right_inv x := Fin.ext (by show 32 * (x.val / 32) + x.val % 32 = x.val; omega)

/-- A sum over a block, by sub-blocks. -/
theorem sum_sub {M : Type*} [AddCommMonoid M] (f : Fin 256 → M) :
    ∑ x, f x = ∑ j : Fin 8, ∑ l : Fin 32, f ⟨32 * j.val + l.val, by omega⟩ := by
  rw [← subEquiv.sum_comp f, Fintype.sum_prod_type]
  rfl

theorem nU_coe (j : Fin 8) : ∑ l : Fin 32, ((nQ inv h g t ⟨32 * j.val + l.val, by omega⟩ : ℝ) : EReal)
    = ((nU inv h g t j : ℝ) : EReal) := by
  rw [coe_sum]; unfold nU; rw [Int.cast_sum]

theorem sV_apply (y : Fin 256) : sV (F := Ideal) inv h g (ix2 t y)
    = (∑ j : Fin 8, if sumCol j.val y.val then ((nU inv h g t j : ℝ) : EReal) else 0) * qS (nV inv h g t) := by
  pointwise [sV, k0_pay255]
  rw [pay251_apply]
  refine congrArg (· * qS (nV inv h g t)) ?_
  rw [sum_sub]
  refine Finset.sum_congr rfl fun j _ => ?_
  rw [← nU_coe]
  have e : ∀ l : Fin 32, (32 * j.val + l.val) / 32 = j.val := by intro l; omega
  simp only [pay252_apply, sumsV_apply, e, mul_ite, mul_one, mul_zero]
  by_cases hc : sumCol j.val y.val = true
  · simp only [hc, if_true]
  · simp only [hc]; simp

theorem sV_col (y : Fin 256) (j : Fin 8) (hj : ∀ i : Fin 8, sumCol i.val y.val = decide (i = j)) :
    sV (F := Ideal) inv h g (ix2 t y) = ((nU inv h g t j : ℝ) : EReal) * qS (nV inv h g t) := by
  rw [sV_apply]
  simp only [hj, decide_eq_true_eq]
  rw [Finset.sum_ite_eq' Finset.univ j]
  simp

theorem sV_none (y : Fin 256) (hj : ∀ i : Fin 8, sumCol i.val y.val = false) :
    sV (F := Ideal) inv h g (ix2 t y) = 0 := by
  rw [sV_apply]
  simp [hj]

end Cert.Q4k

end
-- ==== Proof.Act.lean ====
/-
  The gated activation and its quantisation at `Ideal`: one step's 512 columns are two blocks of 256, each with its scale
  and its codes; the two scales go to the step's two lanes.
-/
module

public import proofs.«01_k».proof.Proof.QBlk
public import Idealize.ShloMosaic.Lib.Pipeline.ReadBack

@[expose] public section

noncomputable section

namespace Cert.Q4k

open Cert.KernelIdeal Cert.KernelIdeal.Gen Idealize.ShloMosaic Idealize.ShloMosaic.TcCoe

variable (g u : FVec Ideal S48x512 .f32)

/-- The activation at row `t` and column `n`. -/
def av (t : Fin 48) (n : Fin 512) : EReal := actV (g (ix2 t n)) (u (ix2 t n))

/-- Column `x` of block `i`. -/
def cn (i : Fin 2) (x : Fin 256) : Fin 512 := ⟨256 * i.val + x.val, by omega⟩

/-- The scale of block `i`. -/
def avS (i : Fin 2) (t : Fin 48) : EReal := qS fun x => av g u t (cn i x)

/-- The activation as the kernel spells it. -/
abbrev avV : FVec Ideal S48x512 .f32 := k0_pay830 (F := Ideal) g u (k0_pay829 g)

theorem avV_apply (t : Fin 48) (n : Fin 512) : avV g u (ix2 t n) = av g u t n := by
  pointwise [k0_pay830, k0_pay829]
  rfl

theorem pay831_apply (t : Fin 48) (x : Fin 256) :
    k0_pay831 (F := Ideal) g u (k0_pay829 g) (ix2 t x) = av g u t (cn 0 x) := by
  have e : k0_pay831 (F := Ideal) g u (k0_pay829 g) (ix2 t x) = avV g u (ix2 t ⟨x.val, by omega⟩) := by
    pointwise [k0_pay831]
  rw [e, avV_apply]
  congr 1; apply Fin.ext; show x.val = 256 * 0 + x.val; omega

theorem pay839_apply (t : Fin 48) (x : Fin 256) :
    k0_pay839 (F := Ideal) (avV g u) (ix2 t x) = av g u t (cn 1 x) := by
  have e : k0_pay839 (F := Ideal) (avV g u) (ix2 t x) = avV g u (ix2 t ⟨256 + x.val, by omega⟩) := by
    pointwise [k0_pay839]
  rw [e, avV_apply]
  congr 1

theorem pay832_apply (t : Fin 48) (z : Fin 1) : k0_pay832 (F := Ideal) g u (k0_pay829 g) (ix2 t z) = avS g u 0 t := by
  pointwise [k0_pay832]
  unfold avS qS scaleOf amax
  rw [c127_bits]
  simp only [pay831_apply]
  rfl

theorem pay840_apply (t : Fin 48) (z : Fin 1) : k0_pay840 (F := Ideal) (avV g u) (ix2 t z) = avS g u 1 t := by
  pointwise [k0_pay840]
  unfold avS qS scaleOf amax
  rw [c127_bits]
  simp only [pay839_apply]
  rfl

theorem e127 : (((127#32 : BitVec 32).toInt : ℝ) : EReal) = 127 := by
  have : (127#32 : BitVec 32).toInt = 127 := by decide
  rw [this]; rfl

theorem en127 : (((4294967169#32 : BitVec 32).toInt : ℝ) : EReal) = -127 := by
  have : (4294967169#32 : BitVec 32).toInt = -127 := by decide
  rw [this, Int.cast_neg, EReal.coe_neg]; rfl

theorem pay833_apply (t : Fin 48) (x : Fin 256) : k0_pay833 (F := Ideal) g u (k0_pay829 g) (ix2 t x)
    = ((codeZ (av g u t (cn 0 x)) (avS g u 0 t) : ℝ) : EReal) := by
  pointwise [k0_pay833]
  rw [pay831_apply, pay832_apply, ← codeOf_eq]
  unfold codeOf
  rw [e127, en127]

theorem pay841_apply (t : Fin 48) (x : Fin 256) : k0_pay841 (F := Ideal) (avV g u) (ix2 t x)
    = ((codeZ (av g u t (cn 1 x)) (avS g u 1 t) : ℝ) : EReal) := by
  pointwise [k0_pay841]
  rw [pay839_apply, pay840_apply, ← codeOf_eq]
  unfold codeOf
  rw [e127, en127]

theorem pay834_apply (t : Fin 48) (x : Fin 256) : k0_pay834 (F := Ideal) g u (k0_pay829 g) (ix2 t x)
    = codeB (av g u t (cn 0 x)) (avS g u 0 t) := by
  pointwise [k0_pay834]
  rw [pay833_apply, codeB_eq]
  exact fptosi8_coe _ (codeZ_ge _ _) (codeZ_le _ _)

theorem pay842_apply (t : Fin 48) (x : Fin 256) : k0_pay842 (F := Ideal) (avV g u) (ix2 t x)
    = codeB (av g u t (cn 1 x)) (avS g u 1 t) := by
  pointwise [k0_pay842]
  rw [pay841_apply, codeB_eq]
  exact fptosi8_coe _ (codeZ_ge _ _) (codeZ_le _ _)

/-! ## The codes of a step -/

theorem emb_mem0 {s : Shape} (r : Rect s) (x : r.shape.Idx) : r.emb x ∈ r.set :=
  LoadRect.idx_mem r.toLoadRect x

abbrev rC0 : Rect S48x512 := Rect.unit ![0, 0] S48x256.size inb_S48x512_S48x256_0_0
abbrev rC1 : Rect S48x512 := Rect.unit ![0, 256] S48x256.size inb_S48x512_S48x256_0_256

def actPieces : List (View.Piece (Elt Ideal) S48x512 .i8) :=
  [⟨rC1, k0_pay842 (F := Ideal) (avV g u)⟩, ⟨rC0, k0_pay834 (F := Ideal) g u (k0_pay829 g)⟩]

theorem emb_rC0 (t : Fin 48) (x : Fin 256) : rC0.emb (ix2 t x) = ix2 t (cn 0 x) := by
  funext a; apply Fin.ext
  match a with
  | ⟨0, _⟩ => show 0 + 1 * t.val = t.val; omega
  | ⟨1, _⟩ => show 0 + 1 * x.val = 256 * 0 + x.val; omega

theorem emb_rC1 (t : Fin 48) (x : Fin 256) : rC1.emb (ix2 t x) = ix2 t (cn 1 x) := by
  funext a; apply Fin.ext
  match a with
  | ⟨0, _⟩ => show 0 + 1 * t.val = t.val; omega
  | ⟨1, _⟩ => show 256 + 1 * x.val = 256 * 1 + x.val; omega

/-- The codes of a step. -/
def acArr : S48x512.Idx → Elt Ideal .i8 := fun j => codeB (av g u (j 0) (j 1)) (avS g u ⟨(j 1).val / 256, by have : (j 1).val < 512 := (j 1).isLt; omega⟩ (j 0))

theorem acArr_ix (t : Fin 48) (n : Fin 512) : acArr g u (ix2 t n) = codeB (av g u t n) (avS g u ⟨n.val / 256, by omega⟩ t) := rfl

theorem acArr_at (t : Fin 48) (i : Fin 2) (x : Fin 256)  : acArr g u (ix2 t (cn i x))
    = codeB (av g u t (cn i x)) (avS g u i t) := by
  rw [acArr_ix]
  have e2 : (⟨(cn i x).val / 256, by omega⟩ : Fin 2) = i := Fin.ext (by show (256 * i.val + x.val) / 256 = i.val; omega)
  exact congrArg (fun k => codeB (av g u t _) (avS g u k t)) e2

theorem actPieces_of : View.PiecesOf (acArr g u) (actPieces g u) := by
  unfold actPieces
  refine ⟨fun y => ?_, fun y => ?_, trivial⟩
  · change S48x256.Idx at y
    obtain ⟨t, l, rfl⟩ : ∃ (t : Fin 48) (l : Fin 256), y = ix2 t l := ⟨y 0, y 1, eq_ix2 y⟩
    have e := (pay842_apply g u t l).trans (acArr_at g u t 1 l).symm
    exact e.trans (congrArg (acArr g u) (emb_rC1 t l)).symm
  · change S48x256.Idx at y
    obtain ⟨t, l, rfl⟩ : ∃ (t : Fin 48) (l : Fin 256), y = ix2 t l := ⟨y 0, y 1, eq_ix2 y⟩
    have e := (pay834_apply g u t l).trans (acArr_at g u t 0 l).symm
    exact e.trans (congrArg (acArr g u) (emb_rC0 t l)).symm

theorem actPieces_cover (t : Fin 48) (n : Fin 512) : ∃ p ∈ actPieces g u, (ix2 t n : S48x512.Idx) ∈ p.1.set := by
  unfold actPieces
  by_cases h : n.val < 256
  · refine ⟨_, List.mem_cons_of_mem _ (List.mem_cons_self ..), ?_⟩
    have e : (ix2 t n : S48x512.Idx) = rC0.emb (ix2 t ⟨n.val, h⟩) := by
      rw [emb_rC0]; congr 1; apply Fin.ext; show n.val = 256 * 0 + n.val; omega
    rw [e]; exact emb_mem0 _ _
  · refine ⟨_, List.mem_cons_self .., ?_⟩
    have e : (ix2 t n : S48x512.Idx) = rC1.emb (ix2 t ⟨n.val - 256, by omega⟩) := by
      rw [emb_rC1]; congr 1; apply Fin.ext; show n.val = 256 * 1 + (n.val - 256); omega
    rw [e]; exact emb_mem0 _ _

theorem canonC (t : Fin 48) (n : Fin 512) : View.canon (actPieces g u) (ix2 t n)
    = codeB (av g u t n) (avS g u ⟨n.val / 256, by omega⟩ t) := by
  rw [View.canon_apply_of_pieces (acArr g u) _ (actPieces_of g u).mem _ (actPieces_cover g u t n)]
  rfl

/-! ## The lanes of scales of a step -/

/-- The lanes after a step: the step's two lanes over those there were. -/
def lanesV (k : BitVec 32) (prev : FVec Ideal S48x56 .f32) : FVec Ideal S48x56 .f32 :=
  k0_pay1 (F := Ideal) (k0_pay843 k (iota Kind.tc S48x56 32 [1] iota_S48x56_d1_w32))
    (k0_pay844 (F := Ideal) (k0_pay835 (F := Ideal) k g u (k0_pay829 g) prev)) (k0_pay845 (F := Ideal) (k0_pay840 (F := Ideal) (avV g u)))

theorem lane0 : ∀ n : Fin 28, (IntOp.addi (IntOp.muli (BitVec.ofNat 32 n.val) 2#32) 0#32).toNat = 2 * n.val := by decide +kernel
theorem lane1 : ∀ n : Fin 28, (IntOp.addi (IntOp.muli (BitVec.ofNat 32 n.val) 2#32) 1#32).toNat = 2 * n.val + 1 := by decide +kernel

theorem pay835_apply (n : Fin 28) (prev : FVec Ideal S48x56 .f32) (t : Fin 48) (l : Fin 56) :
    k0_pay835 (F := Ideal) (BitVec.ofNat 32 n.val) g u (k0_pay829 g) prev (ix2 t l)
      = if l.val = 2 * n.val then avS g u 0 t else prev (ix2 t l) := by
  pointwise [k0_pay835]
  rw [pay832_apply, WordCmp.cmpi_eq_eq_toNat, WordCmp.select_ofBool]
  have e : (Scalar.addi (Scalar.muli (BitVec.ofNat 32 n.val) 2#32) 0#32).toNat = 2 * n.val := lane0 n
  rw [e, BitVec.toNat_ofNat, Nat.mod_eq_of_lt (by omega)]
  simp only [decide_eq_true_eq]

theorem pay843_apply (n : Fin 28) (t : Fin 48) (l : Fin 56) :
    k0_pay843 (BitVec.ofNat 32 n.val) (iota Kind.tc S48x56 32 [1] iota_S48x56_d1_w32) (ix2 t l)
      = BitVec.ofBool (decide (l.val = 2 * n.val + 1)) := by
  pointwise [k0_pay843]
  rw [WordCmp.cmpi_eq_eq_toNat]
  have e : (Scalar.addi (Scalar.muli (BitVec.ofNat 32 n.val) 2#32) 1#32).toNat = 2 * n.val + 1 := lane1 n
  rw [e, BitVec.toNat_ofNat, Nat.mod_eq_of_lt (by omega)]

theorem lanesV_apply (n : Fin 28) (prev : FVec Ideal S48x56 .f32) (t : Fin 48) (l : Fin 56) :
    lanesV g u (BitVec.ofNat 32 n.val) prev (ix2 t l)
      = if l.val = 2 * n.val + 1 then avS g u 1 t else if l.val = 2 * n.val then avS g u 0 t else prev (ix2 t l) := by
  pointwise [lanesV, k0_pay1, k0_pay844, k0_pay845]
  rw [pay843_apply, WordCmp.select_ofBool, pay835_apply, pay840_apply]
  simp only [decide_eq_true_eq]

end Cert.Q4k

end
-- ==== Proof.Blks.lean ====
/-
  The blocks of the operands at step `t`: the row and its gain as they are, and the columns `512 t + n` of the two
  weight matrices.
-/
module

public import proofs.«01_k».proof.Proof.Gen.KernelIdeal.Frame
public import Idealize.ShloMosaic.Lib.Pipeline.Value
public import Idealize.ShloMosaic.Lib.Affine
public import Idealize.ShloMosaic.Lib.Pipeline.ValueKit
public import Idealize.ShloMosaic.Lib.Claim
public import proofs.«01_k».proof.Proof.Act

@[expose] public section

noncomputable section

namespace Cert.Q4k

open Cert.KernelIdeal Cert.KernelIdeal.Gen Idealize.ShloMosaic Idealize.ShloMosaic.TcCoe

variable (m : (ℓ : Loc nD τ Cert.KernelIdeal.sig) → Buf (Elt Ideal) ℓ) (c : Dev nD) (t : Fin cfg0.N)

/-- Column `n` of step `t`. -/
def col (t : Fin 28) (n : Fin 512) : Fin 14336 := ⟨t.val * 512 + n.val, by omega⟩

def stepOf : Fin 28 := ⟨t.val, lt_of_lt_of_eq t.isLt N_0⟩

theorem coords0 : (grid0.coords t 0).val = t.val := by
  revert t; decide +kernel

theorem idx0 : ∀ t : Fin cfg0.N, win0_0.index t (0 : Fin 2) = 0 ∧ win0_0.index t (1 : Fin 2) = 0 := by
  decide +kernel

theorem emb0 (a : Fin 48) (b : Fin 5120) : ((View.whole main_arg0).slice (win0_0.rect t)).emb (ix2 a b) = ix2 a b := by
  funext a
  refine Fin.ext ?_
  fin_cases a
  · exact (Pipeline.Window.rect_emb_val win0_0 t (ix2 a b) 0 rfl).trans (by rw [show win0_0.index t (0 : Fin 2) = _ from (idx0 t).1]; simp [col, stepOf])
  · exact (Pipeline.Window.rect_emb_val win0_0 t (ix2 a b) 1 rfl).trans (by rw [show win0_0.index t (1 : Fin 2) = _ from (idx0 t).2]; simp [col, stepOf])

theorem blk0 (a : Fin 48) (b : Fin 5120) : iblk m c 0 t (ix2 a b) = m ((c : Thread nD τ).loc main_arg0) (ix2 a b) := by
  blk_simp [iblk]
  entry_read
  rw [emb0]

theorem idx1 : ∀ t : Fin cfg0.N, win0_1.index t (0 : Fin 2) = 0 ∧ win0_1.index t (1 : Fin 2) = 0 := by
  decide +kernel

theorem emb1 (b : Fin 5120) : ((View.whole main_v0).slice (win0_1.rect t)).emb (ix2 0 b) = ix2 0 b := by
  funext a
  refine Fin.ext ?_
  fin_cases a
  · exact (Pipeline.Window.rect_emb_val win0_1 t (ix2 0 b) 0 rfl).trans (by rw [show win0_1.index t (0 : Fin 2) = _ from (idx1 t).1]; simp [col, stepOf])
  · exact (Pipeline.Window.rect_emb_val win0_1 t (ix2 0 b) 1 rfl).trans (by rw [show win0_1.index t (1 : Fin 2) = _ from (idx1 t).2]; simp [col, stepOf])

theorem blk1 (b : Fin 5120) : iblk m c 1 t (ix2 0 b) = m ((c : Thread nD τ).loc main_arg1) (ix1 b) := by
  blk_simp [iblk]
  entry_read
  rw [emb1]
  pointwise []

theorem idx2 : ∀ t : Fin cfg0.N, win0_2.index t (0 : Fin 3) = 0 ∧ win0_2.index t (1 : Fin 3) = t.val ∧ win0_2.index t (2 : Fin 3) = 0 := by
  decide +kernel

theorem emb2 (b : Fin 20) (n : Fin 512) (l : Fin 128) : ((View.whole main_v1).slice (win0_2.rect t)).emb (ix3 b n l) = ix3 b (col (stepOf t) n) l := by
  funext a
  refine Fin.ext ?_
  fin_cases a
  · exact (Pipeline.Window.rect_emb_val win0_2 t (ix3 b n l) 0 rfl).trans (by rw [show win0_2.index t (0 : Fin 3) = _ from (idx2 t).1]; simp [col, stepOf])
  · exact (Pipeline.Window.rect_emb_val win0_2 t (ix3 b n l) 1 rfl).trans (by rw [show win0_2.index t (1 : Fin 3) = _ from (idx2 t).2.1]; simp [col, stepOf])
  · exact (Pipeline.Window.rect_emb_val win0_2 t (ix3 b n l) 2 rfl).trans (by rw [show win0_2.index t (2 : Fin 3) = _ from (idx2 t).2.2]; simp [col, stepOf])

theorem blk2 (b : Fin 20) (n : Fin 512) (l : Fin 128) :
    iblk m c 2 t (ix3 b n l) = m ((c : Thread nD τ).loc main_arg2) (ix3 (col (stepOf t) n) b l) := by
  blk_simp [iblk]
  entry_read
  rw [emb2]
  pointwise []

theorem idx3 : ∀ t : Fin cfg0.N, win0_3.index t (0 : Fin 3) = 0 ∧ win0_3.index t (1 : Fin 3) = 0 ∧ win0_3.index t (2 : Fin 3) = t.val := by
  decide +kernel

theorem emb3 (i : Fin 12) (b : Fin 20) (n : Fin 512) : ((View.whole main_v2).slice (win0_3.rect t)).emb (ix3 i b n) = ix3 i b (col (stepOf t) n) := by
  funext a
  refine Fin.ext ?_
  fin_cases a
  · exact (Pipeline.Window.rect_emb_val win0_3 t (ix3 i b n) 0 rfl).trans (by rw [show win0_3.index t (0 : Fin 3) = _ from (idx3 t).1]; simp [col, stepOf])
  · exact (Pipeline.Window.rect_emb_val win0_3 t (ix3 i b n) 1 rfl).trans (by rw [show win0_3.index t (1 : Fin 3) = _ from (idx3 t).2.1]; simp [col, stepOf])
  · exact (Pipeline.Window.rect_emb_val win0_3 t (ix3 i b n) 2 rfl).trans (by rw [show win0_3.index t (2 : Fin 3) = _ from (idx3 t).2.2]; simp [col, stepOf])

theorem blk3 (i : Fin 12) (b : Fin 20) (n : Fin 512) :
    iblk m c 3 t (ix3 i b n) = m ((c : Thread nD τ).loc main_arg3) (ix3 (col (stepOf t) n) b i) := by
  blk_simp [iblk]
  entry_read
  rw [emb3]
  pointwise []

theorem idx4 : ∀ t : Fin cfg0.N, win0_4.index t (0 : Fin 2) = 0 ∧ win0_4.index t (1 : Fin 2) = t.val := by
  decide +kernel

theorem emb4 (b : Fin 20) (n : Fin 512) : ((View.whole main_v3).slice (win0_4.rect t)).emb (ix2 b n) = ix2 b (col (stepOf t) n) := by
  funext a
  refine Fin.ext ?_
  fin_cases a
  · exact (Pipeline.Window.rect_emb_val win0_4 t (ix2 b n) 0 rfl).trans (by rw [show win0_4.index t (0 : Fin 2) = _ from (idx4 t).1]; simp [col, stepOf])
  · exact (Pipeline.Window.rect_emb_val win0_4 t (ix2 b n) 1 rfl).trans (by rw [show win0_4.index t (1 : Fin 2) = _ from (idx4 t).2]; simp [col, stepOf])

theorem blk4 (b : Fin 20) (n : Fin 512) :
    iblk m c 4 t (ix2 b n) = m ((c : Thread nD τ).loc main_arg4) (ix2 (col (stepOf t) n) b) := by
  blk_simp [iblk]
  entry_read
  rw [emb4]
  pointwise []

theorem idx5 : ∀ t : Fin cfg0.N, win0_5.index t (0 : Fin 2) = 0 ∧ win0_5.index t (1 : Fin 2) = t.val := by
  decide +kernel

theorem emb5 (b : Fin 20) (n : Fin 512) : ((View.whole main_v4).slice (win0_5.rect t)).emb (ix2 b n) = ix2 b (col (stepOf t) n) := by
  funext a
  refine Fin.ext ?_
  fin_cases a
  · exact (Pipeline.Window.rect_emb_val win0_5 t (ix2 b n) 0 rfl).trans (by rw [show win0_5.index t (0 : Fin 2) = _ from (idx5 t).1]; simp [col, stepOf])
  · exact (Pipeline.Window.rect_emb_val win0_5 t (ix2 b n) 1 rfl).trans (by rw [show win0_5.index t (1 : Fin 2) = _ from (idx5 t).2]; simp [col, stepOf])

theorem blk5 (b : Fin 20) (n : Fin 512) :
    iblk m c 5 t (ix2 b n) = m ((c : Thread nD τ).loc main_arg5) (ix2 (col (stepOf t) n) b) := by
  blk_simp [iblk]
  entry_read
  rw [emb5]
  pointwise []

theorem idx6 : ∀ t : Fin cfg0.N, win0_6.index t (0 : Fin 3) = 0 ∧ win0_6.index t (1 : Fin 3) = t.val ∧ win0_6.index t (2 : Fin 3) = 0 := by
  decide +kernel

theorem emb6 (b : Fin 20) (n : Fin 512) (l : Fin 128) : ((View.whole main_v5).slice (win0_6.rect t)).emb (ix3 b n l) = ix3 b (col (stepOf t) n) l := by
  funext a
  refine Fin.ext ?_
  fin_cases a
  · exact (Pipeline.Window.rect_emb_val win0_6 t (ix3 b n l) 0 rfl).trans (by rw [show win0_6.index t (0 : Fin 3) = _ from (idx6 t).1]; simp [col, stepOf])
  · exact (Pipeline.Window.rect_emb_val win0_6 t (ix3 b n l) 1 rfl).trans (by rw [show win0_6.index t (1 : Fin 3) = _ from (idx6 t).2.1]; simp [col, stepOf])
  · exact (Pipeline.Window.rect_emb_val win0_6 t (ix3 b n l) 2 rfl).trans (by rw [show win0_6.index t (2 : Fin 3) = _ from (idx6 t).2.2]; simp [col, stepOf])

theorem blk6 (b : Fin 20) (n : Fin 512) (l : Fin 128) :
    iblk m c 6 t (ix3 b n l) = m ((c : Thread nD τ).loc main_arg6) (ix3 (col (stepOf t) n) b l) := by
  blk_simp [iblk]
  entry_read
  rw [emb6]
  pointwise []

theorem idx7 : ∀ t : Fin cfg0.N, win0_7.index t (0 : Fin 3) = 0 ∧ win0_7.index t (1 : Fin 3) = 0 ∧ win0_7.index t (2 : Fin 3) = t.val := by
  decide +kernel

theorem emb7 (i : Fin 12) (b : Fin 20) (n : Fin 512) : ((View.whole main_v6).slice (win0_7.rect t)).emb (ix3 i b n) = ix3 i b (col (stepOf t) n) := by
  funext a
  refine Fin.ext ?_
  fin_cases a
  · exact (Pipeline.Window.rect_emb_val win0_7 t (ix3 i b n) 0 rfl).trans (by rw [show win0_7.index t (0 : Fin 3) = _ from (idx7 t).1]; simp [col, stepOf])
  · exact (Pipeline.Window.rect_emb_val win0_7 t (ix3 i b n) 1 rfl).trans (by rw [show win0_7.index t (1 : Fin 3) = _ from (idx7 t).2.1]; simp [col, stepOf])
  · exact (Pipeline.Window.rect_emb_val win0_7 t (ix3 i b n) 2 rfl).trans (by rw [show win0_7.index t (2 : Fin 3) = _ from (idx7 t).2.2]; simp [col, stepOf])

theorem blk7 (i : Fin 12) (b : Fin 20) (n : Fin 512) :
    iblk m c 7 t (ix3 i b n) = m ((c : Thread nD τ).loc main_arg7) (ix3 (col (stepOf t) n) b i) := by
  blk_simp [iblk]
  entry_read
  rw [emb7]
  pointwise []

theorem idx8 : ∀ t : Fin cfg0.N, win0_8.index t (0 : Fin 2) = 0 ∧ win0_8.index t (1 : Fin 2) = t.val := by
  decide +kernel

theorem emb8 (b : Fin 20) (n : Fin 512) : ((View.whole main_v7).slice (win0_8.rect t)).emb (ix2 b n) = ix2 b (col (stepOf t) n) := by
  funext a
  refine Fin.ext ?_
  fin_cases a
  · exact (Pipeline.Window.rect_emb_val win0_8 t (ix2 b n) 0 rfl).trans (by rw [show win0_8.index t (0 : Fin 2) = _ from (idx8 t).1]; simp [col, stepOf])
  · exact (Pipeline.Window.rect_emb_val win0_8 t (ix2 b n) 1 rfl).trans (by rw [show win0_8.index t (1 : Fin 2) = _ from (idx8 t).2]; simp [col, stepOf])

theorem blk8 (b : Fin 20) (n : Fin 512) :
    iblk m c 8 t (ix2 b n) = m ((c : Thread nD τ).loc main_arg8) (ix2 (col (stepOf t) n) b) := by
  blk_simp [iblk]
  entry_read
  rw [emb8]
  pointwise []

theorem idx9 : ∀ t : Fin cfg0.N, win0_9.index t (0 : Fin 2) = 0 ∧ win0_9.index t (1 : Fin 2) = t.val := by
  decide +kernel

theorem emb9 (b : Fin 20) (n : Fin 512) : ((View.whole main_v8).slice (win0_9.rect t)).emb (ix2 b n) = ix2 b (col (stepOf t) n) := by
  funext a
  refine Fin.ext ?_
  fin_cases a
  · exact (Pipeline.Window.rect_emb_val win0_9 t (ix2 b n) 0 rfl).trans (by rw [show win0_9.index t (0 : Fin 2) = _ from (idx9 t).1]; simp [col, stepOf])
  · exact (Pipeline.Window.rect_emb_val win0_9 t (ix2 b n) 1 rfl).trans (by rw [show win0_9.index t (1 : Fin 2) = _ from (idx9 t).2]; simp [col, stepOf])

theorem blk9 (b : Fin 20) (n : Fin 512) :
    iblk m c 9 t (ix2 b n) = m ((c : Thread nD τ).loc main_arg9) (ix2 (col (stepOf t) n) b) := by
  blk_simp [iblk]
  entry_read
  rw [emb9]
  pointwise []

end Cert.Q4k

end
-- ==== Proof.QArr.lean ====
/-
  What step 0 leaves of the row block at `Ideal`, array by array.
-/
module

public import proofs.«01_k».proof.Proof.QBlk
public import Idealize.ShloMosaic.Lib.Pipeline.ReadBack

@[expose] public section

noncomputable section

namespace Cert.Q4k

open Cert.KernelIdeal Cert.KernelIdeal.Gen Idealize.ShloMosaic Idealize.ShloMosaic.TcCoe

variable (inv : FVec Ideal S48x1 .f32) (h : Fin 20 → Vec Ideal S48x256 .f32) (g : Fin 20 → Vec Ideal S1x256 .f32)

theorem emb_mem {s : Shape} (r : Rect s) (x : r.shape.Idx) : r.emb x ∈ r.set :=
  LoadRect.idx_mem r.toLoadRect x

/-- Block `b`'s scale, codes and sums at row `t`. -/
abbrev bS (t : Fin 48) (b : Fin 20) : EReal := qS (nV inv (h b) (g b) t)
abbrev bQ (t : Fin 48) (b : Fin 20) (x : Fin 256) : ℤ := nQ inv (h b) (g b) t x
abbrev bU (t : Fin 48) (b : Fin 20) (j : Fin 8) : ℤ := nU inv (h b) (g b) t j

/-! ## The permuted codes -/

def aVal (b : Fin 20) (t : Fin 48) (x : Fin 512) : EReal :=
  if x.val < 256 then ((8 * bQ inv h g t b (permI ⟨x.val % 256, by omega⟩) : ℝ) : EReal)
  else ((bQ inv h g t b (permI ⟨x.val % 256, by omega⟩) : ℝ) : EReal)

theorem pay258_apply (a : FVec Ideal S48x256 .f32) (z : Fin 1) (t : Fin 48) (x : Fin 256) :
    k0_pay258 (F := Ideal) a k0_pay257 (ix3 z t x) = a (ix2 t x) * Ideal.ofBits .f32 1090519040#32 := by
  pointwise [k0_pay258, k0_pay257]

theorem pay259_apply (a : FVec Ideal S48x256 .f32) (z : Fin 1) (t : Fin 48) (x : Fin 256) :
    k0_pay259 (F := Ideal) a (ix3 z t x) = a (ix2 t x) := by
  pointwise [k0_pay259]

theorem c8_bits : Ideal.ofBits .f32 1090519040#32 = ((8 : ℝ) : EReal) := by
  have e : (1090519040#32 : BitVec 32) = BitVec.ofNat 32 (130 * 8388608 + 0) := rfl
  rw [e, f32_normal _ _ (by omega) (by omega) (by omega)]
  norm_num

theorem emb_rA2 (b : Fin 20) (o : Fin 2) (z : Fin 1) (t : Fin 48) (x : Fin 256) :
    (rA2 b o).emb (ix3 z t x) = ix3 b t ⟨256 * o.val + x.val, by omega⟩ := by
  funext a; apply Fin.ext
  match a with
  | ⟨0, _⟩ => show b.val + 1 * z.val = b.val; omega
  | ⟨1, _⟩ => show 0 + 1 * t.val = t.val; omega
  | ⟨2, _⟩ => show 256 * o.val + 1 * x.val = 256 * o.val + x.val; omega

def aArr : S20x48x512.Idx → Elt Ideal .bf16 := fun j => aVal inv h g (j 0) (j 1) (j 2)

theorem aArr_ix (b : Fin 20) (t : Fin 48) (x : Fin 512) : aArr inv h g (ix3 b t x) = aVal inv h g b t x := rfl

theorem aPieces_of : ∀ (n : ℕ) (hn : n ≤ 20), View.PiecesOf (aArr inv h g) (aPieces (F := Ideal) inv h g n hn)
  | 0, _ => trivial
  | n + 1, hn => by
    refine ⟨fun x => ?_, fun x => ?_, aPieces_of n (by omega)⟩
    · change S1x48x256.Idx at x
      obtain ⟨z, t, y, rfl⟩ : ∃ (z : Fin 1) (t : Fin 48) (y : Fin 256), x = ix3 z t y := ⟨x 0, x 1, x 2, eq_ix3 x⟩
      change k0_pay259 (F := Ideal) _ _ = aArr inv h g ((rA2 ⟨n, hn⟩ 1).emb _)
      rw [emb_rA2, aArr_ix, pay259_apply, apV_apply]
      unfold aVal
      rw [if_neg (by show ¬ (256 * 1 + y.val < 256); omega)]
      have e : (⟨(256 * (1 : Fin 2).val + y.val) % 256, by omega⟩ : Fin 256) = y := by
        apply Fin.ext; show (256 * 1 + y.val) % 256 = y.val; omega
      rw [e]
    · change S1x48x256.Idx at x
      obtain ⟨z, t, y, rfl⟩ : ∃ (z : Fin 1) (t : Fin 48) (y : Fin 256), x = ix3 z t y := ⟨x 0, x 1, x 2, eq_ix3 x⟩
      change k0_pay258 (F := Ideal) _ _ _ = aArr inv h g ((rA2 ⟨n, hn⟩ 0).emb _)
      rw [emb_rA2, aArr_ix, pay258_apply, apV_apply, c8_bits]
      unfold aVal
      rw [if_pos (by show 256 * 0 + y.val < 256; omega)]
      have e : (⟨(256 * (0 : Fin 2).val + y.val) % 256, by omega⟩ : Fin 256) = y := by
        apply Fin.ext; show (256 * 0 + y.val) % 256 = y.val; omega
      rw [e, ← EReal.coe_mul, mul_comm]

theorem aPieces_cover : ∀ (n : ℕ) (hn : n ≤ 20) (b : Fin 20) (t : Fin 48) (x : Fin 512), b.val < n →
    ∃ p ∈ aPieces (F := Ideal) inv h g n hn, (ix3 b t x : S20x48x512.Idx) ∈ p.1.set
  | 0, _, _, _, _, hb => absurd hb (by omega)
  | n + 1, hn, b, t, x, hb => by
    by_cases hbn : b.val < n
    · obtain ⟨p, hp, hy⟩ := aPieces_cover n (by omega) b t x hbn
      exact ⟨p, List.mem_cons_of_mem _ (List.mem_cons_of_mem _ hp), hy⟩
    · have hbe : b = ⟨n, hn⟩ := Fin.ext (by show b.val = n; omega)
      by_cases hx : x.val < 256
      · refine ⟨_, List.mem_cons_of_mem _ (List.mem_cons_self ..), ?_⟩
        have : (ix3 b t x : S20x48x512.Idx) = (rA2 ⟨n, hn⟩ 0).emb (ix3 0 t ⟨x.val, hx⟩) := by
          rw [emb_rA2, hbe]; congr 1; apply Fin.ext; show x.val = 256 * 0 + x.val; omega
        rw [this]; exact emb_mem _ _
      · refine ⟨_, List.mem_cons_self .., ?_⟩
        have : (ix3 b t x : S20x48x512.Idx) = (rA2 ⟨n, hn⟩ 1).emb (ix3 0 t ⟨x.val - 256, by omega⟩) := by
          rw [emb_rA2, hbe]; congr 1; apply Fin.ext; show x.val = 256 * 1 + (x.val - 256); omega
        rw [this]; exact emb_mem _ _

theorem canonA (b : Fin 20) (t : Fin 48) (x : Fin 512) :
    View.canon (aPieces (F := Ideal) inv h g 20 (by omega)) (ix3 b t x) = aVal inv h g b t x := by
  rw [View.canon_apply_of_pieces (aArr inv h g) _ (aPieces_of inv h g 20 (by omega)).mem _
    (aPieces_cover inv h g 20 (by omega) b t x b.isLt)]
  exact aArr_ix _ _ _ _ _ _

/-! ## The scales -/

theorem pay260_apply (a : FVec Ideal S48x1 .f32) (z : Fin 1) (t : Fin 48) (x : Fin 128) :
    k0_pay260 (F := Ideal) a (ix3 z t x) = a (ix2 t 0) := by
  pointwise [k0_pay260]

theorem emb_rS (b : Fin 20) (z : Fin 1) (t : Fin 48) (x : Fin 128) : (rS b).emb (ix3 z t x) = ix3 b t x := by
  funext a; apply Fin.ext
  match a with
  | ⟨0, _⟩ => show b.val + 1 * z.val = b.val; omega
  | ⟨1, _⟩ => show 0 + 1 * t.val = t.val; omega
  | ⟨2, _⟩ => show 0 + 1 * x.val = x.val; omega

def sArr : S20x48x128.Idx → Elt Ideal .f32 := fun j => bS inv h g (j 1) (j 0)

theorem sArr_ix (b : Fin 20) (t : Fin 48) (x : Fin 128) : sArr inv h g (ix3 b t x) = bS inv h g t b := rfl

set_option maxRecDepth 20000 in
theorem sPieces_of : ∀ (n : ℕ) (hn : n ≤ 20), View.PiecesOf (sArr inv h g) (sPieces (F := Ideal) inv h g n hn)
  | 0, _ => trivial
  | n + 1, hn => by
    refine ⟨fun x => ?_, sPieces_of n (by omega)⟩
    change S1x48x128.Idx at x
    obtain ⟨z, t, y, rfl⟩ : ∃ (z : Fin 1) (t : Fin 48) (y : Fin 128), x = ix3 z t y := ⟨x 0, x 1, x 2, eq_ix3 x⟩
    have e := (pay260_apply (k0_pay251 (F := Ideal) inv (h ⟨n, hn⟩) (g ⟨n, hn⟩)) z t y).trans (pay251_apply inv (h ⟨n, hn⟩) (g ⟨n, hn⟩) t 0)
    refine e.trans ?_
    rw [emb_rS, sArr_ix]

theorem sPieces_cover : ∀ (n : ℕ) (hn : n ≤ 20) (b : Fin 20) (t : Fin 48) (x : Fin 128), b.val < n →
    ∃ p ∈ sPieces (F := Ideal) inv h g n hn, (ix3 b t x : S20x48x128.Idx) ∈ p.1.set
  | 0, _, _, _, _, hb => absurd hb (by omega)
  | n + 1, hn, b, t, x, hb => by
    by_cases hbn : b.val < n
    · obtain ⟨p, hp, hy⟩ := sPieces_cover n (by omega) b t x hbn
      exact ⟨p, List.mem_cons_of_mem _ hp, hy⟩
    · have hbe : b = ⟨n, hn⟩ := Fin.ext (by show b.val = n; omega)
      refine ⟨_, List.mem_cons_self .., ?_⟩
      have : (ix3 b t x : S20x48x128.Idx) = (rS ⟨n, hn⟩).emb (ix3 0 t x) := by rw [emb_rS, hbe]
      rw [this]; exact emb_mem _ _

theorem canonS (b : Fin 20) (t : Fin 48) (x : Fin 128) :
    View.canon (sPieces (F := Ideal) inv h g 20 (by omega)) (ix3 b t x) = bS inv h g t b := by
  rw [View.canon_apply_of_pieces (sArr inv h g) _ (sPieces_of inv h g 20 (by omega)).mem _
    (sPieces_cover inv h g 20 (by omega) b t x b.isLt)]
  exact sArr_ix _ _ _ _ _ _

/-! ## The codes -/

theorem emb_rH (b : Fin 20) (t : Fin 48) (x : Fin 256) :
    (rH b).emb (ix2 t x) = ix2 t ⟨256 * b.val + x.val, by omega⟩ := by
  funext a; apply Fin.ext
  match a with
  | ⟨0, _⟩ => show 0 + 1 * t.val = t.val; omega
  | ⟨1, _⟩ => show 256 * b.val + 1 * x.val = 256 * b.val + x.val; omega

def qVal (t : Fin 48) (k : Fin 5120) : BitVec 8 :=
  codeB (nV inv (h ⟨k.val / 256, by omega⟩) (g ⟨k.val / 256, by omega⟩) t ⟨k.val % 256, by omega⟩)
    (bS inv h g t ⟨k.val / 256, by omega⟩)

def qArr : S48x5120.Idx → Elt Ideal .i8 := fun j => qVal inv h g (j 0) (j 1)

theorem qVal_at (t : Fin 48) (b : Fin 20) (x : Fin 256) (hk : 256 * b.val + x.val < 5120) :
    qVal inv h g t ⟨256 * b.val + x.val, hk⟩ = codeB (nV inv (h b) (g b) t x) (bS inv h g t b) := by
  have e1 : (⟨(256 * b.val + x.val) / 256, by omega⟩ : Fin 20) = b := Fin.ext (by show (256 * b.val + x.val) / 256 = b.val; omega)
  have e2 : (⟨(256 * b.val + x.val) % 256, by omega⟩ : Fin 256) = x := Fin.ext (by show (256 * b.val + x.val) % 256 = x.val; omega)
  unfold qVal
  simp only [e1, e2]

theorem qArr_ix (t : Fin 48) (k : Fin 5120) : qArr inv h g (ix2 t k) = qVal inv h g t k := rfl

theorem qPieces_of : ∀ (n : ℕ) (hn : n ≤ 20), View.PiecesOf (qArr inv h g) (qPieces (F := Ideal) inv h g n hn)
  | 0, _ => trivial
  | n + 1, hn => by
    refine ⟨fun x => ?_, qPieces_of n (by omega)⟩
    change S48x256.Idx at x
    obtain ⟨t, y, rfl⟩ : ∃ (t : Fin 48) (y : Fin 256), x = ix2 t y := ⟨x 0, x 1, eq_ix2 x⟩
    change k0_pay253 (F := Ideal) _ _ _ _ = qArr inv h g ((rH ⟨n, hn⟩).emb _)
    rw [emb_rH, qArr_ix, pay253_apply]
    exact (qVal_at inv h g _ ⟨n, hn⟩ _ _).symm

theorem qPieces_cover : ∀ (n : ℕ) (hn : n ≤ 20) (t : Fin 48) (k : Fin 5120), k.val / 256 < n →
    ∃ p ∈ qPieces (F := Ideal) inv h g n hn, (ix2 t k : S48x5120.Idx) ∈ p.1.set
  | 0, _, _, _, hb => absurd hb (by omega)
  | n + 1, hn, t, k, hb => by
    by_cases hbn : k.val / 256 < n
    · obtain ⟨p, hp, hy⟩ := qPieces_cover n (by omega) t k hbn
      exact ⟨p, List.mem_cons_of_mem _ hp, hy⟩
    · refine ⟨_, List.mem_cons_self .., ?_⟩
      have : (ix2 t k : S48x5120.Idx) = (rH ⟨n, hn⟩).emb (ix2 t ⟨k.val % 256, by omega⟩) := by
        rw [emb_rH]; congr 1; apply Fin.ext; show k.val = 256 * n + k.val % 256; omega
      rw [this]; exact emb_mem _ _

theorem canonQ (t : Fin 48) (k : Fin 5120) :
    View.canon (qPieces (F := Ideal) inv h g 20 (by omega)) (ix2 t k) = qVal inv h g t k := by
  rw [View.canon_apply_of_pieces (qArr inv h g) _ (qPieces_of inv h g 20 (by omega)).mem _
    (qPieces_cover inv h g 20 (by omega) t k (by omega))]
  rfl

/-! ## The row of scales -/

theorem scan_step (a b : FVec Ideal S48x128 .f32) (n : ℕ) (hn : n < 128) (t : Fin 48) (l : Fin 128) :
    select (cmpi .eq (iota .tc S48x128 32 [1] iota_S48x128_d1_w32) (broadcast S48x128 (BitVec.ofNat 32 n))) a b (ix2 t l)
      = if l.val = n then a (ix2 t l) else b (ix2 t l) := by
  pointwise []
  rw [WordCmp.cmpi_eq_eq_toNat, WordCmp.select_ofBool]
  simp only [BitVec.toNat_ofNat]
  rw [Nat.mod_eq_of_lt (by omega), Nat.mod_eq_of_lt (by omega)]
  simp only [decide_eq_true_eq]

theorem scanV_apply : ∀ (n : ℕ) (hn : n ≤ 20) (t : Fin 48) (l : Fin 128), (hl : l.val < n) →
    scanV (F := Ideal) inv h g n hn (ix2 t l) = bS inv h g t ⟨l.val, by omega⟩
  | 0, _, _, _, hl => absurd hl (by omega)
  | n + 1, hn, t, l, hl => by
    unfold scanV
    rw [scan_step _ _ n (by omega)]
    by_cases e : l.val = n
    · rw [if_pos e]
      have e2 : ∀ a : FVec Ideal S48x1 .f32, broadcastTo S48x128 (shapeCast S48x1 a shapeCasts_S48x1_S48x1)
          broadcasts_S48x1_S48x128 (ix2 t l) = a (ix2 t 0) := by intro a; pointwise []
      rw [e2, pay251_apply]
      subst e
      rfl
    · rw [if_neg e, scanV_apply n (by omega) t l (by omega)]

theorem scales_apply (t : Fin 48) (b : Fin 20) :
    k0_pay261 (F := Ideal) (scanV inv h g 20 (by omega)) (ix2 t b) = bS inv h g t b := by
  pointwise [k0_pay261]
  rw [scanV_apply _ _ _ 20 (by omega) t _ b.isLt]

/-! ## The lanes of sums -/

/-- Lane `l` of the sums times the scales. -/
def xLane (t : Fin 48) (l : Fin 256) : EReal :=
  if l.val < 128 then ((bU inv h g t ⟨l.val % 16, by omega⟩ ⟨l.val % 128 / 16, by omega⟩ : ℝ) : EReal) * bS inv h g t ⟨l.val % 16, by omega⟩
  else if hl : l.val < 192 ∧ l.val % 8 < 4 then
    ((bU inv h g t ⟨16 + l.val % 8, by omega⟩ ⟨(l.val - 128) / 8, by omega⟩ : ℝ) : EReal) * bS inv h g t ⟨16 + l.val % 8, by omega⟩
  else 0

theorem rot_apply (a : FVec Ideal S48x128 .f32) (n : ℕ) (hn : n < 128) (t : Fin 48) (l : Fin 128) :
    dynamicRotate 1 (BitVec.ofNat 32 n) none a rotates_S48x128_d1 (ix2 t l)
      = a (ix2 t ⟨(l.val + 128 - n) % 128, by omega⟩) := by
  unfold dynamicRotate
  refine congrArg a ?_
  funext b; apply Fin.ext
  match b with
  | ⟨0, _⟩ => rfl
  | ⟨1, _⟩ =>
    show (l.val + 128 - ((BitVec.ofNat 32 n).toNat + 0) % 128) % 128 = (l.val + 128 - n) % 128
    rw [BitVec.toNat_ofNat, Nat.mod_eq_of_lt (by omega : n < 2 ^ 32)]
    congr 1; omega

theorem slice0_apply (a : FVec Ideal S48x256 .f32) (t : Fin 48) (l : Fin 128) :
    extractStridedSlice S48x128 ![0, 0] a slices_S48x256_o0_0_S48x128 (ix2 t l) = a (ix2 t ⟨l.val, by omega⟩) := by
  pointwise []

theorem slice1_apply (a : FVec Ideal S48x256 .f32) (t : Fin 48) (l : Fin 128) :
    extractStridedSlice S48x128 ![0, 128] a slices_S48x256_o0_128_S48x128 (ix2 t l) = a (ix2 t ⟨128 + l.val, by omega⟩) := by
  pointwise []

/-- A block's lower sums, rolled to its lane. -/
theorem sV_lo (b : Fin 20) (hb : b.val < 16) (t : Fin 48) (l : Fin 128) (y : Fin 256) (hy : y.val = (l.val + 128 - b.val) % 128) :
    sV (F := Ideal) inv (h b) (g b) (ix2 t y)
      = if l.val % 16 = b.val then ((bU inv h g t b ⟨l.val / 16, by omega⟩ : ℝ) : EReal) * bS inv h g t b else 0 := by
  by_cases e : l.val % 16 = b.val
  · rw [if_pos e]
    refine sV_col _ _ _ _ _ _ fun i => ?_
    unfold sumCol
    rw [Bool.eq_iff_iff]
    simp only [Bool.or_eq_true, Bool.and_eq_true, decide_eq_true_eq, Fin.ext_iff]
    omega
  · rw [if_neg e]
    refine sV_none _ _ _ _ _ fun i => ?_
    unfold sumCol
    rw [Bool.eq_false_iff]
    simp only [ne_eq, Bool.or_eq_true, Bool.and_eq_true, decide_eq_true_eq]
    omega

theorem sV_hi (b : Fin 20) (n : ℕ) (hb : b.val = 16 + n) (t : Fin 48) (l : Fin 128) (y : Fin 256)
    (hy : y.val = 128 + (l.val + 128 - n) % 128) :
    sV (F := Ideal) inv (h b) (g b) (ix2 t y)
      = if hl : l.val < 64 ∧ l.val % 8 = n then ((bU inv h g t b ⟨l.val / 8, by omega⟩ : ℝ) : EReal) * bS inv h g t b else 0 := by
  by_cases e : l.val < 64 ∧ l.val % 8 = n
  · rw [dif_pos e]
    refine sV_col _ _ _ _ _ _ fun i => ?_
    unfold sumCol
    rw [Bool.eq_iff_iff]
    simp only [Bool.or_eq_true, Bool.and_eq_true, decide_eq_true_eq, Fin.ext_iff]
    omega
  · rw [dif_neg e]
    refine sV_none _ _ _ _ _ fun i => ?_
    unfold sumCol
    rw [Bool.eq_false_iff]
    simp only [ne_eq, Bool.or_eq_true, Bool.and_eq_true, decide_eq_true_eq]
    omega

theorem add_apply48 (a b : FVec Ideal S48x128 .f32) (t : Fin 48) (l : Fin 128) :
    addf a b (ix2 t l) = a (ix2 t l) + b (ix2 t l) := by pointwise []

theorem zero_apply48 (t : Fin 48) (l : Fin 128) :
    broadcast S48x128 (Scalar.ofBits (F := Ideal) .f32 0x00000000#32) (ix2 t l) = (0 : EReal) := by pointwise []

theorem loV_apply : ∀ (n : ℕ) (hn : n < 16) (t : Fin 48) (l : Fin 128),
    loV (F := Ideal) inv h g n hn (ix2 t l)
      = if l.val % 16 ≤ n then ((bU inv h g t ⟨l.val % 16, by omega⟩ ⟨l.val / 16, by omega⟩ : ℝ) : EReal)
          * bS inv h g t ⟨l.val % 16, by omega⟩ else 0
  | 0, hn, t, l => by
    unfold loV
    rw [add_apply48, zero_apply48, zero_add, slice0_apply, sV_lo inv h g 0 (by decide) t l _ (by show l.val = (l.val + 128 - 0) % 128; omega)]
    by_cases e : l.val % 16 = 0
    · rw [if_pos (show l.val % 16 = (0 : Fin 20).val from e), if_pos (by omega)]
      have : (⟨l.val % 16, by omega⟩ : Fin 20) = 0 := Fin.ext e
      rw [this]
    · rw [if_neg (show ¬ l.val % 16 = (0 : Fin 20).val from e), if_neg (by omega)]
  | n + 1, hn, t, l => by
    unfold loV
    rw [add_apply48, loV_apply n (by omega) t l, rot_apply _ _ (by omega), slice0_apply,
      sV_lo inv h g ⟨n + 1, by omega⟩ hn t l _ rfl]
    by_cases e : l.val % 16 = n + 1
    · rw [if_pos e, if_neg (show ¬ l.val % 16 ≤ n by omega), if_pos (show l.val % 16 ≤ n + 1 by omega), zero_add]
      have : (⟨l.val % 16, by omega⟩ : Fin 20) = ⟨n + 1, by omega⟩ := Fin.ext e
      rw [this]
    · rw [if_neg e, add_zero]
      by_cases e2 : l.val % 16 ≤ n
      · rw [if_pos e2, if_pos (by omega)]
      · rw [if_neg e2, if_neg (by omega)]

theorem hiV_apply : ∀ (n : ℕ) (hn : n < 4) (t : Fin 48) (l : Fin 128),
    hiV (F := Ideal) inv h g n hn (ix2 t l)
      = if hl : l.val < 64 ∧ l.val % 8 ≤ n then ((bU inv h g t ⟨16 + l.val % 8, by omega⟩ ⟨l.val / 8, by omega⟩ : ℝ) : EReal)
          * bS inv h g t ⟨16 + l.val % 8, by omega⟩ else 0
  | 0, hn, t, l => by
    unfold hiV
    rw [add_apply48, zero_apply48, zero_add, slice1_apply, sV_hi inv h g 16 0 (by decide) t l _ (by show 128 + l.val = 128 + (l.val + 128 - 0) % 128; omega)]
    by_cases e : l.val < 64 ∧ l.val % 8 = 0
    · rw [dif_pos e, dif_pos (by omega)]
      have : (⟨16 + l.val % 8, by omega⟩ : Fin 20) = 16 := Fin.ext (by show 16 + l.val % 8 = 16; omega)
      rw [this]
    · rw [dif_neg e, dif_neg (by omega)]
  | n + 1, hn, t, l => by
    unfold hiV
    rw [add_apply48, hiV_apply n (by omega) t l, rot_apply _ _ (by omega), slice1_apply,
      sV_hi inv h g ⟨16 + (n + 1), by omega⟩ (n + 1) rfl t l _ rfl]
    by_cases e : l.val < 64 ∧ l.val % 8 = n + 1
    · rw [dif_pos e, dif_neg (show ¬ (l.val < 64 ∧ l.val % 8 ≤ n) by omega),
        dif_pos (show l.val < 64 ∧ l.val % 8 ≤ n + 1 by omega), zero_add]
      have : (⟨16 + l.val % 8, by omega⟩ : Fin 20) = ⟨16 + (n + 1), by omega⟩ := Fin.ext (by show 16 + l.val % 8 = 16 + (n + 1); omega)
      rw [this]
    · rw [dif_neg e, add_zero]
      by_cases e2 : l.val < 64 ∧ l.val % 8 ≤ n
      · rw [dif_pos e2, dif_pos (by omega)]
      · rw [dif_neg e2, dif_neg (by omega)]

theorem cat_apply (a b : FVec Ideal S48x128 .f32) (t : Fin 48) (l : Fin 256) :
    concatenate S48x256 1 [⟨S48x128, a⟩, ⟨S48x128, b⟩] concatenates_S48x128_S48x128_S48x256_d1 (ix2 t l)
      = if hl : l.val < 128 then a (ix2 t ⟨l.val, hl⟩) else b (ix2 t ⟨l.val - 128, by omega⟩) := by
  pointwise []

theorem xV_apply (t : Fin 48) (l : Fin 256) : xV (F := Ideal) inv h g (ix2 t l) = xLane inv h g t l := by
  unfold xV xLane
  rw [cat_apply]
  by_cases e : l.val < 128
  · rw [dif_pos e, if_pos e, loV_apply, if_pos (by show l.val % 16 ≤ 15; omega)]
    have : (⟨l.val / 16, by omega⟩ : Fin 8) = ⟨l.val % 128 / 16, by omega⟩ := Fin.ext (by show l.val / 16 = l.val % 128 / 16; omega)
    rw [this]
  · rw [dif_neg e, if_neg e, hiV_apply]
    by_cases e2 : l.val < 192 ∧ l.val % 8 < 4
    · rw [dif_pos e2, dif_pos (by show l.val - 128 < 64 ∧ (l.val - 128) % 8 ≤ 3; omega)]
      have : (⟨16 + (l.val - 128) % 8, by omega⟩ : Fin 20) = ⟨16 + l.val % 8, by omega⟩ :=
        Fin.ext (by show 16 + (l.val - 128) % 8 = 16 + l.val % 8; omega)
      simp only [this]
    · rw [dif_neg e2, dif_neg (by show ¬ (l.val - 128 < 64 ∧ (l.val - 128) % 8 ≤ 3); omega)]

end Cert.Q4k

end
-- ==== Proof.Rows.lean ====
/-
  The rows of the tile the kernel multiplies at one block: row `x` below 256 is the nibble `x` of the block times the
  upper three bits of its scale, row `256 + x` the same nibble times the lower three bits. So what a block adds is
  `asb * (d * Σ_x a(x) * row(x))`.
-/
module

public import proofs.«01_k».proof.Proof.Kern
public import proofs.«01_k».proof.Proof.Bits
public import Idealize.ShloMosaic.Lib.Pointwise
public import Idealize.ShloMosaic.Lib.BitcastPair
public import Idealize.ShloMosaic.Lib.WordCmp

@[expose] public section

noncomputable section

namespace Cert.Q4k

open Cert.KernelIdeal Cert.KernelIdeal.Gen Idealize.ShloMosaic Idealize.ShloMosaic.TcCoe

theorem bitcast_rows256 (x : S128x512.Idx → BitVec 32) (h : S128x512.Bitcasts 32 S256x512 16) (r : Fin 256) (n : Fin 512) :
    bitcast S256x512 16 x h (ix2 r n) = (x (ix2 ⟨r.val / 2, by omega⟩ n)).extractLsb' (16 * (r.val % 2)) 16 := by
  rw [bitcast_32_16]
  have e : ∀ hp, h.srcIdx (ix2 r n) (S256x512.row (ix2 r n) / 2) hp = ix2 ⟨r.val / 2, by omega⟩ n := by
    intro hp
    funext a; apply Fin.ext; match a with | ⟨0, _⟩ => rfl | ⟨1, _⟩ => rfl
  rw [e]
  rfl

theorem bitcast_rows64 (x : S32x512.Idx → BitVec 32) (h : S32x512.Bitcasts 32 S64x512 16) (r : Fin 64) (n : Fin 512) :
    bitcast S64x512 16 x h (ix2 r n) = (x (ix2 ⟨r.val / 2, by omega⟩ n)).extractLsb' (16 * (r.val % 2)) 16 := by
  rw [bitcast_32_16]
  have e : ∀ hp, h.srcIdx (ix2 r n) (S64x512.row (ix2 r n) / 2) hp = ix2 ⟨r.val / 2, by omega⟩ n := by
    intro hp
    funext a; apply Fin.ext; match a with | ⟨0, _⟩ => rfl | ⟨1, _⟩ => rfl
  rw [e]
  rfl

/-- The nibble rows of a tile. -/
theorem pay365_apply (w : Vec Ideal S1x512x128 .i8) (r : Fin 256) (n : Fin 512) :
    k0_pay365 (F := Ideal) w (ix2 r n)
      = ((nib (w (ix3 0 n ⟨r.val / 2, by omega⟩)) ⟨r.val % 2, by omega⟩ : ℝ) : EReal) := by
  pointwise [k0_pay365]
  rw [bitcast_rows256]
  have e : ∀ a : Fin 128, (ori
        (andi
          (extui 32
            (transpose S128x512 [1, 0] (shapeCast S512x128 w shapeCasts_S1x512x128_S512x128)
              transposes_S512x128_p1_0_S128x512)
            natLt_8_32)
          (broadcast S128x512 15#32))
        (shli
          (shrsi
            (extui 32
              (transpose S128x512 [1, 0] (shapeCast S512x128 w shapeCasts_S1x512x128_S512x128)
                transposes_S512x128_p1_0_S128x512)
              natLt_8_32)
            (broadcast S128x512 4#32))
          (broadcast S128x512 16#32))) (ix2 a n) = nibWord (w (ix3 0 n a)) := by
    intro a
    pointwise []
    rfl
  rw [e]
  have := nibWord_half (w (ix3 0 n ⟨r.val / 2, by omega⟩)) ⟨r.val % 2, by omega⟩
  show ((((nibWord (w (ix3 0 n ⟨r.val / 2, by omega⟩))).extractLsb' (16 * (r.val % 2)) 16).toInt : ℝ) : EReal) = _
  rw [this]; simp

/-- The half of a word, as a number. -/
def halfV (x : BitVec 32) (i : ℕ) : EReal := Ideal.ofBits .bf16 (x.extractLsb' (16 * (i % 2)) 16)

theorem half_apply (P : Vec Ideal S1x1x1x512 .i32) (h1 h2 h3) (r : Fin 64) (n : Fin 512) :
    Ideal.ofBits FTy.bf16
        (bitcast S64x512 16 (broadcastTo S32x512 (shapeCast S1x512 P h1) h2) h3 (ix2 r n))
      = halfV (P (ix4 0 0 0 n)) r.val := by
  rw [bitcast_rows64]
  unfold halfV
  congr 2
  pointwise []

/-- Row `x` of the tile at one block. -/
def rowV (w : Vec Ideal S1x512x128 .i8) (P : Fin 2 → Fin 4 → Vec Ideal S1x1x1x512 .i32) (x : Fin 512) (n : Fin 512) : EReal :=
  ((nib (w (ix3 0 n ⟨x.val % 256 / 2, by omega⟩)) ⟨x.val % 2, by omega⟩ : ℝ) : EReal)
    * halfV (P ⟨x.val / 256, by omega⟩ ⟨x.val % 256 / 64, by omega⟩ (ix4 0 0 0 n)) x.val

theorem rowV_of (w : Vec Ideal S1x512x128 .i8) (P : Fin 2 → Fin 4 → Vec Ideal S1x1x1x512 .i32) (x : Fin 512) (n : Fin 512)
    (p : Fin 2) (c : Fin 4) (r : Fin 64) (q : Fin 256) (hx : x.val = 256 * p.val + 64 * c.val + r.val)
    (hq : q.val = 64 * c.val + r.val) :
    k0_pay365 (F := Ideal) w (ix2 q n) * halfV (P p c (ix4 0 0 0 n)) r.val = rowV w P x n := by
  rw [pay365_apply]
  unfold rowV halfV
  have e1 : x.val % 256 = q.val := by omega
  have e2 : x.val % 2 = q.val % 2 := by omega
  have e3 : (⟨x.val / 256, by omega⟩ : Fin 2) = p := Fin.ext (by simp; omega)
  have e4 : (⟨x.val % 256 / 64, by omega⟩ : Fin 4) = c := Fin.ext (by simp; omega)
  have e5 : r.val % 2 = q.val % 2 := by omega
  simp only [e1, e2, e5] at e3 e4 ⊢
  rw [e3, e4]

theorem pay366_apply (w : Vec Ideal S1x512x128 .i8) (r : Fin 64) (n : Fin 512) :
    k0_pay366 (F := Ideal) w (ix2 r n) = k0_pay365 (F := Ideal) w (ix2 ⟨r.val, by omega⟩ n) := by
  pointwise [k0_pay366]

theorem pay367_apply (P : Vec Ideal S1x1x1x512 .i32) (r : Fin 64) (n : Fin 512) :
    k0_pay367 (F := Ideal) P (ix2 r n) = halfV (P (ix4 0 0 0 n)) r.val := by
  pointwise [k0_pay367]
  exact half_apply _ _ _ _ _ _

theorem pay368_apply (a b : FVec Ideal S64x512 .bf16) (r : Fin 64) (n : Fin 512) :
    k0_pay368 (F := Ideal) a b (ix2 r n) = a (ix2 r n) * b (ix2 r n) := by
  pointwise [k0_pay368]

theorem pay369_apply (q : FVec Ideal S256x512 .bf16) (P : Vec Ideal S1x1x1x512 .i32) (r : Fin 64) (n : Fin 512) :
    k0_pay369 (F := Ideal) q P (ix2 r n) = q (ix2 ⟨64 + r.val, by omega⟩ n) * halfV (P (ix4 0 0 0 n)) r.val := by
  pointwise [k0_pay369]
  rw [half_apply]

theorem pay370_apply (q : FVec Ideal S256x512 .bf16) (P : Vec Ideal S1x1x1x512 .i32) (r : Fin 64) (n : Fin 512) :
    k0_pay370 (F := Ideal) q P (ix2 r n) = q (ix2 ⟨128 + r.val, by omega⟩ n) * halfV (P (ix4 0 0 0 n)) r.val := by
  pointwise [k0_pay370]
  rw [half_apply]

theorem pay371_apply (q : FVec Ideal S256x512 .bf16) (P : Vec Ideal S1x1x1x512 .i32) (r : Fin 64) (n : Fin 512) :
    k0_pay371 (F := Ideal) q P (ix2 r n) = q (ix2 ⟨192 + r.val, by omega⟩ n) * halfV (P (ix4 0 0 0 n)) r.val := by
  pointwise [k0_pay371]
  rw [half_apply]

theorem pay372_apply (q : FVec Ideal S256x512 .bf16) (P : Vec Ideal S1x1x1x512 .i32) (r : Fin 64) (n : Fin 512) :
    k0_pay372 (F := Ideal) q P (ix2 r n) = q (ix2 ⟨0 + r.val, by omega⟩ n) * halfV (P (ix4 0 0 0 n)) r.val := by
  pointwise [k0_pay372]
  rw [half_apply]

theorem pay373_apply (q : FVec Ideal S256x512 .bf16) (P : Vec Ideal S1x1x1x512 .i32) (r : Fin 64) (n : Fin 512) :
    k0_pay373 (F := Ideal) q P (ix2 r n) = q (ix2 ⟨64 + r.val, by omega⟩ n) * halfV (P (ix4 0 0 0 n)) r.val := by
  pointwise [k0_pay373]
  rw [half_apply]

theorem blk_apply (acc : FVec Ideal S48x512 .f32) (w : Vec Ideal S1x512x128 .i8) (P : Fin 2 → Fin 4 → Vec Ideal S1x1x1x512 .i32)
    (a : Vec Ideal S1x48x512 .bf16) (asb : Vec Ideal S1x48x128 .f32) (df : Vec Ideal S1x512 .f32) (t : Fin 48) (n : Fin 512) :
    blk (F := Ideal) acc w P a asb df (ix2 t n)
      = acc (ix2 t n) + asb (ix3 0 t ⟨n.val % 128, by omega⟩) * (df (ix2 0 n) * ∑ x, a (ix3 0 t x) * rowV w P x n) := by
  pointwise [blk, k0_pay374]
  have e : ∀ (h : 0 < 128), (if h : n.val < 128 then asb (ix3 0 t ⟨n.val, h⟩)
        else
          if h : n.val - 128 < 128 then asb (ix3 0 t ⟨n.val - 128, h⟩)
          else
            if h : n.val - 128 - 128 < 128 then asb (ix3 0 t ⟨n.val - 128 - 128, h⟩)
            else asb (ix3 0 t ⟨n.val - 128 - 128 - 128, by omega⟩)) = asb (ix3 0 t ⟨n.val % 128, by omega⟩) := by
    intro _
    split_ifs <;> congr 2 <;> apply Fin.ext <;> simp <;> omega
  rw [e (by decide)]
  congr 3
  refine Finset.sum_congr rfl fun x _ => ?_
  congr 1
  by_cases h0 : x.val < 64
  · rw [dif_pos h0, pay368_apply, pay366_apply, pay367_apply]
    exact rowV_of w P x n 0 0 ⟨x.val, h0⟩ _ (by simp; try omega) (by simp)
  rw [dif_neg h0]
  by_cases h1 : x.val - 64 < 64
  · rw [dif_pos h1, pay369_apply]
    exact rowV_of w P x n 0 1 ⟨x.val - 64, h1⟩ _ (by simp; try omega) (by simp)
  rw [dif_neg h1]
  by_cases h2 : x.val - 64 - 64 < 64
  · rw [dif_pos h2, pay370_apply]
    exact rowV_of w P x n 0 2 ⟨x.val - 64 - 64, h2⟩ _ (by simp; try omega) (by simp)
  rw [dif_neg h2]
  by_cases h3 : x.val - 64 - 64 - 64 < 64
  · rw [dif_pos h3, pay371_apply]
    exact rowV_of w P x n 0 3 ⟨x.val - 64 - 64 - 64, h3⟩ _ (by simp; try omega) (by simp)
  rw [dif_neg h3]
  by_cases h4 : x.val - 64 - 64 - 64 - 64 < 64
  · rw [dif_pos h4, pay372_apply]
    exact rowV_of w P x n 1 0 ⟨x.val - 64 - 64 - 64 - 64, h4⟩ _ (by simp; try omega) (by simp)
  rw [dif_neg h4]
  by_cases h5 : x.val - 64 - 64 - 64 - 64 - 64 < 64
  · rw [dif_pos h5, pay373_apply]
    exact rowV_of w P x n 1 1 ⟨x.val - 64 - 64 - 64 - 64 - 64, h5⟩ _ (by simp; try omega) (by simp)
  rw [dif_neg h5]
  by_cases h6 : x.val - 64 - 64 - 64 - 64 - 64 - 64 < 64
  · rw [dif_pos h6, half_apply]
    exact rowV_of w P x n 1 2 ⟨x.val - 64 - 64 - 64 - 64 - 64 - 64, h6⟩ _ (by simp; try omega) (by simp)
  rw [dif_neg h6]
  rw [half_apply]
  exact rowV_of w P x n 1 3 ⟨x.val - 64 - 64 - 64 - 64 - 64 - 64 - 64, by omega⟩ _ (by simp; try omega) (by simp)

theorem acc0_apply (z : Fin 3 → Vec Ideal S1x192x512 .bf16) (x3 : Vec Ideal S144x192 .bf16) (x2 : Vec Ideal S96x192 .bf16)
    (x1 : Vec Ideal S48x192 .bf16) (t : Fin 48) (n : Fin 512) :
    acc0 (F := Ideal) z x3 x2 x1 (ix2 t n) =
      0 - (∑ x, x1 (ix2 t x) * z 2 (ix3 0 x n) + ∑ x, x2 (ix2 ⟨48 + t.val, by omega⟩ x) * z 1 (ix3 0 x n) +
            ∑ x, x3 (ix2 ⟨96 + t.val, by omega⟩ x) * z 0 (ix3 0 x n) +
          (∑ x, x2 (ix2 ⟨t.val, by omega⟩ x) * z 1 (ix3 0 x n) + ∑ x, x3 (ix2 ⟨48 + t.val, by omega⟩ x) * z 0 (ix3 0 x n)) +
        ∑ x, x3 (ix2 ⟨t.val, by omega⟩ x) * z 0 (ix3 0 x n)) := by
  pointwise [acc0, k0_pay364, k0_pay362, k0_pay363]

theorem pay344_apply (a : IVec S20x512 32) (b c d : FVec Ideal S20x512 .f32) (j : S20x512.Idx) :
    k0_pay344 (F := Ideal) a b c d j = if (a j).slt 1024#32 then c j - d j else b j := by
  pointwise [k0_pay344]
  exact WordCmp.select_ofBool _ _ _

end Cert.Q4k

end
-- ==== Proof.ProdK.lean ====
/-
  One product of the kernel equals the product in plain words: the halves of the scales put together (8 · upper three
  bits + lower three bits), the interleaved order of the codes undone, and the minima's rows gathered by block.
-/
module

public import proofs.«01_k».proof.Proof.Rows
public import proofs.«01_k».proof.Proof.QArr

@[expose] public section

noncomputable section

namespace Cert.Q4k

open Cert.KernelIdeal Cert.KernelIdeal.Gen Idealize.ShloMosaic Idealize.ShloMosaic.TcCoe

/-! ## Sums taken apart -/

def halvesEquiv : Fin 2 × Fin 256 ≃ Fin 512 where
  toFun p := ⟨256 * p.1.val + p.2.val, by have := p.1.isLt; have := p.2.isLt; omega⟩
  invFun x := (⟨x.val / 256, by omega⟩, ⟨x.val % 256, by omega⟩)
  left_inv p := Prod.ext (Fin.ext (by have := p.2.isLt; show (256 * p.1.val + p.2.val) / 256 = p.1.val; omega))
    (Fin.ext (by have := p.2.isLt; show (256 * p.1.val + p.2.val) % 256 = p.2.val; omega))
  right_inv x := Fin.ext (by show 256 * (x.val / 256) + x.val % 256 = x.val; omega)

theorem sum_halves (f : Fin 512 → ℝ) :
    ∑ x, f x = ∑ y : Fin 256, (f ⟨y.val, by omega⟩ + f ⟨256 + y.val, by omega⟩) := by
  rw [← halvesEquiv.sum_comp f, Fintype.sum_prod_type, Fin.sum_univ_two, ← Finset.sum_add_distrib]
  refine Finset.sum_congr rfl fun y _ => ?_
  congr 2
  apply Fin.ext; show 256 * 0 + y.val = y.val; omega

def permEquiv : Fin 2 × (Fin 4 × Fin 32) ≃ Fin 256 where
  toFun p := ⟨64 * p.2.1.val + 2 * p.2.2.val + p.1.val, by have := p.1.isLt; have := p.2.1.isLt; have := p.2.2.isLt; omega⟩
  invFun x := (⟨x.val % 2, by omega⟩, ⟨x.val / 64, by omega⟩, ⟨x.val % 64 / 2, by omega⟩)
  left_inv p := by
    obtain ⟨h, c, l⟩ := p
    have := h.isLt; have := c.isLt; have := l.isLt
    refine Prod.ext (Fin.ext ?_) (Prod.ext (Fin.ext ?_) (Fin.ext ?_))
    · show (64 * c.val + 2 * l.val + h.val) % 2 = h.val; omega
    · show (64 * c.val + 2 * l.val + h.val) / 64 = c.val; omega
    · show (64 * c.val + 2 * l.val + h.val) % 64 / 2 = l.val; omega
  right_inv x := Fin.ext (by show 64 * (x.val / 64) + 2 * (x.val % 64 / 2) + x.val % 2 = x.val; omega)

theorem sum_perm (f : Fin 256 → ℝ) :
    ∑ x, f x = ∑ h : Fin 2, ∑ c : Fin 4, ∑ l : Fin 32, f ⟨64 * c.val + 2 * l.val + h.val, by omega⟩ := by
  rw [← permEquiv.sum_comp f, Fintype.sum_prod_type]
  refine Finset.sum_congr rfl fun h _ => ?_
  rw [Fintype.sum_prod_type]
  rfl

def minEquiv : Fin 8 × Fin 24 ≃ Fin 192 where
  toFun p := ⟨if p.2.val < 16 then 16 * p.1.val + p.2.val else 128 + 8 * p.1.val + (p.2.val - 16), by
    have := p.1.isLt; have := p.2.isLt; split <;> omega⟩
  invFun x := (⟨if x.val < 128 then x.val / 16 else (x.val - 128) / 8, by have := x.isLt; split <;> omega⟩,
    ⟨if x.val < 128 then x.val % 16 else 16 + x.val % 8, by split <;> omega⟩)
  left_inv p := by
    obtain ⟨j, m⟩ := p
    have := j.isLt; have := m.isLt
    refine Prod.ext (Fin.ext ?_) (Fin.ext ?_)
    · show (if (if m.val < 16 then 16 * j.val + m.val else 128 + 8 * j.val + (m.val - 16)) < 128 then
        (if m.val < 16 then 16 * j.val + m.val else 128 + 8 * j.val + (m.val - 16)) / 16 else
        ((if m.val < 16 then 16 * j.val + m.val else 128 + 8 * j.val + (m.val - 16)) - 128) / 8) = j.val
      split_ifs <;> omega
    · show (if (if m.val < 16 then 16 * j.val + m.val else 128 + 8 * j.val + (m.val - 16)) < 128 then
        (if m.val < 16 then 16 * j.val + m.val else 128 + 8 * j.val + (m.val - 16)) % 16 else
        16 + (if m.val < 16 then 16 * j.val + m.val else 128 + 8 * j.val + (m.val - 16)) % 8) = m.val
      split_ifs <;> omega
  right_inv x := by
    have := x.isLt
    refine Fin.ext ?_
    show (if (if x.val < 128 then x.val % 16 else 16 + x.val % 8) < 16 then
        16 * (if x.val < 128 then x.val / 16 else (x.val - 128) / 8) + (if x.val < 128 then x.val % 16 else 16 + x.val % 8)
      else 128 + 8 * (if x.val < 128 then x.val / 16 else (x.val - 128) / 8)
        + ((if x.val < 128 then x.val % 16 else 16 + x.val % 8) - 16)) = x.val
    split_ifs <;> omega

/-- The lower sixteen blocks' lanes, then the upper four's. -/
def laneG (G : Fin 20 → Fin 8 → ℝ) (x : Fin 192) : ℝ :=
  if x.val < 128 then G ⟨x.val % 16, by omega⟩ ⟨x.val % 128 / 16, by omega⟩
  else if h : x.val % 8 < 4 then G ⟨16 + x.val % 8, by omega⟩ ⟨(x.val - 128) / 8, by omega⟩ else 0

theorem sum_lanes (G : Fin 20 → Fin 8 → ℝ) : ∑ x, laneG G x = ∑ b, ∑ j, G b j := by
  rw [← minEquiv.sum_comp (laneG G), Fintype.sum_prod_type, Finset.sum_comm]
  have e : ∀ (m : Fin 24) (j : Fin 8), laneG G (minEquiv (j, m)) = if h : m.val < 20 then G ⟨m.val, h⟩ j else 0 := by
    intro m j
    have hv : (minEquiv (j, m)).val = if m.val < 16 then 16 * j.val + m.val else 128 + 8 * j.val + (m.val - 16) := rfl
    have := j.isLt; have := m.isLt
    unfold laneG
    by_cases h1 : m.val < 16
    · rw [if_pos h1] at hv
      rw [if_pos (by rw [hv]; omega), dif_pos (by omega)]
      have e1 : (⟨(minEquiv (j, m)).val % 16, by omega⟩ : Fin 20) = ⟨m.val, by omega⟩ := Fin.ext (by show (minEquiv (j, m)).val % 16 = m.val; omega)
      have e2 : (⟨(minEquiv (j, m)).val % 128 / 16, by omega⟩ : Fin 8) = j := Fin.ext (by show (minEquiv (j, m)).val % 128 / 16 = j.val; omega)
      rw [e1, e2]
    · rw [if_neg h1] at hv
      rw [if_neg (by rw [hv]; omega)]
      by_cases h2 : m.val < 20
      · rw [dif_pos (by rw [hv]; omega), dif_pos h2]
        have e1 : (⟨16 + (minEquiv (j, m)).val % 8, by omega⟩ : Fin 20) = ⟨m.val, by omega⟩ := Fin.ext (by show 16 + (minEquiv (j, m)).val % 8 = m.val; omega)
        have e2 : (⟨((minEquiv (j, m)).val - 128) / 8, by omega⟩ : Fin 8) = j := Fin.ext (by show ((minEquiv (j, m)).val - 128) / 8 = j.val; omega)
        rw [e1, e2]
      · rw [dif_neg (by rw [hv]; omega), dif_neg h2]
  rw [show (∑ m : Fin 24, ∑ j : Fin 8, laneG G (minEquiv (j, m))) = ∑ m : Fin 24, ∑ j : Fin 8, (if h : m.val < 20 then G ⟨m.val, h⟩ j else 0) from
    Finset.sum_congr rfl fun m _ => Finset.sum_congr rfl fun j _ => e m j]
  rw [← Finset.sum_range (fun m => ∑ j : Fin 8, (if h : m < 20 then G ⟨m, h⟩ j else 0)),
    show (24 : ℕ) = 20 + 4 from rfl, Finset.sum_range_add,
    Finset.sum_range (fun m => ∑ j : Fin 8, (if h : m < 20 then G ⟨m, h⟩ j else 0))]
  have z : ∑ x ∈ Finset.range 4, ∑ j : Fin 8, (if h : 20 + x < 20 then G ⟨20 + x, h⟩ j else 0) = 0 :=
    Finset.sum_eq_zero fun x _ => Finset.sum_eq_zero fun j _ => dif_neg (by omega)
  rw [z, add_zero]
  refine Finset.sum_congr rfl fun b _ => Finset.sum_congr rfl fun j _ => ?_
  rw [dif_pos b.isLt]

/-! ## One block -/

/-- The kernel's row of a block, as a real number. -/
def rowR (w : Fin 128 → BitVec 8) (s : Fin 12 → BitVec 8) (x : Fin 512) : ℝ :=
  (nib (w ⟨x.val % 256 / 2, by omega⟩) ⟨x.val % 2, by omega⟩ : ℝ)
    * (pc ⟨x.val / 256, by omega⟩ (scN s ⟨2 * (x.val % 256 / 64) + x.val % 2, by omega⟩) : ℕ)

def aR (q : Fin 256 → ℤ) (x : Fin 512) : ℝ :=
  if x.val < 256 then 8 * (q (permI ⟨x.val % 256, by omega⟩) : ℝ) else (q (permI ⟨x.val % 256, by omega⟩) : ℝ)

theorem sum_row (q : Fin 256 → ℤ) (w : Fin 128 → BitVec 8) (s : Fin 12 → BitVec 8) :
    ∑ x, aR q x * rowR w s x = ((sI q w s : ℤ) : ℝ) := by
  rw [sum_halves]
  have e : ∀ y : Fin 256, aR q ⟨y.val, by omega⟩ * rowR w s ⟨y.val, by omega⟩ + aR q ⟨256 + y.val, by omega⟩ * rowR w s ⟨256 + y.val, by omega⟩
      = (q (permI y) : ℝ) * ((scN s ⟨2 * (y.val / 64) + y.val % 2, by omega⟩ * nib (w ⟨y.val / 2, by omega⟩) ⟨y.val % 2, by omega⟩ : ℕ) : ℝ) := by
    intro y
    have hy := y.isLt
    have m1 : y.val % 256 = y.val := by omega
    have m2 : (256 + y.val) % 256 = y.val := by omega
    have m3 : (256 + y.val) % 2 = y.val % 2 := by omega
    have d1 : (⟨y.val / 256, by omega⟩ : Fin 2) = 0 := Fin.ext (by show y.val / 256 = 0; omega)
    have d2 : (⟨(256 + y.val) / 256, by omega⟩ : Fin 2) = 1 := Fin.ext (by show (256 + y.val) / 256 = 1; omega)
    unfold aR rowR
    rw [if_pos (show (⟨y.val, by omega⟩ : Fin 512).val < 256 from hy), if_neg (show ¬ (⟨256 + y.val, by omega⟩ : Fin 512).val < 256 by show ¬ 256 + y.val < 256; omega)]
    simp only [m1, m2, m3, d1, d2]
    unfold pc
    rw [if_pos rfl, if_neg (by decide)]
    generalize scN s ⟨2 * (y.val / 64) + y.val % 2, by omega⟩ = v
    have hv : (v : ℝ) = 8 * ((v / 8 : ℕ) : ℝ) + ((v % 8 : ℕ) : ℝ) := by exact_mod_cast (Nat.div_add_mod v 8).symm
    rw [Nat.cast_mul, hv]
    push_cast
    ring
  rw [Finset.sum_congr rfl fun y _ => e y, sum_perm]
  unfold sI
  rw [Int.cast_sum]
  refine Finset.sum_congr rfl fun h _ => ?_
  rw [Int.cast_sum]
  refine Finset.sum_congr rfl fun c _ => ?_
  rw [Int.cast_sum]
  refine Finset.sum_congr rfl fun l _ => ?_
  have hh := h.isLt; have hc := c.isLt; have hl := l.isLt
  have e1 : permI ⟨64 * c.val + 2 * l.val + h.val, by omega⟩ = ⟨64 * c.val + 32 * h.val + l.val, by omega⟩ := by
    apply Fin.ext
    show 64 * ((64 * c.val + 2 * l.val + h.val) / 64) + 32 * ((64 * c.val + 2 * l.val + h.val) % 2) + (64 * c.val + 2 * l.val + h.val) % 64 / 2
      = 64 * c.val + 32 * h.val + l.val
    omega
  have e2 : (64 * c.val + 2 * l.val + h.val) / 64 = c.val := by omega
  have e3 : (64 * c.val + 2 * l.val + h.val) % 2 = h.val := by omega
  have e4 : (64 * c.val + 2 * l.val + h.val) / 2 = 32 * c.val + l.val := by omega
  simp only [e1, e2, e3, e4]
  rw [Int.cast_mul, Int.cast_natCast]

/-! ## The whole -/

section Whole

variable (W : Vec Ideal S20x512x128 .i8) (P : Vec Ideal S2x4x20x512 .i32) (Z : Vec Ideal S3x192x512 .bf16)
  (D : Vec Ideal S20x512 .f32) (A : Vec Ideal S20x48x512 .bf16) (S : Vec Ideal S20x48x128 .f32) (X : Vec Ideal S144x256 .bf16)
  (t : Fin 48) (n : Fin 512) (Sv : Fin 20 → EReal) (q : Fin 20 → Fin 256 → ℤ) (s : Fin 20 → Fin 12 → BitVec 8)
  (d dm : Fin 20 → BitVec 16)

/-- The sums of a block's codes. -/
def uZ (q : Fin 256 → ℤ) (j : Fin 8) : ℤ := ∑ l : Fin 32, q ⟨32 * j.val + l.val, by omega⟩

/-- What the arrays hold at row `t` and column `n`. -/
structure Holds : Prop where
  hP : ∀ p c b, P (ix4 p c b n) = pairW (BitVec.ofNat 32 (pc p (scN (s b) ⟨2 * c.val, by omega⟩)))
    (BitVec.ofNat 32 (pc p (scN (s b) ⟨2 * c.val + 1, by omega⟩)))
  hZ : ∀ i r, Z (ix3 i r n) = if i.val = 0 then ((laneG (fun b j => f16V (dm b) * (mnN (s b) j : ℕ)) r : ℝ) : EReal) else 0
  hD : ∀ b, D (ix2 b n) = ((f16V (d b) : ℝ) : EReal)
  hA : ∀ b x, A (ix3 b t x) = ((aR (q b) x : ℝ) : EReal)
  hS : ∀ b l, S (ix3 b t l) = Sv b
  hX : ∀ x : Fin 192, X (ix2 ⟨t.val, by omega⟩ ⟨x.val, by omega⟩) = ((laneG (fun b j => (uZ (q b) j : ℝ) * (Sv b).toReal) x : ℝ) : EReal)
  hX1 : ∀ x : Fin 192, X (ix2 ⟨48 + t.val, by omega⟩ ⟨x.val, by omega⟩) = 0
  hX2 : ∀ x : Fin 192, X (ix2 ⟨96 + t.val, by omega⟩ ⟨x.val, by omega⟩) = 0
  pos : ∀ b, 0 < Sv b
  top : ∀ b, Sv b = ⊤ → ∀ x, q b x = 0

variable {W P Z D A S X t n Sv q s d dm}

theorem lane_mul (G H : Fin 20 → Fin 8 → ℝ) (x : Fin 192) : laneG G x * laneG H x = laneG (fun b j => G b j * H b j) x := by
  unfold laneG
  split_ifs <;> simp

theorem ldZ (i : Fin 3) (z : Fin 1) (x : Fin 192) : View.ld Z (rZ i) (ix3 z x n) = Z (ix3 i x n) := by
  refine congrArg Z ?_
  funext a; apply Fin.ext
  match a with
  | ⟨0, _⟩ => show i.val + 1 * z.val = i.val; omega
  | ⟨1, _⟩ => show 0 + 1 * x.val = x.val; omega
  | ⟨2, _⟩ => show 0 + 1 * n.val = n.val; omega

theorem ldX3 (r : Fin 144) (x : Fin 192) : View.ld X rX3 (ix2 r x) = X (ix2 r ⟨x.val, by omega⟩) := by
  refine congrArg X ?_
  funext a; apply Fin.ext
  match a with
  | ⟨0, _⟩ => show 0 + 1 * r.val = r.val; omega
  | ⟨1, _⟩ => show 0 + 1 * x.val = x.val; omega

theorem ldX2 (r : Fin 96) (x : Fin 192) : View.ld X rX2 (ix2 r x) = X (ix2 ⟨r.val, by omega⟩ ⟨x.val, by omega⟩) := by
  refine congrArg X ?_
  funext a; apply Fin.ext
  match a with
  | ⟨0, _⟩ => show 0 + 1 * r.val = r.val; omega
  | ⟨1, _⟩ => show 0 + 1 * x.val = x.val; omega

theorem ldX1 (r : Fin 48) (x : Fin 192) : View.ld X rX1 (ix2 r x) = X (ix2 ⟨r.val, by omega⟩ ⟨x.val, by omega⟩) := by
  refine congrArg X ?_
  funext a; apply Fin.ext
  match a with
  | ⟨0, _⟩ => show 0 + 1 * r.val = r.val; omega
  | ⟨1, _⟩ => show 0 + 1 * x.val = x.val; omega

theorem acc0_value (H : Holds P Z D A S X t n Sv q s d dm) :
    acc0 (F := Ideal) (fun i => View.ld Z (rZ i)) (View.ld X rX3) (View.ld X rX2) (View.ld X rX1) (ix2 t n)
      = ((-∑ b, ∑ j, (uZ (q b) j : ℝ) * (Sv b).toReal * (f16V (dm b) * (mnN (s b) j : ℕ)) : ℝ) : EReal) := by
  rw [acc0_apply]
  have z1 : ∀ x : Fin 192, View.ld Z (rZ 1) (ix3 0 x n) = (0 : EReal) := fun x => by
    rw [ldZ, H.hZ]; exact if_neg (by decide)
  have z2 : ∀ x : Fin 192, View.ld Z (rZ 2) (ix3 0 x n) = (0 : EReal) := fun x => by
    rw [ldZ, H.hZ]; exact if_neg (by decide)
  have z0 : ∀ x : Fin 192, View.ld Z (rZ 0) (ix3 0 x n) = ((laneG (fun b j => f16V (dm b) * (mnN (s b) j : ℕ)) x : ℝ) : EReal) := fun x => by
    rw [ldZ, H.hZ]; exact if_pos rfl
  have x0 : ∀ x : Fin 192, View.ld X rX3 (ix2 ⟨t.val, by omega⟩ x) = ((laneG (fun b j => (uZ (q b) j : ℝ) * (Sv b).toReal) x : ℝ) : EReal) :=
    fun x => by rw [ldX3, H.hX]
  have x1 : ∀ x : Fin 192, View.ld X rX3 (ix2 ⟨48 + t.val, by omega⟩ x) = (0 : EReal) := fun x => by rw [ldX3, H.hX1]
  have x2 : ∀ x : Fin 192, View.ld X rX3 (ix2 ⟨96 + t.val, by omega⟩ x) = (0 : EReal) := fun x => by rw [ldX3, H.hX2]
  have p0 : ∀ x : Fin 192, View.ld X rX3 (ix2 ⟨t.val, by omega⟩ x) * View.ld Z (rZ 0) (ix3 0 x n)
      = ((laneG (fun b j => (uZ (q b) j : ℝ) * (Sv b).toReal * (f16V (dm b) * (mnN (s b) j : ℕ))) x : ℝ) : EReal) := fun x => by
    rw [x0, z0, ← EReal.coe_mul, lane_mul]
  have s1 : ∑ x, View.ld X rX1 (ix2 t x) * View.ld Z (rZ 2) (ix3 0 x n) = (0 : EReal) :=
    Finset.sum_eq_zero fun x _ => by rw [z2]; exact mul_zero _
  have s2 : ∑ x, View.ld X rX2 (ix2 ⟨48 + t.val, by omega⟩ x) * View.ld Z (rZ 1) (ix3 0 x n) = (0 : EReal) :=
    Finset.sum_eq_zero fun x _ => by rw [z1]; exact mul_zero _
  have s3 : ∑ x, View.ld X rX3 (ix2 ⟨96 + t.val, by omega⟩ x) * View.ld Z (rZ 0) (ix3 0 x n) = (0 : EReal) :=
    Finset.sum_eq_zero fun x _ => by rw [x2]; exact zero_mul _
  have s4 : ∑ x, View.ld X rX2 (ix2 ⟨t.val, by omega⟩ x) * View.ld Z (rZ 1) (ix3 0 x n) = (0 : EReal) :=
    Finset.sum_eq_zero fun x _ => by rw [z1]; exact mul_zero _
  have s5 : ∑ x, View.ld X rX3 (ix2 ⟨48 + t.val, by omega⟩ x) * View.ld Z (rZ 0) (ix3 0 x n) = (0 : EReal) :=
    Finset.sum_eq_zero fun x _ => by rw [x1]; exact zero_mul _
  have s6 : ∑ x, View.ld X rX3 (ix2 ⟨t.val, by omega⟩ x) * View.ld Z (rZ 0) (ix3 0 x n)
      = ((∑ b, ∑ j, (uZ (q b) j : ℝ) * (Sv b).toReal * (f16V (dm b) * (mnN (s b) j : ℕ)) : ℝ) : EReal) := by
    rw [Finset.sum_congr rfl fun x _ => p0 x, coe_sum, sum_lanes]
  rw [s1, s2, s3, s4, s5, s6]
  simp only [zero_add, zero_sub, EReal.coe_neg]

theorem rowV_value (H : Holds P Z D A S X t n Sv q s d dm) (b : Fin 20) (x : Fin 512) :
    rowV (View.ld W (rW b)) (fun p c => View.ld P (rP p c b)) x n
      = ((rowR (fun a => W (ix3 b n a)) (s b) x : ℝ) : EReal) := by
  unfold rowV rowR
  have eW : ∀ a : Fin 128, View.ld W (rW b) (ix3 0 n a) = W (ix3 b n a) := fun a => by
    refine congrArg W ?_
    funext i; apply Fin.ext
    match i with
    | ⟨0, _⟩ => show b.val + 1 * 0 = b.val; omega
    | ⟨1, _⟩ => show 0 + 1 * n.val = n.val; omega
    | ⟨2, _⟩ => show 0 + 1 * a.val = a.val; omega
  have eP : ∀ (p : Fin 2) (c : Fin 4), View.ld P (rP p c b) (ix4 0 0 0 n) = P (ix4 p c b n) := fun p c => by
    refine congrArg P ?_
    funext i; apply Fin.ext
    match i with
    | ⟨0, _⟩ => show p.val + 1 * 0 = p.val; omega
    | ⟨1, _⟩ => show c.val + 1 * 0 = c.val; omega
    | ⟨2, _⟩ => show b.val + 1 * 0 = b.val; omega
    | ⟨3, _⟩ => show 0 + 1 * n.val = n.val; omega
  beta_reduce
  rw [eW, eP, H.hP]
  unfold halfV
  have hp := pairW_value _ _ (pc_lt ⟨x.val / 256, by omega⟩ (scN_lt (s b) ⟨2 * (x.val % 256 / 64), by omega⟩))
    (pc_lt ⟨x.val / 256, by omega⟩ (scN_lt (s b) ⟨2 * (x.val % 256 / 64) + 1, by omega⟩)) ⟨x.val % 2, by omega⟩
  rw [EReal.coe_mul]
  refine congrArg₂ (· * ·) rfl (hp.trans ?_)
  rcases Nat.mod_two_eq_zero_or_one x.val with h | h
  · have e0 : (⟨x.val % 2, by omega⟩ : Fin 2) = 0 := Fin.ext h
    rw [if_pos e0]
    simp only [h, add_zero]
  · have e0 : (⟨x.val % 2, by omega⟩ : Fin 2) ≠ 0 := fun h' => by have := congrArg Fin.val h'; simp at this; omega
    rw [if_neg e0]
    simp only [h]

theorem sI_zero {q : Fin 256 → ℤ} (h : ∀ x, q x = 0) (w : Fin 128 → BitVec 8) (s : Fin 12 → BitVec 8) : sI q w s = 0 := by
  unfold sI
  exact Finset.sum_eq_zero fun _ _ => Finset.sum_eq_zero fun _ _ => Finset.sum_eq_zero fun _ _ => by rw [h, zero_mul]

theorem mI_zero {q : Fin 256 → ℤ} (h : ∀ x, q x = 0) (s : Fin 12 → BitVec 8) : mI q s = 0 := by
  unfold mI
  exact Finset.sum_eq_zero fun _ _ => by rw [Finset.sum_eq_zero fun _ _ => h _, zero_mul]

/-- One block's product, a real number. -/
def bR (W : Vec Ideal S20x512x128 .i8) (n : Fin 512) (Sv : Fin 20 → EReal) (q : Fin 20 → Fin 256 → ℤ)
    (s : Fin 20 → Fin 12 → BitVec 8) (d : Fin 20 → BitVec 16) (b : Fin 20) : ℝ :=
  (Sv b).toReal * (f16V (d b) * (sI (q b) (fun a => W (ix3 b n a)) (s b) : ℤ))

theorem blk_value (H : Holds P Z D A S X t n Sv q s d dm) (b : Fin 20) (acc : FVec Ideal S48x512 .f32) :
    blk (F := Ideal) acc (View.ld W (rW b)) (fun p c => View.ld P (rP p c b)) (View.ld A (rA b)) (View.ld S (rS b))
      (View.ld D (rD b)) (ix2 t n) = acc (ix2 t n) + ((bR W n Sv q s d b : ℝ) : EReal) := by
  rw [blk_apply]
  have eA : ∀ x : Fin 512, View.ld A (rA b) (ix3 0 t x) = ((aR (q b) x : ℝ) : EReal) := fun x => by
    rw [← H.hA]
    refine congrArg A ?_
    funext i; apply Fin.ext
    match i with
    | ⟨0, _⟩ => show b.val + 1 * 0 = b.val; omega
    | ⟨1, _⟩ => show 0 + 1 * t.val = t.val; omega
    | ⟨2, _⟩ => show 0 + 1 * x.val = x.val; omega
  have eS : ∀ x : Fin 128, View.ld S (rS b) (ix3 0 t x) = Sv b := fun x => by
    rw [← H.hS b x]
    refine congrArg S ?_
    funext i; apply Fin.ext
    match i with
    | ⟨0, _⟩ => show b.val + 1 * 0 = b.val; omega
    | ⟨1, _⟩ => show 0 + 1 * t.val = t.val; omega
    | ⟨2, _⟩ => show 0 + 1 * x.val = x.val; omega
  have eD : View.ld D (rD b) (ix2 0 n) = ((f16V (d b) : ℝ) : EReal) := by
    rw [← H.hD]
    refine congrArg D ?_
    funext i; apply Fin.ext
    match i with
    | ⟨0, _⟩ => show b.val + 1 * 0 = b.val; omega
    | ⟨1, _⟩ => show 0 + 1 * n.val = n.val; omega
  have eR : ∑ x, View.ld A (rA b) (ix3 0 t x) * rowV (View.ld W (rW b)) (fun p c => View.ld P (rP p c b)) x n
      = (((sI (q b) (fun a => W (ix3 b n a)) (s b) : ℤ) : ℝ) : EReal) := by
    have : ∀ x, View.ld A (rA b) (ix3 0 t x) * rowV (View.ld W (rW b)) (fun p c => View.ld P (rP p c b)) x n
        = ((aR (q b) x * rowR (fun a => W (ix3 b n a)) (s b) x : ℝ) : EReal) := fun x => by
      rw [eA, rowV_value H, EReal.coe_mul]
    rw [Finset.sum_congr rfl fun x _ => this x, coe_sum, sum_row]
  rw [eS, eD, eR, ← EReal.coe_mul]
  refine congrArg (acc (ix2 t n) + ·) ?_
  refine scale_mul (H.pos b) fun ht => ?_
  rw [sI_zero (H.top b ht)]; simp

theorem accs_value (H : Holds P Z D A S X t n Sv q s d dm) : ∀ k : ℕ, k ≤ 20 →
    accs (F := Ideal) W P Z D A S X k (ix2 t n)
      = (((-∑ b, ∑ j, (uZ (q b) j : ℝ) * (Sv b).toReal * (f16V (dm b) * (mnN (s b) j : ℕ)))
          + ∑ i ∈ Finset.range k, (if h : i < 20 then bR W n Sv q s d ⟨i, h⟩ else 0) : ℝ) : EReal)
  | 0, _ => by
    rw [Finset.sum_range_zero, add_zero]
    exact acc0_value H
  | k + 1, hk => by
    have e := accs_succ (F := Ideal) W P Z D A S X ⟨k, hk⟩
    rw [show k + 1 = (⟨k, hk⟩ : Fin 20).val + 1 from rfl, e, blk_value H]
    show accs (F := Ideal) W P Z D A S X k (ix2 t n) + _ = _
    rw [accs_value H k (by omega), ← EReal.coe_add, Finset.sum_range_succ, dif_pos (show k < 20 from hk), add_assoc]

/-- The kernel's product is the product in plain words. -/
theorem accs_eq (H : Holds P Z D A S X t n Sv q s d dm) :
    accs (F := Ideal) W P Z D A S X 20 (ix2 t n) = prodV Sv q (fun b a => W (ix3 b n a)) s d dm := by
  rw [accs_value H 20 le_rfl, Finset.sum_range (fun i => if h : i < 20 then bR W n Sv q s d ⟨i, h⟩ else 0)]
  unfold prodV
  have e : ∀ b, term (Sv b) (q b) (fun a => W (ix3 b n a)) (s b) (d b) (dm b)
      = (((Sv b).toReal * (f16V (d b) * (sI (q b) (fun a => W (ix3 b n a)) (s b) : ℤ) - f16V (dm b) * (mI (q b) (s b) : ℤ)) : ℝ) : EReal) := fun b => by
    unfold term
    rw [← EReal.coe_mul, ← EReal.coe_mul, ← EReal.coe_sub]
    refine scale_mul (H.pos b) fun ht => ?_
    rw [sI_zero (H.top b ht), mI_zero (H.top b ht)]; simp
  rw [Finset.sum_congr rfl fun b _ => e b, coe_sum]
  refine congrArg (fun x : ℝ => (x : EReal)) ?_
  rw [← Finset.sum_neg_distrib, ← Finset.sum_add_distrib]
  refine Finset.sum_congr rfl fun b _ => ?_
  rw [dif_pos b.isLt]
  unfold bR mI
  rw [Int.cast_sum]
  have : ∑ j : Fin 8, (uZ (q b) j : ℝ) * (Sv b).toReal * (f16V (dm b) * (mnN (s b) j : ℕ))
      = (Sv b).toReal * (f16V (dm b) * ∑ j : Fin 8, (((∑ l : Fin 32, q b ⟨32 * j.val + l.val, by omega⟩) * (mnN (s b) j : ℤ) : ℤ) : ℝ)) := by
    rw [Finset.mul_sum, Finset.mul_sum]
    refine Finset.sum_congr rfl fun j _ => ?_
    rw [Int.cast_mul, Int.cast_natCast]
    unfold uZ
    ring
  rw [this]
  ring

end Whole

end Cert.Q4k

end
-- ==== Proof.Words.lean ====
/-
  What the kernel keeps of the packed scales at one grid point: the words of scale halves, the scaled minima and the
  block factors, as functions of the twelve rows of packed bytes and the two rows of half floats.
-/
module

public import proofs.«01_k».proof.Proof.Rows

@[expose] public section

noncomputable section

namespace Cert.Q4k

open Cert.KernelIdeal Cert.KernelIdeal.Gen Idealize.ShloMosaic Idealize.ShloMosaic.TcCoe

variable {F : FTy → Type} [FloatOps F]

/-! ## The words, as vectors -/

/-- The bits of a small natural number as a float, elementwise. -/
def f32bV (v : IVec S20x512 32) : IVec S20x512 32 :=
  select (cmpi .slt v (broadcast S20x512 2#32)) (muli v (broadcast S20x512 1065353216#32))
    (select (cmpi .slt v (broadcast S20x512 4#32))
      (addi (broadcast S20x512 1065353216#32) (shli v (broadcast S20x512 22#32)))
      (addi (broadcast S20x512 1073741824#32) (shli v (broadcast S20x512 21#32))))

/-- Two pieces of scales in one word. -/
def wordOf (lo hi : IVec S20x512 32) : IVec S1x1x20x512 32 :=
  shapeCast S1x1x20x512 (ori (shrui (f32bV lo) (broadcast S20x512 16#32))
    (shli (shrui (f32bV hi) (broadcast S20x512 16#32)) (broadcast S20x512 16#32))) shapeCasts_S20x512_S1x1x20x512

/-- The upper or the lower three bits. -/
def pieceV (p : Fin 2) (v : IVec S20x512 32) : IVec S20x512 32 :=
  ![shrsi v (broadcast S20x512 3#32), andi v (broadcast S20x512 7#32)] p

/-- A row of packed bytes, widened. -/
def byteV (s : Vec F S1x20x512 .i8) : IVec S20x512 32 :=
  extui 32 (shapeCast S20x512 s shapeCasts_S1x20x512_S20x512) natLt_8_32

def lowV (x : IVec S20x512 32) : IVec S20x512 32 := andi x (broadcast S20x512 63#32)
def midV (x y : IVec S20x512 32) : IVec S20x512 32 :=
  ori (andi x (broadcast S20x512 15#32)) (shli (shrsi y (broadcast S20x512 6#32)) (broadcast S20x512 4#32))
def highV (x y : IVec S20x512 32) : IVec S20x512 32 :=
  ori (shrsi x (broadcast S20x512 4#32)) (shli (shrsi y (broadcast S20x512 6#32)) (broadcast S20x512 4#32))

/-- The eight scales of a block. -/
def scV (s : Fin 12 → Vec F S1x20x512 .i8) : Fin 8 → IVec S20x512 32 :=
  ![lowV (byteV (s 0)), lowV (byteV (s 1)), lowV (byteV (s 2)), lowV (byteV (s 3)),
    midV (byteV (s 8)) (byteV (s 0)), midV (byteV (s 9)) (byteV (s 1)), midV (byteV (s 10)) (byteV (s 2)),
    midV (byteV (s 11)) (byteV (s 3))]

/-- The eight minima of a block. -/
def mnV (s : Fin 12 → Vec F S1x20x512 .i8) : Fin 8 → IVec S20x512 32 :=
  ![lowV (byteV (s 4)), lowV (byteV (s 5)), lowV (byteV (s 6)), lowV (byteV (s 7)),
    highV (byteV (s 8)) (byteV (s 4)), highV (byteV (s 9)) (byteV (s 5)), highV (byteV (s 10)) (byteV (s 6)),
    highV (byteV (s 11)) (byteV (s 7))]

theorem inbQ (p : Fin 2) (c : Fin 4) :
    ∀ a, (![p.val, c.val, 0, 0] : Fin 4 → Nat) a + S1x1x20x512.size a ≤ S2x4x20x512.size a := by
  revert p c; decide

abbrev rQ (p : Fin 2) (c : Fin 4) : Rect S2x4x20x512 := Rect.unit ![p.val, c.val, 0, 0] S1x1x20x512.size (inbQ p c)

/-- The word array a point writes, newest store first. -/
def wordPieces (s : Fin 12 → Vec F S1x20x512 .i8) : List (View.Piece (Elt F) S2x4x20x512 .i32) :=
  [⟨rQ 1 3, wordOf (pieceV 1 (scV s 6)) (pieceV 1 (scV s 7))⟩, ⟨rQ 0 3, wordOf (pieceV 0 (scV s 6)) (pieceV 0 (scV s 7))⟩,
   ⟨rQ 1 2, wordOf (pieceV 1 (scV s 4)) (pieceV 1 (scV s 5))⟩, ⟨rQ 0 2, wordOf (pieceV 0 (scV s 4)) (pieceV 0 (scV s 5))⟩,
   ⟨rQ 1 1, wordOf (pieceV 1 (scV s 2)) (pieceV 1 (scV s 3))⟩, ⟨rQ 0 1, wordOf (pieceV 0 (scV s 2)) (pieceV 0 (scV s 3))⟩,
   ⟨rQ 1 0, wordOf (pieceV 1 (scV s 0)) (pieceV 1 (scV s 1))⟩, ⟨rQ 0 0, wordOf (pieceV 0 (scV s 0)) (pieceV 0 (scV s 1))⟩]

/-! ## The scaled minima and the factors -/

/-- The scaled minima, in the kernel's row order. -/
def zzV (s : Fin 12 → Vec F S1x20x512 .i8) (dm : Vec F S20x512 .i16) : FVec F S192x512 .f32 :=
  k0_pay355 (k0_pay346 (mnV s 5) dm) (k0_pay347 (mnV s 6) dm) (k0_pay348 (mnV s 7) dm) k0_pay349 (k0_pay350 (mnV s 0) dm)
    (k0_pay351 (mnV s 1) dm) (k0_pay352 (mnV s 2) dm) (k0_pay353 (mnV s 3) dm) (k0_pay354 (mnV s 4) dm)

/-- One of the three parts of the scaled minima. -/
def zPart (x : FVec F S192x512 .f32) : Fin 3 → FVec F S192x512 .bf16 :=
  ![truncf .bf16 x bitsLt_bf16_f32,
    truncf .bf16 (subf x (extf .f32 (truncf .bf16 x bitsLt_bf16_f32) bitsLt_bf16_f32)) bitsLt_bf16_f32,
    truncf .bf16 (subf (subf x (extf .f32 (truncf .bf16 x bitsLt_bf16_f32) bitsLt_bf16_f32))
      (extf .f32 (truncf .bf16 (subf x (extf .f32 (truncf .bf16 x bitsLt_bf16_f32) bitsLt_bf16_f32)) bitsLt_bf16_f32)
        bitsLt_bf16_f32)) bitsLt_bf16_f32]

/-- The array of the three parts a point writes, newest store first. -/
def zPieces (s : Fin 12 → Vec F S1x20x512 .i8) (dm : Vec F S20x512 .i16) : List (View.Piece (Elt F) S3x192x512 .bf16) :=
  [⟨rZ 2, shapeCast S1x192x512 (zPart (zzV s dm) 2) shapeCasts_S192x512_S1x192x512⟩,
   ⟨rZ 1, shapeCast S1x192x512 (zPart (zzV s dm) 1) shapeCasts_S192x512_S1x192x512⟩,
   ⟨rZ 0, shapeCast S1x192x512 (zPart (zzV s dm) 0) shapeCasts_S192x512_S1x192x512⟩]

/-- The factors of the blocks. -/
def dfV (d : Vec F S20x512 .i16) : FVec F S20x512 .f32 :=
  k0_pay344 (k0_pay339 d) (k0_pay341 d) (k0_pay342 d) k0_pay343

abbrev rDD : Rect S20x512 := Rect.unit ![0, 0] S20x512.size inb_S20x512_S20x512_0_0

end Cert.Q4k

end
-- ==== Proof.Vals.lean ====
/-
  The values at `Ideal` of what a grid point keeps of the packed scales: the words of scale pieces, the scaled minima
  and the block factors.
-/
module

public import proofs.«01_k».proof.Proof.Words
public import proofs.«01_k».proof.Proof.Spec
public import Idealize.ShloMosaic.Lib.Pointwise
public import Idealize.ShloMosaic.Lib.Pipeline.ReadBack
public import Idealize.ShloMosaic.Lib.WordCmp

@[expose] public section

noncomputable section

namespace Cert.Q4k

open Cert.KernelIdeal Cert.KernelIdeal.Gen Idealize.ShloMosaic Idealize.ShloMosaic.TcCoe

variable (s : Fin 12 → Vec Ideal S1x20x512 .i8) (dm : Vec Ideal S20x512 .i16)

/-- The twelve bytes of block `b` of column `n`. -/
def sig (b : Fin 20) (n : Fin 512) : Fin 12 → BitVec 8 := fun i => s i (ix3 0 b n)

/-! ## The words -/

theorem f32bV_apply (v : IVec S20x512 32) (j : S20x512.Idx) : f32bV v j = f32b (v j) := by
  pointwise [f32bV]
  unfold f32b
  refine (WordCmp.select_ofBool _ _ _).trans ?_
  congr 1
  exact WordCmp.select_ofBool _ _ _

theorem wordOf_apply (lo hi : IVec S20x512 32) (z z' : Fin 1) (b : Fin 20) (n : Fin 512) :
    wordOf lo hi (ix4 z z' b n) = pairW (lo (ix2 b n)) (hi (ix2 b n)) := by
  pointwise [wordOf]
  rw [f32bV_apply, f32bV_apply]
  rfl

theorem byteV_apply (x : Vec Ideal S1x20x512 .i8) (b : Fin 20) (n : Fin 512) :
    byteV x (ix2 b n) = (x (ix3 0 b n)).setWidth 32 := by
  pointwise [byteV]
  try rfl

theorem lowV_apply (x : IVec S20x512 32) (j : S20x512.Idx) : lowV x j = x j &&& 63#32 := by
  pointwise [lowV]
  try rfl
theorem midV_apply (x y : IVec S20x512 32) (j : S20x512.Idx) :
    midV x y j = (x j &&& 15#32) ||| (((y j).sshiftRight 6) <<< 4) := by
  pointwise [midV]
  try rfl
theorem highV_apply (x y : IVec S20x512 32) (j : S20x512.Idx) :
    highV x y j = ((x j).sshiftRight 4) ||| (((y j).sshiftRight 6) <<< 4) := by
  pointwise [highV]
  try rfl

theorem low_at (x : Vec Ideal S1x20x512 .i8) (b : Fin 20) (n : Fin 512) :
    lowV (byteV x) (ix2 b n) = BitVec.ofNat 32 ((x (ix3 0 b n)).toNat % 64) := by
  rw [lowV_apply, byteV_apply, and63]
theorem mid_at (x y : Vec Ideal S1x20x512 .i8) (b : Fin 20) (n : Fin 512) :
    midV (byteV x) (byteV y) (ix2 b n)
      = BitVec.ofNat 32 ((x (ix3 0 b n)).toNat % 16 + 16 * ((y (ix3 0 b n)).toNat / 64)) := by
  rw [midV_apply, byteV_apply, byteV_apply, or_low]
theorem high_at (x y : Vec Ideal S1x20x512 .i8) (b : Fin 20) (n : Fin 512) :
    highV (byteV x) (byteV y) (ix2 b n)
      = BitVec.ofNat 32 ((x (ix3 0 b n)).toNat / 16 + 16 * ((y (ix3 0 b n)).toNat / 64)) := by
  rw [highV_apply, byteV_apply, byteV_apply, or_high]

theorem scV_apply (j : Fin 8) (b : Fin 20) (n : Fin 512) :
    scV s j (ix2 b n) = BitVec.ofNat 32 (scN (sig s b n) j) := by
  fin_cases j
  · exact low_at _ _ _
  · exact low_at _ _ _
  · exact low_at _ _ _
  · exact low_at _ _ _
  · exact mid_at _ _ _ _
  · exact mid_at _ _ _ _
  · exact mid_at _ _ _ _
  · exact mid_at _ _ _ _

theorem mnV_apply (j : Fin 8) (b : Fin 20) (n : Fin 512) :
    mnV s j (ix2 b n) = BitVec.ofNat 32 (mnN (sig s b n) j) := by
  fin_cases j
  · exact low_at _ _ _
  · exact low_at _ _ _
  · exact low_at _ _ _
  · exact low_at _ _ _
  · exact high_at _ _ _ _
  · exact high_at _ _ _ _
  · exact high_at _ _ _ _
  · exact high_at _ _ _ _

theorem pieceV_apply (p : Fin 2) (v : IVec S20x512 32) (j : S20x512.Idx) (k : ℕ) (hk : k < 64) (hv : v j = BitVec.ofNat 32 k) :
    pieceV p v j = BitVec.ofNat 32 (pc p k) := by
  have h := pieces_eq ⟨k, hk⟩
  fin_cases p
  · refine Eq.trans (b := (v j).sshiftRight 3) ?_ ?_
    · show shrsi v (broadcast S20x512 3#32) j = _
      pointwise []
      rfl
    · rw [hv]; exact h.1
  · refine Eq.trans (b := v j &&& 7#32) ?_ ?_
    · show andi v (broadcast S20x512 7#32) j = _
      pointwise []
      try rfl
    · rw [hv]; exact h.2

/-- The word of pieces `p` of scales `2c` and `2c + 1` of block `b` of column `n`. -/
def wVal (p : Fin 2) (c : Fin 4) (b : Fin 20) (n : Fin 512) : BitVec 32 :=
  pairW (BitVec.ofNat 32 (pc p (scN (sig s b n) ⟨2 * c.val, by omega⟩)))
    (BitVec.ofNat 32 (pc p (scN (sig s b n) ⟨2 * c.val + 1, by omega⟩)))

def wArr : S2x4x20x512.Idx → Elt Ideal .i32 := fun j => wVal s (j 0) (j 1) (j 2) (j 3)

theorem wArr_ix (p : Fin 2) (c : Fin 4) (b : Fin 20) (n : Fin 512) : wArr s (ix4 p c b n) = wVal s p c b n := rfl

theorem emb_rQ (p : Fin 2) (c : Fin 4) (z z' : Fin 1) (b : Fin 20) (n : Fin 512) :
    (rQ p c).emb (ix4 z z' b n) = ix4 p c b n := by
  funext a; apply Fin.ext
  match a with
  | ⟨0, _⟩ => show p.val + 1 * z.val = p.val; omega
  | ⟨1, _⟩ => show c.val + 1 * z'.val = c.val; omega
  | ⟨2, _⟩ => show 0 + 1 * b.val = b.val; omega
  | ⟨3, _⟩ => show 0 + 1 * n.val = n.val; omega

theorem wPiece (p : Fin 2) (c : Fin 4) (x : (rQ p c).shape.Idx) :
    wordOf (pieceV p (scV s ⟨2 * c.val, by omega⟩)) (pieceV p (scV s ⟨2 * c.val + 1, by omega⟩)) x
      = wArr s ((rQ p c).emb x) := by
  change S1x1x20x512.Idx at x
  obtain ⟨z, z', b, n, rfl⟩ : ∃ (z z' : Fin 1) (b : Fin 20) (n : Fin 512), x = ix4 z z' b n :=
    ⟨x 0, x 1, x 2, x 3, eq_ix4 x⟩
  refine (wordOf_apply _ _ z z' b n).trans ?_
  rw [emb_rQ, wArr_ix]
  unfold wVal
  rw [pieceV_apply _ _ _ _ (scN_lt _ _) (scV_apply s _ b n), pieceV_apply _ _ _ _ (scN_lt _ _) (scV_apply s _ b n)]

theorem wordPieces_of : View.PiecesOf (wArr s) (wordPieces (F := Ideal) s) :=
  ⟨wPiece s 1 3, wPiece s 0 3, wPiece s 1 2, wPiece s 0 2, wPiece s 1 1, wPiece s 0 1, wPiece s 1 0, wPiece s 0 0, trivial⟩

theorem wordPieces_cover (p : Fin 2) (c : Fin 4) (b : Fin 20) (n : Fin 512) :
    ∃ q ∈ wordPieces (F := Ideal) s, (ix4 p c b n : S2x4x20x512.Idx) ∈ q.1.set := by
  have hm : ∃ w, (⟨rQ p c, w⟩ : View.Piece (Elt Ideal) S2x4x20x512 .i32) ∈ wordPieces (F := Ideal) s := by
    unfold wordPieces
    fin_cases p <;> fin_cases c
    · exact ⟨_, List.Mem.tail _ (List.Mem.tail _ (List.Mem.tail _ (List.Mem.tail _ (List.Mem.tail _ (List.Mem.tail _ (List.Mem.tail _ (List.Mem.head _)))))))⟩
    · exact ⟨_, List.Mem.tail _ (List.Mem.tail _ (List.Mem.tail _ (List.Mem.tail _ (List.Mem.tail _ (List.Mem.head _)))))⟩
    · exact ⟨_, List.Mem.tail _ (List.Mem.tail _ (List.Mem.tail _ (List.Mem.head _)))⟩
    · exact ⟨_, List.Mem.tail _ (List.Mem.head _)⟩
    · exact ⟨_, List.Mem.tail _ (List.Mem.tail _ (List.Mem.tail _ (List.Mem.tail _ (List.Mem.tail _ (List.Mem.tail _ (List.Mem.head _))))))⟩
    · exact ⟨_, List.Mem.tail _ (List.Mem.tail _ (List.Mem.tail _ (List.Mem.tail _ (List.Mem.head _))))⟩
    · exact ⟨_, List.Mem.tail _ (List.Mem.tail _ (List.Mem.head _))⟩
    · exact ⟨_, List.Mem.head _⟩
  obtain ⟨w, hw⟩ := hm
  refine ⟨_, hw, ?_⟩
  rw [← emb_rQ p c 0 0 b n]
  exact LoadRect.idx_mem _ _

theorem canonW (L' : List (View.Piece (Elt Ideal) S2x4x20x512 .i32)) (p : Fin 2) (c : Fin 4) (b : Fin 20) (n : Fin 512) :
    View.canon (wordPieces (F := Ideal) s ++ L') (ix4 p c b n) = wVal s p c b n :=
  (View.canon_append_of_piecesOf (wArr s) L' _ (wordPieces_of s) _ (wordPieces_cover s p c b n)).trans (wArr_ix s p c b n)

/-! ## The factors -/

theorem dfV_apply (d : Vec Ideal S20x512 .i16) (b : Fin 20) (n : Fin 512) :
    dfV (F := Ideal) d (ix2 b n) = ((f16V (d (ix2 b n)) : ℝ) : EReal) := by
  have e1 : k0_pay339 (F := Ideal) d (ix2 b n) = (d (ix2 b n)).signExtend 32 &&& 32767#32 := by
    pointwise [k0_pay339]
    rfl
  have e0 : k0_pay340 (F := Ideal) d (ix2 b n) = f16Bits (d (ix2 b n)) := by
    pointwise [k0_pay340]
    rw [e1]
    rfl
  have e2 : k0_pay341 (F := Ideal) d (ix2 b n) = Ideal.ofBits .f32 (f16Bits (d (ix2 b n)) + 939524096#32) := by
    pointwise [k0_pay341]
    rw [e0]
    rfl
  have e3 : k0_pay342 (F := Ideal) d (ix2 b n) = Ideal.ofBits .f32 (f16Bits (d (ix2 b n)) + 947912704#32) := by
    pointwise [k0_pay342]
    rw [e0]
    rfl
  have e4 : k0_pay343 (F := Ideal) (ix2 b n) = Ideal.ofBits .f32 0x38800000#32 := by
    pointwise [k0_pay343]
  unfold dfV
  rw [pay344_apply, e1, e2, e3, e4, ← f16K_eq]
  rfl

theorem cast_apply (x : FVec Ideal S20x512 .f32) (b : Fin 20) (n : Fin 512) :
    shapeCast S20x512 x shapeCasts_S20x512_S20x512 (ix2 b n) = x (ix2 b n) := by pointwise []

theorem pay345_eq : shapeCast S20x512 (k0_pay345 (F := Ideal) dm) shapeCasts_S20x512_S20x512 = dfV dm := by
  unfold dfV k0_pay345 k0_pay344 k0_pay343 k0_pay342 k0_pay341 k0_pay340 k0_pay339
  dsimp only

theorem pay345_apply (b : Fin 20) (n : Fin 512) :
    k0_pay345 (F := Ideal) dm (ix2 b n) = ((f16V (dm (ix2 b n)) : ℝ) : EReal) := by
  rw [← cast_apply (k0_pay345 (F := Ideal) dm) b n, pay345_eq, dfV_apply]

theorem canonD (d : Vec Ideal S20x512 .i16) (L' : List (View.Piece (Elt Ideal) S20x512 .f32)) (b : Fin 20) (n : Fin 512) :
    View.canon (⟨rDD, dfV (F := Ideal) d⟩ :: L') (ix2 b n) = ((f16V (d (ix2 b n)) : ℝ) : EReal) := by
  rw [View.canon_cons_unit_zero (by funext a; fin_cases a <;> rfl)]
  exact dfV_apply d b n

end Cert.Q4k

end
-- ==== Proof.ValsZ.lean ====
/-
  The scaled minima a grid point keeps, at `Ideal`, row by row.
-/
module

public import proofs.«01_k».proof.Proof.Vals
public import proofs.«01_k».proof.Proof.Spec
public import Idealize.ShloMosaic.Lib.Pointwise
public import Idealize.ShloMosaic.Lib.Pipeline.ReadBack
public import Idealize.ShloMosaic.Lib.WordCmp

@[expose] public section

noncomputable section

namespace Cert.Q4k

open Cert.KernelIdeal Cert.KernelIdeal.Gen Idealize.ShloMosaic Idealize.ShloMosaic.TcCoe

variable (s : Fin 12 → Vec Ideal S1x20x512 .i8) (dm : Vec Ideal S20x512 .i16)

/-! ## The scaled minima -/

/-- One row of scaled minima, for every block. -/
def zr (m : IVec S20x512 32) : FVec Ideal S20x512 .f32 := mulf (k0_pay345 dm) (sitofp .f32 m)

/-- The same with four rows of zeros below. -/
def m24 (a : FVec Ideal S20x512 .f32) : FVec Ideal S24x512 .f32 :=
  concatenate S24x512 0 [⟨S20x512, a⟩, ⟨S4x512, k0_pay349 (F := Ideal)⟩] concatenates_S20x512_S4x512_S24x512_d0

theorem zr_apply (j : Fin 8) (b : Fin 20) (n : Fin 512) :
    zr dm (mnV s j) (ix2 b n) = ((f16V (dm (ix2 b n)) * (mnN (sig s b n) j : ℕ) : ℝ) : EReal) := by
  pointwise [zr]
  rw [pay345_apply, mnV_apply]
  have : (BitVec.ofNat 32 (mnN (sig s b n) j)).toInt = (mnN (sig s b n) j : ℤ) := by
    have := mnN_lt (sig s b n) j
    exact WordCmp.toInt_ofNat_of_lt (by omega)
  show _ * ((((BitVec.ofNat 32 (mnN (sig s b n) j)).toInt : ℤ) : ℝ) : EReal) = _
  rw [this, ← EReal.coe_mul, Int.cast_natCast]

theorem m24_apply (a : FVec Ideal S20x512 .f32) (r : Fin 24) (n : Fin 512) :
    m24 a (ix2 r n) = if h : r.val < 20 then a (ix2 ⟨r.val, h⟩ n) else 0 := by
  pointwise [m24, k0_pay349]

theorem sl16_apply (a : FVec Ideal S24x512 .f32) (r : Fin 16) (n : Fin 512) :
    extractStridedSlice S16x512 ![0, 0] a slices_S24x512_o0_0_S16x512 (ix2 r n) = a (ix2 ⟨r.val, by omega⟩ n) := by
  pointwise []

theorem sl8_apply (a : FVec Ideal S24x512 .f32) (r : Fin 8) (n : Fin 512) :
    extractStridedSlice S8x512 ![16, 0] a slices_S24x512_o16_0_S8x512 (ix2 r n) = a (ix2 ⟨16 + r.val, by omega⟩ n) := by
  pointwise []

/-- The sixteen pieces. -/
abbrev zL (a : Fin 8 → FVec Ideal S16x512 .f32) (c : Fin 8 → FVec Ideal S8x512 .f32) : List ((s : Shape) × (s.Idx → EReal)) :=
  [⟨S16x512, a 0⟩, ⟨S16x512, a 1⟩, ⟨S16x512, a 2⟩, ⟨S16x512, a 3⟩, ⟨S16x512, a 4⟩, ⟨S16x512, a 5⟩, ⟨S16x512, a 6⟩, ⟨S16x512, a 7⟩, ⟨S8x512, c 0⟩, ⟨S8x512, c 1⟩, ⟨S8x512, c 2⟩, ⟨S8x512, c 3⟩, ⟨S8x512, c 4⟩, ⟨S8x512, c 5⟩, ⟨S8x512, c 6⟩, ⟨S8x512, c 7⟩]

set_option maxHeartbeats 4000000 in
theorem cat16_apply (a : Fin 8 → FVec Ideal S16x512 .f32) (c : Fin 8 → FVec Ideal S8x512 .f32) (r : Fin 192) (n : Fin 512) :
    concatenate S192x512 0 [⟨S16x512, a 0⟩, ⟨S16x512, a 1⟩, ⟨S16x512, a 2⟩, ⟨S16x512, a 3⟩, ⟨S16x512, a 4⟩, ⟨S16x512, a 5⟩, ⟨S16x512, a 6⟩, ⟨S16x512, a 7⟩, ⟨S8x512, c 0⟩, ⟨S8x512, c 1⟩, ⟨S8x512, c 2⟩, ⟨S8x512, c 3⟩, ⟨S8x512, c 4⟩, ⟨S8x512, c 5⟩, ⟨S8x512, c 6⟩, ⟨S8x512, c 7⟩]
        concatenates_S16x512_S16x512_S16x512_S16x512_S16x512_S16x512_S16x512_S16x512_S8x512_S8x512_S8x512_S8x512_S8x512_S8x512_S8x512_S8x512_S192x512_d0 (ix2 r n)
      = if h : r.val < 128 then a ⟨r.val / 16, by omega⟩ (ix2 ⟨r.val % 16, by omega⟩ n)
        else c ⟨(r.val - 128) / 8, by omega⟩ (ix2 ⟨r.val % 8, by omega⟩ n) := by
  have ea : ∀ (j : Fin 8) (q : Fin 16), 16 * j.val + q.val = r.val → a j (ix2 q n)
      = if h : r.val < 128 then a ⟨r.val / 16, by omega⟩ (ix2 ⟨r.val % 16, by omega⟩ n)
        else c ⟨(r.val - 128) / 8, by omega⟩ (ix2 ⟨r.val % 8, by omega⟩ n) := by
    intro j q h
    rw [dif_pos (by omega)]
    have e1 : (⟨r.val / 16, by omega⟩ : Fin 8) = j := Fin.ext (by show r.val / 16 = j.val; omega)
    have e2 : (⟨r.val % 16, by omega⟩ : Fin 16) = q := Fin.ext (by show r.val % 16 = q.val; omega)
    rw [e1, e2]
  have ec : ∀ (j : Fin 8) (q : Fin 8), 128 + 8 * j.val + q.val = r.val → c j (ix2 q n)
      = if h : r.val < 128 then a ⟨r.val / 16, by omega⟩ (ix2 ⟨r.val % 16, by omega⟩ n)
        else c ⟨(r.val - 128) / 8, by omega⟩ (ix2 ⟨r.val % 8, by omega⟩ n) := by
    intro j q h
    rw [dif_neg (by omega)]
    have e1 : (⟨(r.val - 128) / 8, by omega⟩ : Fin 8) = j := Fin.ext (by show (r.val - 128) / 8 = j.val; omega)
    have e2 : (⟨r.val % 8, by omega⟩ : Fin 8) = q := Fin.ext (by show r.val % 8 = q.val; omega)
    rw [e1, e2]
  have hr := r.isLt
  generalize (if h : r.val < 128 then a ⟨r.val / 16, by omega⟩ (ix2 ⟨r.val % 16, by omega⟩ n)
        else c ⟨(r.val - 128) / 8, by omega⟩ (ix2 ⟨r.val % 8, by omega⟩ n)) = R at ea ec ⊢
  by_cases h0 : r.val < 16
  · rw [← ea 0 ⟨r.val - 0, by omega⟩ (by show 16 * 0 + (r.val - 0) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 0 (show 0 < 16 by decide) S16x512 (a 0) rfl rfl 0 rfl (ix2 ⟨r.val - 0, by omega⟩ n)
      (fun b hb => by match b with | ⟨0, _⟩ => exact absurd rfl hb | ⟨1, _⟩ => rfl) (by show 0 + (r.val - 0) = r.val; omega)
  by_cases h1 : r.val < 32
  · rw [← ea 1 ⟨r.val - 16, by omega⟩ (by show 16 * 1 + (r.val - 16) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 1 (show 1 < 16 by decide) S16x512 (a 1) rfl rfl 16 rfl (ix2 ⟨r.val - 16, by omega⟩ n)
      (fun b hb => by match b with | ⟨0, _⟩ => exact absurd rfl hb | ⟨1, _⟩ => rfl) (by show 16 + (r.val - 16) = r.val; omega)
  by_cases h2 : r.val < 48
  · rw [← ea 2 ⟨r.val - 32, by omega⟩ (by show 16 * 2 + (r.val - 32) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 2 (show 2 < 16 by decide) S16x512 (a 2) rfl rfl 32 rfl (ix2 ⟨r.val - 32, by omega⟩ n)
      (fun b hb => by match b with | ⟨0, _⟩ => exact absurd rfl hb | ⟨1, _⟩ => rfl) (by show 32 + (r.val - 32) = r.val; omega)
  by_cases h3 : r.val < 64
  · rw [← ea 3 ⟨r.val - 48, by omega⟩ (by show 16 * 3 + (r.val - 48) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 3 (show 3 < 16 by decide) S16x512 (a 3) rfl rfl 48 rfl (ix2 ⟨r.val - 48, by omega⟩ n)
      (fun b hb => by match b with | ⟨0, _⟩ => exact absurd rfl hb | ⟨1, _⟩ => rfl) (by show 48 + (r.val - 48) = r.val; omega)
  by_cases h4 : r.val < 80
  · rw [← ea 4 ⟨r.val - 64, by omega⟩ (by show 16 * 4 + (r.val - 64) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 4 (show 4 < 16 by decide) S16x512 (a 4) rfl rfl 64 rfl (ix2 ⟨r.val - 64, by omega⟩ n)
      (fun b hb => by match b with | ⟨0, _⟩ => exact absurd rfl hb | ⟨1, _⟩ => rfl) (by show 64 + (r.val - 64) = r.val; omega)
  by_cases h5 : r.val < 96
  · rw [← ea 5 ⟨r.val - 80, by omega⟩ (by show 16 * 5 + (r.val - 80) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 5 (show 5 < 16 by decide) S16x512 (a 5) rfl rfl 80 rfl (ix2 ⟨r.val - 80, by omega⟩ n)
      (fun b hb => by match b with | ⟨0, _⟩ => exact absurd rfl hb | ⟨1, _⟩ => rfl) (by show 80 + (r.val - 80) = r.val; omega)
  by_cases h6 : r.val < 112
  · rw [← ea 6 ⟨r.val - 96, by omega⟩ (by show 16 * 6 + (r.val - 96) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 6 (show 6 < 16 by decide) S16x512 (a 6) rfl rfl 96 rfl (ix2 ⟨r.val - 96, by omega⟩ n)
      (fun b hb => by match b with | ⟨0, _⟩ => exact absurd rfl hb | ⟨1, _⟩ => rfl) (by show 96 + (r.val - 96) = r.val; omega)
  by_cases h7 : r.val < 128
  · rw [← ea 7 ⟨r.val - 112, by omega⟩ (by show 16 * 7 + (r.val - 112) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 7 (show 7 < 16 by decide) S16x512 (a 7) rfl rfl 112 rfl (ix2 ⟨r.val - 112, by omega⟩ n)
      (fun b hb => by match b with | ⟨0, _⟩ => exact absurd rfl hb | ⟨1, _⟩ => rfl) (by show 112 + (r.val - 112) = r.val; omega)
  by_cases h8 : r.val < 136
  · rw [← ec 0 ⟨r.val - 128, by omega⟩ (by show 128 + 8 * 0 + (r.val - 128) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 8 (show 8 < 16 by decide) S8x512 (c 0) rfl rfl 128 rfl (ix2 ⟨r.val - 128, by omega⟩ n)
      (fun b hb => by match b with | ⟨0, _⟩ => exact absurd rfl hb | ⟨1, _⟩ => rfl) (by show 128 + (r.val - 128) = r.val; omega)
  by_cases h9 : r.val < 144
  · rw [← ec 1 ⟨r.val - 136, by omega⟩ (by show 128 + 8 * 1 + (r.val - 136) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 9 (show 9 < 16 by decide) S8x512 (c 1) rfl rfl 136 rfl (ix2 ⟨r.val - 136, by omega⟩ n)
      (fun b hb => by match b with | ⟨0, _⟩ => exact absurd rfl hb | ⟨1, _⟩ => rfl) (by show 136 + (r.val - 136) = r.val; omega)
  by_cases h10 : r.val < 152
  · rw [← ec 2 ⟨r.val - 144, by omega⟩ (by show 128 + 8 * 2 + (r.val - 144) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 10 (show 10 < 16 by decide) S8x512 (c 2) rfl rfl 144 rfl (ix2 ⟨r.val - 144, by omega⟩ n)
      (fun b hb => by match b with | ⟨0, _⟩ => exact absurd rfl hb | ⟨1, _⟩ => rfl) (by show 144 + (r.val - 144) = r.val; omega)
  by_cases h11 : r.val < 160
  · rw [← ec 3 ⟨r.val - 152, by omega⟩ (by show 128 + 8 * 3 + (r.val - 152) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 11 (show 11 < 16 by decide) S8x512 (c 3) rfl rfl 152 rfl (ix2 ⟨r.val - 152, by omega⟩ n)
      (fun b hb => by match b with | ⟨0, _⟩ => exact absurd rfl hb | ⟨1, _⟩ => rfl) (by show 152 + (r.val - 152) = r.val; omega)
  by_cases h12 : r.val < 168
  · rw [← ec 4 ⟨r.val - 160, by omega⟩ (by show 128 + 8 * 4 + (r.val - 160) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 12 (show 12 < 16 by decide) S8x512 (c 4) rfl rfl 160 rfl (ix2 ⟨r.val - 160, by omega⟩ n)
      (fun b hb => by match b with | ⟨0, _⟩ => exact absurd rfl hb | ⟨1, _⟩ => rfl) (by show 160 + (r.val - 160) = r.val; omega)
  by_cases h13 : r.val < 176
  · rw [← ec 5 ⟨r.val - 168, by omega⟩ (by show 128 + 8 * 5 + (r.val - 168) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 13 (show 13 < 16 by decide) S8x512 (c 5) rfl rfl 168 rfl (ix2 ⟨r.val - 168, by omega⟩ n)
      (fun b hb => by match b with | ⟨0, _⟩ => exact absurd rfl hb | ⟨1, _⟩ => rfl) (by show 168 + (r.val - 168) = r.val; omega)
  by_cases h14 : r.val < 184
  · rw [← ec 6 ⟨r.val - 176, by omega⟩ (by show 128 + 8 * 6 + (r.val - 176) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 14 (show 14 < 16 by decide) S8x512 (c 6) rfl rfl 176 rfl (ix2 ⟨r.val - 176, by omega⟩ n)
      (fun b hb => by match b with | ⟨0, _⟩ => exact absurd rfl hb | ⟨1, _⟩ => rfl) (by show 176 + (r.val - 176) = r.val; omega)
  · rw [← ec 7 ⟨r.val - 184, by omega⟩ (by show 128 + 8 * 7 + (r.val - 184) = r.val; omega)]
    exact concatenate_apply_piece (0 : Fin S192x512.rank) (zL a c) concatenates_S16x512_S16x512_S16x512_S16x512_S16x512_S16x512_S16x512_S16x512_S8x512_S8x512_S8x512_S8x512_S8x512_S8x512_S8x512_S8x512_S192x512_d0 (ix2 r n) 15 (show 15 < 16 by decide) S8x512 (c 7) rfl rfl 184 rfl (ix2 ⟨r.val - 184, by omega⟩ n)
      (fun b hb => by match b with | ⟨0, _⟩ => exact absurd rfl hb | ⟨1, _⟩ => rfl) (by show 184 + (r.val - 184) = r.val; omega)

/-- Row `r` of the scaled minima: the lower sixteen blocks of each minimum, then the upper four. -/
def zVal (r : Fin 192) (n : Fin 512) : ℝ :=
  if r.val < 128 then f16V (dm (ix2 ⟨r.val % 16, by omega⟩ n)) * (mnN (sig s ⟨r.val % 16, by omega⟩ n) ⟨r.val % 128 / 16, by omega⟩ : ℕ)
  else if h : r.val % 8 < 4 then
    f16V (dm (ix2 ⟨16 + r.val % 8, by omega⟩ n)) * (mnN (sig s ⟨16 + r.val % 8, by omega⟩ n) ⟨(r.val - 128) / 8, by omega⟩ : ℕ)
  else 0

theorem zzV_eq : zzV (F := Ideal) s dm = concatenate S192x512 0 [⟨S16x512, (fun j : Fin 8 => extractStridedSlice S16x512 ![0, 0] (m24 (zr dm (mnV s j))) slices_S24x512_o0_0_S16x512) 0⟩, ⟨S16x512, (fun j : Fin 8 => extractStridedSlice S16x512 ![0, 0] (m24 (zr dm (mnV s j))) slices_S24x512_o0_0_S16x512) 1⟩, ⟨S16x512, (fun j : Fin 8 => extractStridedSlice S16x512 ![0, 0] (m24 (zr dm (mnV s j))) slices_S24x512_o0_0_S16x512) 2⟩, ⟨S16x512, (fun j : Fin 8 => extractStridedSlice S16x512 ![0, 0] (m24 (zr dm (mnV s j))) slices_S24x512_o0_0_S16x512) 3⟩, ⟨S16x512, (fun j : Fin 8 => extractStridedSlice S16x512 ![0, 0] (m24 (zr dm (mnV s j))) slices_S24x512_o0_0_S16x512) 4⟩, ⟨S16x512, (fun j : Fin 8 => extractStridedSlice S16x512 ![0, 0] (m24 (zr dm (mnV s j))) slices_S24x512_o0_0_S16x512) 5⟩, ⟨S16x512, (fun j : Fin 8 => extractStridedSlice S16x512 ![0, 0] (m24 (zr dm (mnV s j))) slices_S24x512_o0_0_S16x512) 6⟩, ⟨S16x512, (fun j : Fin 8 => extractStridedSlice S16x512 ![0, 0] (m24 (zr dm (mnV s j))) slices_S24x512_o0_0_S16x512) 7⟩, ⟨S8x512, (fun j : Fin 8 => extractStridedSlice S8x512 ![16, 0] (m24 (zr dm (mnV s j))) slices_S24x512_o16_0_S8x512) 0⟩, ⟨S8x512, (fun j : Fin 8 => extractStridedSlice S8x512 ![16, 0] (m24 (zr dm (mnV s j))) slices_S24x512_o16_0_S8x512) 1⟩, ⟨S8x512, (fun j : Fin 8 => extractStridedSlice S8x512 ![16, 0] (m24 (zr dm (mnV s j))) slices_S24x512_o16_0_S8x512) 2⟩, ⟨S8x512, (fun j : Fin 8 => extractStridedSlice S8x512 ![16, 0] (m24 (zr dm (mnV s j))) slices_S24x512_o16_0_S8x512) 3⟩, ⟨S8x512, (fun j : Fin 8 => extractStridedSlice S8x512 ![16, 0] (m24 (zr dm (mnV s j))) slices_S24x512_o16_0_S8x512) 4⟩, ⟨S8x512, (fun j : Fin 8 => extractStridedSlice S8x512 ![16, 0] (m24 (zr dm (mnV s j))) slices_S24x512_o16_0_S8x512) 5⟩, ⟨S8x512, (fun j : Fin 8 => extractStridedSlice S8x512 ![16, 0] (m24 (zr dm (mnV s j))) slices_S24x512_o16_0_S8x512) 6⟩, ⟨S8x512, (fun j : Fin 8 => extractStridedSlice S8x512 ![16, 0] (m24 (zr dm (mnV s j))) slices_S24x512_o16_0_S8x512) 7⟩]
    concatenates_S16x512_S16x512_S16x512_S16x512_S16x512_S16x512_S16x512_S16x512_S8x512_S8x512_S8x512_S8x512_S8x512_S8x512_S8x512_S8x512_S192x512_d0 := rfl

theorem zzV_apply (r : Fin 192) (n : Fin 512) : zzV (F := Ideal) s dm (ix2 r n) = ((zVal s dm r n : ℝ) : EReal) := by
  rw [zzV_eq]
  refine (cat16_apply (fun j : Fin 8 => extractStridedSlice S16x512 ![0, 0] (m24 (zr dm (mnV s j))) slices_S24x512_o0_0_S16x512)
    (fun j : Fin 8 => extractStridedSlice S8x512 ![16, 0] (m24 (zr dm (mnV s j))) slices_S24x512_o16_0_S8x512) r n).trans ?_
  unfold zVal
  by_cases h : r.val < 128
  · rw [dif_pos h, if_pos h, sl16_apply, m24_apply, dif_pos (by show r.val % 16 < 20; omega), zr_apply]
    have : (⟨r.val / 16, by omega⟩ : Fin 8) = ⟨r.val % 128 / 16, by omega⟩ := Fin.ext (by show r.val / 16 = r.val % 128 / 16; omega)
    rw [this]
  · rw [dif_neg h, if_neg h, sl8_apply, m24_apply]
    by_cases h2 : r.val % 8 < 4
    · rw [dif_pos (by show 16 + r.val % 8 < 20; omega), dif_pos h2, zr_apply]
    · rw [dif_neg (by show ¬ (16 + r.val % 8 < 20); omega), dif_neg h2]
      rfl

theorem real_sub_self (x : EReal) (r : ℝ) (h : x = (r : EReal)) : x - x = 0 := by
  rw [h, ← EReal.coe_sub, sub_self]; rfl

def zArr : S3x192x512.Idx → Elt Ideal .bf16 := fun j => if (j 0).val = 0 then ((zVal s dm (j 1) (j 2) : ℝ) : EReal) else 0

theorem zArr_ix (i : Fin 3) (r : Fin 192) (n : Fin 512) :
    zArr s dm (ix3 i r n) = if i.val = 0 then ((zVal s dm r n : ℝ) : EReal) else 0 := rfl

theorem zcast_apply (x : FVec Ideal S192x512 .bf16) (z : Fin 1) (r : Fin 192) (n : Fin 512) :
    shapeCast S1x192x512 x shapeCasts_S192x512_S1x192x512 (ix3 z r n) = x (ix2 r n) := by
  pointwise []

theorem zPart_apply (x : FVec Ideal S192x512 .f32) (i : Fin 3) (r : Fin 192) (n : Fin 512) (v : ℝ) (hv : x (ix2 r n) = (v : EReal)) :
    zPart (F := Ideal) x i (ix2 r n) = if i.val = 0 then (v : EReal) else 0 := by
  fin_cases i
  · exact hv
  · show x (ix2 r n) - x (ix2 r n) = (0 : EReal)
    exact real_sub_self _ v hv
  · show (x (ix2 r n) - x (ix2 r n)) - (x (ix2 r n) - x (ix2 r n)) = (0 : EReal)
    rw [real_sub_self _ v hv]; exact sub_zero 0

theorem emb_rZ (i : Fin 3) (z : Fin 1) (r : Fin 192) (n : Fin 512) : (rZ i).emb (ix3 z r n) = ix3 i r n := by
  funext a; apply Fin.ext
  match a with
  | ⟨0, _⟩ => show i.val + 1 * z.val = i.val; omega
  | ⟨1, _⟩ => show 0 + 1 * r.val = r.val; omega
  | ⟨2, _⟩ => show 0 + 1 * n.val = n.val; omega

theorem zPiece (i : Fin 3) (x : (rZ i).shape.Idx) :
    shapeCast S1x192x512 (zPart (zzV (F := Ideal) s dm) i) shapeCasts_S192x512_S1x192x512 x = zArr s dm ((rZ i).emb x) := by
  change S1x192x512.Idx at x
  obtain ⟨z, r, n, rfl⟩ : ∃ (z : Fin 1) (r : Fin 192) (n : Fin 512), x = ix3 z r n := ⟨x 0, x 1, x 2, eq_ix3 x⟩
  refine (zcast_apply _ z r n).trans ?_
  rw [emb_rZ, zArr_ix]
  exact zPart_apply _ i r n _ (zzV_apply s dm r n)

theorem zPieces_of : View.PiecesOf (zArr s dm) (zPieces (F := Ideal) s dm) :=
  ⟨zPiece s dm 2, zPiece s dm 1, zPiece s dm 0, trivial⟩

theorem zPieces_cover (i : Fin 3) (r : Fin 192) (n : Fin 512) :
    ∃ q ∈ zPieces (F := Ideal) s dm, (ix3 i r n : S3x192x512.Idx) ∈ q.1.set := by
  have hm : ∃ w, (⟨rZ i, w⟩ : View.Piece (Elt Ideal) S3x192x512 .bf16) ∈ zPieces (F := Ideal) s dm := by
    unfold zPieces
    fin_cases i
    · exact ⟨_, List.Mem.tail _ (List.Mem.tail _ (List.Mem.head _))⟩
    · exact ⟨_, List.Mem.tail _ (List.Mem.head _)⟩
    · exact ⟨_, List.Mem.head _⟩
  obtain ⟨w, hw⟩ := hm
  refine ⟨_, hw, ?_⟩
  rw [← emb_rZ i 0 r n]
  exact LoadRect.idx_mem _ _

theorem canonZ (L' : List (View.Piece (Elt Ideal) S3x192x512 .bf16)) (i : Fin 3) (r : Fin 192) (n : Fin 512) :
    View.canon (zPieces (F := Ideal) s dm ++ L') (ix3 i r n) = if i.val = 0 then ((zVal s dm r n : ℝ) : EReal) else 0 :=
  (View.canon_append_of_piecesOf (zArr s dm) L' _ (zPieces_of s dm) _ (zPieces_cover s dm i r n)).trans (zArr_ix s dm i r n)

end Cert.Q4k

end
-- ==== Proof.QX.lean ====
/-
  The three parts of the lanes of sums that step 0 stores: the first is the whole at `Ideal`, the other two are zero.
-/
module

public import proofs.«01_k».proof.Proof.QArr
public import proofs.«01_k».proof.Proof.ProdK
public import proofs.«01_k».proof.Proof.ValsZ

@[expose] public section

noncomputable section

namespace Cert.Q4k

open Cert.KernelIdeal Cert.KernelIdeal.Gen Idealize.ShloMosaic Idealize.ShloMosaic.TcCoe

variable (inv : FVec Ideal S48x1 .f32) (h : Fin 20 → Vec Ideal S48x256 .f32) (g : Fin 20 → Vec Ideal S1x256 .f32)

theorem bS_pos (t : Fin 48) (b : Fin 20) : 0 < bS inv h g t b := qS_pos _

theorem bQ_top (t : Fin 48) (b : Fin 20) (e : bS inv h g t b = ⊤) (x : Fin 256) : bQ inv h g t b x = 0 := by
  show codeZ _ (bS inv h g t b) = 0
  rw [e, codeZ_top]

theorem uZ_top (t : Fin 48) (b : Fin 20) (j : Fin 8) (e : bS inv h g t b = ⊤) : (bU inv h g t b j : ℝ) = 0 := by
  have : bU inv h g t b j = 0 := Finset.sum_eq_zero fun l _ => bQ_top inv h g t b e _
  rw [this, Int.cast_zero]

theorem lane_real (t : Fin 48) (b : Fin 20) (j : Fin 8) :
    ((bU inv h g t b j : ℝ) : EReal) * bS inv h g t b
      = (((uZ (bQ inv h g t b) j : ℝ) * (bS inv h g t b).toReal : ℝ) : EReal) := by
  rw [mul_comm, scale_mul (bS_pos inv h g t b) (uZ_top inv h g t b j), mul_comm]
  rfl

/-- The lanes as real numbers. -/
theorem xLane_real (t : Fin 48) (x : Fin 192) : xLane inv h g t ⟨x.val, by omega⟩
    = ((laneG (fun b j => (uZ (bQ inv h g t b) j : ℝ) * (bS inv h g t b).toReal) x : ℝ) : EReal) := by
  unfold xLane laneG
  by_cases e : x.val < 128
  · rw [if_pos e, if_pos e]; exact lane_real _ _ _ _ _ _
  · rw [if_neg e, if_neg e]
    by_cases e2 : x.val % 8 < 4
    · rw [dif_pos (show x.val < 192 ∧ x.val % 8 < 4 from ⟨x.isLt, e2⟩), dif_pos e2]; exact lane_real _ _ _ _ _ _
    · rw [dif_neg (show ¬ (x.val < 192 ∧ x.val % 8 < 4) from fun q => e2 q.2), dif_neg e2]; rfl

theorem p0V_apply (x : FVec Ideal S48x256 .f32) (t : Fin 48) (l : Fin 256) : p0V x (ix2 t l) = x (ix2 t l) := by
  pointwise [p0V]
theorem l1V_apply (x : FVec Ideal S48x256 .f32) (t : Fin 48) (l : Fin 256) : l1V x (ix2 t l) = x (ix2 t l) - x (ix2 t l) := by
  pointwise [l1V, p0V]
theorem p1V_apply (x : FVec Ideal S48x256 .f32) (t : Fin 48) (l : Fin 256) : p1V x (ix2 t l) = x (ix2 t l) - x (ix2 t l) := by
  have e : p1V x (ix2 t l) = l1V x (ix2 t l) := by pointwise [p1V]
  rw [e, l1V_apply]
theorem p2V_apply (x : FVec Ideal S48x256 .f32) (t : Fin 48) (l : Fin 256) :
    p2V x (ix2 t l) = (x (ix2 t l) - x (ix2 t l)) - (x (ix2 t l) - x (ix2 t l)) := by
  have e : p2V x (ix2 t l) = l1V x (ix2 t l) - p1V x (ix2 t l) := by pointwise [p2V]
  rw [e, l1V_apply, p1V_apply]

theorem xcast_apply (x : FVec Ideal S48x256 .bf16) (t : Fin 48) (l : Fin 256) :
    shapeCast S48x256 x shapeCasts_S48x256_S48x256 (ix2 t l) = x (ix2 t l) := by
  pointwise []

theorem emb_rX (o : Fin 3) (t : Fin 48) (l : Fin 256) : (rX o).emb (ix2 t l) = ix2 ⟨48 * o.val + t.val, by omega⟩ l := by
  funext a; apply Fin.ext
  match a with
  | ⟨0, _⟩ => show 48 * o.val + 1 * t.val = 48 * o.val + t.val; omega
  | ⟨1, _⟩ => show 0 + 1 * l.val = l.val; omega

/-- What the three parts hold. -/
def x3Arr (x : FVec Ideal S48x256 .f32) : S144x256.Idx → Elt Ideal .bf16 := fun j =>
  if (j 0).val < 48 then x (ix2 ⟨(j 0).val % 48, by omega⟩ (j 1))
  else if (j 0).val < 96 then x (ix2 ⟨(j 0).val % 48, by omega⟩ (j 1)) - x (ix2 ⟨(j 0).val % 48, by omega⟩ (j 1))
  else (x (ix2 ⟨(j 0).val % 48, by omega⟩ (j 1)) - x (ix2 ⟨(j 0).val % 48, by omega⟩ (j 1)))
    - (x (ix2 ⟨(j 0).val % 48, by omega⟩ (j 1)) - x (ix2 ⟨(j 0).val % 48, by omega⟩ (j 1)))

theorem x3Arr_ix (x : FVec Ideal S48x256 .f32) (o : Fin 3) (t : Fin 48) (l : Fin 256) :
    x3Arr x (ix2 ⟨48 * o.val + t.val, by omega⟩ l)
      = if o.val = 0 then x (ix2 t l) else if o.val = 1 then x (ix2 t l) - x (ix2 t l)
        else (x (ix2 t l) - x (ix2 t l)) - (x (ix2 t l) - x (ix2 t l)) := by
  show (if 48 * o.val + t.val < 48 then x (ix2 ⟨(48 * o.val + t.val) % 48, by omega⟩ l)
    else if 48 * o.val + t.val < 96 then _ else _) = _
  have e : (⟨(48 * o.val + t.val) % 48, by omega⟩ : Fin 48) = t := Fin.ext (by show (48 * o.val + t.val) % 48 = t.val; omega)
  rw [e]
  by_cases h0 : o.val = 0
  · rw [if_pos (by omega), if_pos h0]
  · rw [if_neg (by omega), if_neg h0]
    by_cases h1 : o.val = 1
    · rw [if_pos (by omega), if_pos h1]; show x (ix2 ⟨(48 * o.val + t.val) % 48, by omega⟩ l) - x (ix2 ⟨(48 * o.val + t.val) % 48, by omega⟩ l) = _; rw [e]
    · rw [if_neg (by omega), if_neg h1]
      show x (ix2 ⟨(48 * o.val + t.val) % 48, by omega⟩ l) - x (ix2 ⟨(48 * o.val + t.val) % 48, by omega⟩ l) - (x (ix2 ⟨(48 * o.val + t.val) % 48, by omega⟩ l) - x (ix2 ⟨(48 * o.val + t.val) % 48, by omega⟩ l)) = _; rw [e]

theorem xPiece2 (x : FVec Ideal S48x256 .f32) (t : Fin 48) (l : Fin 256) :
    shapeCast S48x256 (p2V x) shapeCasts_S48x256_S48x256 (ix2 t l) = x3Arr x ((rX 2).emb (ix2 t l)) := by
  rw [emb_rX, x3Arr_ix, xcast_apply, p2V_apply, if_neg (show ¬ (2 : Fin 3).val = 0 by decide), if_neg (show ¬ (2 : Fin 3).val = 1 by decide)]
theorem xPiece1 (x : FVec Ideal S48x256 .f32) (t : Fin 48) (l : Fin 256) :
    shapeCast S48x256 (p1V x) shapeCasts_S48x256_S48x256 (ix2 t l) = x3Arr x ((rX 1).emb (ix2 t l)) := by
  rw [emb_rX, x3Arr_ix, xcast_apply, p1V_apply, if_neg (show ¬ (1 : Fin 3).val = 0 by decide), if_pos (show (1 : Fin 3).val = 1 by decide)]
theorem xPiece0 (x : FVec Ideal S48x256 .f32) (t : Fin 48) (l : Fin 256) :
    shapeCast S48x256 (p0V x) shapeCasts_S48x256_S48x256 (ix2 t l) = x3Arr x ((rX 0).emb (ix2 t l)) := by
  rw [emb_rX, x3Arr_ix, xcast_apply, p0V_apply, if_pos (show (0 : Fin 3).val = 0 by decide)]

theorem xPieces_of (x : FVec Ideal S48x256 .f32) : View.PiecesOf (x3Arr x) (xPieces (F := Ideal) x) := by
  unfold xPieces
  refine ⟨fun y => ?_, fun y => ?_, fun y => ?_, trivial⟩
  · change S48x256.Idx at y
    obtain ⟨t, l, rfl⟩ : ∃ (t : Fin 48) (l : Fin 256), y = ix2 t l := ⟨y 0, y 1, eq_ix2 y⟩
    exact xPiece2 x t l
  · change S48x256.Idx at y
    obtain ⟨t, l, rfl⟩ : ∃ (t : Fin 48) (l : Fin 256), y = ix2 t l := ⟨y 0, y 1, eq_ix2 y⟩
    exact xPiece1 x t l
  · change S48x256.Idx at y
    obtain ⟨t, l, rfl⟩ : ∃ (t : Fin 48) (l : Fin 256), y = ix2 t l := ⟨y 0, y 1, eq_ix2 y⟩
    exact xPiece0 x t l

theorem emb_mem_rX (o : Fin 3) (t : Fin 48) (l : Fin 256) :
    (ix2 ⟨48 * o.val + t.val, by omega⟩ l : S144x256.Idx) ∈ (rX o).set := by
  rw [← emb_rX o t l]; exact emb_mem _ _

theorem xPieces_cover (x : FVec Ideal S48x256 .f32) (o : Fin 3) (t : Fin 48) (l : Fin 256) :
    ∃ p ∈ xPieces (F := Ideal) x, (ix2 ⟨48 * o.val + t.val, by omega⟩ l : S144x256.Idx) ∈ p.1.set := by
  have hm := emb_mem_rX o t l
  generalize (ix2 ⟨48 * o.val + t.val, by omega⟩ l : S144x256.Idx) = y at hm ⊢
  unfold xPieces
  have ho : o = 0 ∨ o = 1 ∨ o = 2 := (by decide : ∀ o : Fin 3, o = 0 ∨ o = 1 ∨ o = 2) o
  rcases ho with rfl | rfl | rfl
  · exact ⟨_, List.mem_cons_of_mem _ (List.mem_cons_of_mem _ (List.mem_cons_self ..)), hm⟩
  · exact ⟨_, List.mem_cons_of_mem _ (List.mem_cons_self ..), hm⟩
  · exact ⟨_, List.mem_cons_self .., hm⟩

theorem canonX3 (x : FVec Ideal S48x256 .f32) (o : Fin 3) (t : Fin 48) (l : Fin 256) :
    View.canon (xPieces (F := Ideal) x) (ix2 ⟨48 * o.val + t.val, by omega⟩ l)
      = if o.val = 0 then x (ix2 t l) else if o.val = 1 then x (ix2 t l) - x (ix2 t l)
        else (x (ix2 t l) - x (ix2 t l)) - (x (ix2 t l) - x (ix2 t l)) := by
  rw [View.canon_apply_of_pieces (x3Arr x) _ (xPieces_of x).mem _ (xPieces_cover x o t l)]
  exact x3Arr_ix _ _ _ _

theorem canonX (t : Fin 48) (x : Fin 192) : View.canon (xPieces (F := Ideal) (xV inv h g)) (ix2 ⟨t.val, by omega⟩ ⟨x.val, by omega⟩)
    = ((laneG (fun b j => (uZ (bQ inv h g t b) j : ℝ) * (bS inv h g t b).toReal) x : ℝ) : EReal) := by
  have e : (⟨t.val, by omega⟩ : Fin 144) = ⟨48 * (0 : Fin 3).val + t.val, by show 48 * 0 + t.val < 144; omega⟩ := Fin.ext (by show t.val = 48 * 0 + t.val; omega)
  rw [e, canonX3, if_pos (show (0 : Fin 3).val = 0 by decide), xV_apply, xLane_real]

theorem canonX1 (t : Fin 48) (x : Fin 192) : View.canon (xPieces (F := Ideal) (xV inv h g)) (ix2 ⟨48 + t.val, by omega⟩ ⟨x.val, by omega⟩) = 0 := by
  have e : (⟨48 + t.val, by omega⟩ : Fin 144) = ⟨48 * (1 : Fin 3).val + t.val, by show 48 * 1 + t.val < 144; omega⟩ := Fin.ext (by show 48 + t.val = 48 * 1 + t.val; omega)
  rw [e, canonX3, if_neg (show ¬ (1 : Fin 3).val = 0 by decide), if_pos (show (1 : Fin 3).val = 1 by decide), xV_apply, xLane_real]
  exact real_sub_self _ _ rfl

theorem canonX2 (t : Fin 48) (x : Fin 192) : View.canon (xPieces (F := Ideal) (xV inv h g)) (ix2 ⟨96 + t.val, by omega⟩ ⟨x.val, by omega⟩) = 0 := by
  have e : (⟨96 + t.val, by omega⟩ : Fin 144) = ⟨48 * (2 : Fin 3).val + t.val, by show 48 * 2 + t.val < 144; omega⟩ := Fin.ext (by show 96 + t.val = 48 * 2 + t.val; omega)
  rw [e, canonX3, if_neg (show ¬ (2 : Fin 3).val = 0 by decide), if_neg (show ¬ (2 : Fin 3).val = 1 by decide), xV_apply, xLane_real, real_sub_self _ _ rfl]
  exact real_sub_self _ 0 rfl

end Cert.Q4k

end
-- ==== Proof.Rowv.lean ====
/-
  The kernel's row: the normalised block `b` of row `t`, as the kernel computes it from the loads of its two operands, is the
  normalised row at `256 b + x`; so its scales and its codes are those of the row.
-/
module

public import proofs.«01_k».proof.Proof.QX
public import proofs.«01_k».proof.Proof.Quant

@[expose] public section

noncomputable section

namespace Cert.Q4k

open Cert.KernelIdeal Cert.KernelIdeal.Gen Idealize.ShloMosaic Idealize.ShloMosaic.TcCoe

variable (arg1 : Memref Cert.KernelIdeal.sig .tc .vmem S48x5120 .f32) (harg1 : arg1.IsWhole)
  (arg2 : Memref Cert.KernelIdeal.sig .tc .vmem S1x5120 .f32) (harg2 : arg2.IsWhole)
  (x0 : Vec Ideal S48x5120 .f32) (x1 : Vec Ideal S1x5120 .f32)

/-- The row's operands as functions. -/
def hB : Fin 48 → Fin 5120 → EReal := fun t k => x0 (ix2 t k)
def gB : Fin 5120 → EReal := fun k => x1 (ix2 0 k)

theorem loadH (b : Fin 20) (t : Fin 48) (x : Fin 256) : View.ld x0 (rH b) (ix2 t x) = x0 (ix2 t (at256 b x)) := by
  refine congrArg x0 (funext fun a => ?_)
  fin_cases a
  · exact Fin.ext (by simp [Rect.emb, rH])
  · exact Fin.ext (by simp [Rect.emb, rH, at256]; ring)

theorem loadG (b : Fin 20) (x : Fin 256) : View.ld x1 (rG b) (ix2 0 x) = x1 (ix2 0 (at256 b x)) := by
  refine congrArg x1 (funext fun a => ?_)
  fin_cases a
  · exact Fin.ext (by simp [Rect.emb, rG])
  · exact Fin.ext (by simp [Rect.emb, rG, at256]; ring)

theorem pay5_apply (v : Vec Ideal S48x5120 .f32) (t : Fin 48) : k0_pay5 (F := Ideal) v (ix2 t 0)
    = Ideal.sqrt (Ideal.div (∑ x, v (ix2 t x) * v (ix2 t x)) (Ideal.ofBits .f32 1168113664#32) + Ideal.ofBits .f32 925353388#32) := by
  pointwise [k0_pay5]

theorem nV_row (b : Fin 20) (t : Fin 48) (x : Fin 256) :
    nV (k0_pay5 (F := Ideal) (rdIn arg1 harg1 x0 rHH)) (rdIn arg1 harg1 x0 (rH b)) (rdIn arg2 harg2 x1 (rG b)) t x
      = rowN (hB x0) (gB x1) t (at256 b x) := by
  have e : rdIn arg1 harg1 x0 rHH = x0 := (rdIn_eq arg1 harg1 x0 _).trans (View.ld_unit_zero (by funext a; fin_cases a <;> rfl) _ _)
  rw [e, rdIn_eq, rdIn_eq]
  unfold nV rowN
  rw [loadH, loadG, pay5_apply]
  rfl

theorem bS_row (t : Fin 48) : bS (k0_pay5 (F := Ideal) (rdIn arg1 harg1 x0 rHH)) (fun b => rdIn arg1 harg1 x0 (rH b)) (fun b => rdIn arg2 harg2 x1 (rG b)) t
    = xS (hB x0) (gB x1) t := by
  funext b
  exact congrArg qS (funext fun x => nV_row arg1 harg1 arg2 harg2 x0 x1 b t x)

theorem bQ_row (t : Fin 48) : bQ (k0_pay5 (F := Ideal) (rdIn arg1 harg1 x0 rHH)) (fun b => rdIn arg1 harg1 x0 (rH b)) (fun b => rdIn arg2 harg2 x1 (rG b)) t
    = xQ (hB x0) (gB x1) t := by
  funext b x
  have e := bS_row arg1 harg1 arg2 harg2 x0 x1 t
  exact congrArg₂ codeZ (nV_row arg1 harg1 arg2 harg2 x0 x1 b t x) (congrFun e b)

theorem qVal_row (t : Fin 48) (k : Fin 5120) : qVal (k0_pay5 (F := Ideal) (rdIn arg1 harg1 x0 rHH)) (fun b => rdIn arg1 harg1 x0 (rH b)) (fun b => rdIn arg2 harg2 x1 (rG b)) t k
    = codeB (rowN (hB x0) (gB x1) t k) (xS (hB x0) (gB x1) t ⟨k.val / 256, by omega⟩) := by
  have e := bS_row arg1 harg1 arg2 harg2 x0 x1 t
  have h : at256 (⟨k.val / 256, by omega⟩ : Fin 20) (⟨k.val % 256, by omega⟩ : Fin 256) = k := Fin.ext (by simp only [at256]; omega)
  refine congrArg₂ codeB ((nV_row arg1 harg1 arg2 harg2 x0 x1 _ t _).trans ?_) (congrFun e _)
  rw [h]

end Cert.Q4k

end
-- ==== Proof.Hold.lean ====
/-
  A tile of one projection at a row that is quantised well: the product of the row's codes with the tile's packed weights.
-/
module

public import proofs.«01_k».proof.Proof.QX

@[expose] public section

noncomputable section

namespace Cert.Q4k

open Cert.KernelIdeal Cert.KernelIdeal.Gen Idealize.ShloMosaic Idealize.ShloMosaic.TcCoe

/-- The three scratch arrays hold row `t`, quantised with scales `Sv` and codes `q`. -/
structure RowOk (A : Vec Ideal S20x48x512 .bf16) (S : Vec Ideal S20x48x128 .f32) (X : Vec Ideal S144x256 .bf16) (t : Fin 48)
    (Sv : Fin 20 → EReal) (q : Fin 20 → Fin 256 → ℤ) : Prop where
  hA : ∀ b x, A (ix3 b t x) = ((aR (q b) x : ℝ) : EReal)
  hS : ∀ b l, S (ix3 b t l) = Sv b
  hX : ∀ x : Fin 192, X (ix2 ⟨t.val, by omega⟩ ⟨x.val, by omega⟩) = ((laneG (fun b j => (uZ (q b) j : ℝ) * (Sv b).toReal) x : ℝ) : EReal)
  hX1 : ∀ x : Fin 192, X (ix2 ⟨48 + t.val, by omega⟩ ⟨x.val, by omega⟩) = 0
  hX2 : ∀ x : Fin 192, X (ix2 ⟨96 + t.val, by omega⟩ ⟨x.val, by omega⟩) = 0
  pos : ∀ b, 0 < Sv b
  top : ∀ b, Sv b = ⊤ → ∀ x, q b x = 0

/-- The product of a quantised row with column `n` of a tile. -/
def prodOf (W : Vec Ideal S20x512x128 .i8) (xs : Vec Ideal S12x20x512 .i8) (xd xm : Vec Ideal S20x512 .i16)
    (Sv : Fin 20 → EReal) (q : Fin 20 → Fin 256 → ℤ) (n : Fin 512) : EReal :=
  prodV Sv q (fun b a => W (ix3 b n a)) (fun b i => xs (ix3 i b n)) (fun b => xd (ix2 b n)) (fun b => xm (ix2 b n))

variable {A : Vec Ideal S20x48x512 .bf16} {S : Vec Ideal S20x48x128 .f32} {X : Vec Ideal S144x256 .bf16} {t : Fin 48}
  {Sv : Fin 20 → EReal} {q : Fin 20 → Fin 256 → ℤ}

theorem ldC (xs : Vec Ideal S12x20x512 .i8) (i : Fin 12) (z : Fin 1) (b : Fin 20) (n : Fin 512) :
    View.ld xs (rC i) (ix3 z b n) = xs (ix3 i b n) := by
  show xs ((rC i).emb (ix3 z b n)) = _
  refine congrArg xs ?_
  funext a; apply Fin.ext
  match a with
  | ⟨0, _⟩ => show i.val + 1 * z.val = i.val; omega
  | ⟨1, _⟩ => show 0 + 1 * b.val = b.val; omega
  | ⟨2, _⟩ => show 0 + 1 * n.val = n.val; omega

theorem ldDD (xd : Vec Ideal S20x512 .i16) (b : Fin 20) (n : Fin 512) : View.ld xd rDD (ix2 b n) = xd (ix2 b n) := by
  show xd (rDD.emb (ix2 b n)) = _
  refine congrArg xd ?_
  funext a; apply Fin.ext
  match a with
  | ⟨0, _⟩ => show 0 + 1 * b.val = b.val; omega
  | ⟨1, _⟩ => show 0 + 1 * n.val = n.val; omega

theorem sig_ld (xs : Vec Ideal S12x20x512 .i8) (b : Fin 20) (n : Fin 512) :
    sig (fun i => View.ld xs (rC i)) b n = fun i => xs (ix3 i b n) := by
  funext i; exact ldC xs i 0 b n

theorem holds_of (R : RowOk A S X t Sv q) (xs : Vec Ideal S12x20x512 .i8) (xd xm : Vec Ideal S20x512 .i16) (n : Fin 512) (L1 L2 L3) :
    Holds (View.canon (wordPieces (F := Ideal) (fun i => View.ld xs (rC i)) ++ L1))
      (View.canon (zPieces (F := Ideal) (fun i => View.ld xs (rC i)) (View.ld xm rDD) ++ L2))
      (View.canon (⟨rDD, dfV (F := Ideal) (View.ld xd rDD)⟩ :: L3)) A S X t n Sv q
      (fun b i => xs (ix3 i b n)) (fun b => xd (ix2 b n)) (fun b => xm (ix2 b n)) where
  hP p c b := by
    rw [canonW]
    unfold wVal
    rw [sig_ld]
  hZ i r := by
    rw [canonZ]
    have e : zVal (fun i => View.ld xs (rC i)) (View.ld xm rDD) r n
        = laneG (fun b j => f16V (xm (ix2 b n)) * (mnN (fun i => xs (ix3 i b n)) j : ℕ)) r := by
      have e1 : zVal (fun i => View.ld xs (rC i)) (View.ld xm rDD) r n
        = laneG (fun b j => f16V (View.ld xm rDD (ix2 b n)) * (mnN (sig (fun i => View.ld xs (rC i)) b n) j : ℕ)) r := rfl
      refine e1.trans (congrArg (fun G => laneG G r) (funext fun b => funext fun j => ?_))
      refine congrArg₂ (fun (x : BitVec 16) (y : Fin 12 → BitVec 8) => f16V x * ((mnN y j : ℕ) : ℝ)) ?_ ?_
      · exact ldDD xm b n
      · exact sig_ld xs b n
    rw [e]
  hD b := by
    rw [canonD, ldDD]
  hA := R.hA
  hS := R.hS
  hX := R.hX
  hX1 := R.hX1
  hX2 := R.hX2
  pos := R.pos
  top := R.top

theorem tile_value (R : RowOk A S X t Sv q) (W : Vec Ideal S20x512x128 .i8) (xs : Vec Ideal S12x20x512 .i8) (xd xm : Vec Ideal S20x512 .i16) (n : Fin 512) (L1 L2 L3) :
    accs W (View.canon (wordPieces (F := Ideal) (fun i => View.ld xs (rC i)) ++ L1))
      (View.canon (zPieces (F := Ideal) (fun i => View.ld xs (rC i)) (View.ld xm rDD) ++ L2))
      (View.canon (⟨rDD, dfV (F := Ideal) (View.ld xd rDD)⟩ :: L3)) A S X 20 (ix2 t n) = prodOf W xs xd xm Sv q n :=
  accs_eq (holds_of R xs xd xm n L1 L2 L3)

theorem tile_value0 (R : RowOk A S X t Sv q) (W : Vec Ideal S20x512x128 .i8) (xs : Vec Ideal S12x20x512 .i8) (xd xm : Vec Ideal S20x512 .i16) (n : Fin 512) :
    accs W (View.canon (wordPieces (F := Ideal) (fun i => View.ld xs (rC i))))
      (View.canon (zPieces (F := Ideal) (fun i => View.ld xs (rC i)) (View.ld xm rDD)))
      (View.canon [⟨rDD, dfV (F := Ideal) (View.ld xd rDD)⟩]) A S X 20 (ix2 t n) = prodOf W xs xd xm Sv q n := by
  have h := tile_value R W xs xd xm n [] [] []
  rw [List.append_nil, List.append_nil] at h
  exact h

variable (inv : FVec Ideal S48x1 .f32) (h : Fin 20 → Vec Ideal S48x256 .f32) (g : Fin 20 → Vec Ideal S1x256 .f32)

/-- What step 0 stores is a row quantised well. -/
theorem rowOk_store (t : Fin 48) : RowOk (View.canon (aPieces (F := Ideal) inv h g 20 (by omega)))
    (View.canon (sPieces (F := Ideal) inv h g 20 (by omega))) (View.canon (xPieces (F := Ideal) (xV inv h g))) t
    (bS inv h g t) (bQ inv h g t) where
  hA b x := by
    rw [canonA]
    unfold aVal aR
    by_cases e : x.val < 256
    · rw [if_pos e, if_pos e]
    · rw [if_neg e, if_neg e]
  hS b l := canonS inv h g b t l
  hX x := canonX inv h g t x
  hX1 x := canonX1 inv h g t x
  hX2 x := canonX2 inv h g t x
  pos b := bS_pos inv h g t b
  top b e x := bQ_top inv h g t b e x

end Cert.Q4k

end
-- ==== Proof.QuantA.lean ====
/-
  The scratch and the results that step 0 writes of the row block, as pieces.
-/
module

public import proofs.«01_k».proof.Proof.Quant
public import proofs.«01_k».proof.Proof.Gen.KernelIdeal.Frame.RunA

@[expose] public section

noncomputable section

namespace Cert.Q4k

open Cert.KernelIdeal Cert.KernelIdeal.Gen Idealize.ShloMosaic Idealize.ShloMosaic.TcCoe

variable {F : FTy → Type} [FloatOps F]
variable (c : Dev nD) (i : grid0.Coords) (arg1 : Memref sig .tc .vmem S48x5120 .f32) (harg1 : arg1.IsWhole) (arg2 : Memref sig .tc .vmem S1x5120 .f32) (harg2 : arg2.IsWhole) (arg3 : Memref sig .tc .vmem S20x512x128 .i8) (harg3 : arg3.IsWhole) (arg4 : Memref sig .tc .vmem S12x20x512 .i8) (harg4 : arg4.IsWhole) (arg5 : Memref sig .tc .vmem S20x512 .i16) (harg5 : arg5.IsWhole) (arg6 : Memref sig .tc .vmem S20x512 .i16) (harg6 : arg6.IsWhole) (arg7 : Memref sig .tc .vmem S20x512x128 .i8) (harg7 : arg7.IsWhole) (arg8 : Memref sig .tc .vmem S12x20x512 .i8) (harg8 : arg8.IsWhole) (arg9 : Memref sig .tc .vmem S20x512 .i16) (harg9 : arg9.IsWhole) (arg10 : Memref sig .tc .vmem S20x512 .i16) (harg10 : arg10.IsWhole) (arg11 : Memref sig .tc .vmem S48x5120 .i8) (harg11 : arg11.IsWhole) (arg12 : Memref sig .tc .vmem S48x20 .f32) (harg12 : arg12.IsWhole) (arg13 : Memref sig .tc .vmem S48x512 .i8) (harg13 : arg13.IsWhole) (arg14 : Memref sig .tc .vmem S48x56 .f32) (harg14 : arg14.IsWhole) (arg15 : Memref sig .tc .vmem S2x48x512 .bf16) (harg15 : arg15.IsWhole) (arg16 : Memref sig .tc .vmem S2x48x128 .f32) (harg16 : arg16.IsWhole) (arg17 : Memref sig .tc .vmem S20x48x512 .bf16) (harg17 : arg17.IsWhole) (arg18 : Memref sig .tc .vmem S20x48x128 .f32) (harg18 : arg18.IsWhole) (arg19 : Memref sig .tc .vmem S144x256 .bf16) (harg19 : arg19.IsWhole) (arg20 : Memref sig .tc .vmem S2x4x20x512 .i32) (harg20 : arg20.IsWhole) (arg21 : Memref sig .tc .vmem S3x192x512 .bf16) (harg21 : arg21.IsWhole) (arg22 : Memref sig .tc .vmem S20x512 .f32) (harg22 : arg22.IsWhole)
variable (x0 : Vec F S48x5120 .f32) (x1 : Vec F S1x5120 .f32) (x2 : Vec F S20x512x128 .i8) (x3 : Vec F S12x20x512 .i8) (x4 : Vec F S20x512 .i16) (x5 : Vec F S20x512 .i16) (x6 : Vec F S20x512x128 .i8) (x7 : Vec F S12x20x512 .i8) (x8 : Vec F S20x512 .i16) (x9 : Vec F S20x512 .i16)
variable (xs0 : Vec F S20x48x512 .bf16) (xs1 : Vec F S20x48x128 .f32) (xs2 : Vec F S144x256 .bf16)

theorem aA : kernelRun0_A.sl.HS0_40 (F := F) c arg1 harg1 arg2 harg2 x0 x1 = aPieces (k0_pay5 (rdIn arg1 harg1 x0 rHH)) (fun b => rdIn arg1 harg1 x0 (rH b)) (fun b => rdIn arg2 harg2 x1 (rG b)) 20 (by omega) := rfl

theorem sA : kernelRun0_A.sl.HS1_20 (F := F) c arg1 harg1 arg2 harg2 x0 x1 = sPieces (k0_pay5 (rdIn arg1 harg1 x0 rHH)) (fun b => rdIn arg1 harg1 x0 (rH b)) (fun b => rdIn arg2 harg2 x1 (rG b)) 20 (by omega) := rfl

theorem xA : kernelRun0_A.sl.HS2_3 (F := F) c arg1 harg1 arg2 harg2 x0 x1 = xPieces (xV (k0_pay5 (rdIn arg1 harg1 x0 rHH)) (fun b => rdIn arg1 harg1 x0 (rH b)) (fun b => rdIn arg2 harg2 x1 (rG b))) := rfl

theorem qA : kernelRun0_A.sl.H10_20 (F := F) c arg1 harg1 arg2 harg2 x0 x1 = qPieces (k0_pay5 (rdIn arg1 harg1 x0 rHH)) (fun b => rdIn arg1 harg1 x0 (rH b)) (fun b => rdIn arg2 harg2 x1 (rG b)) 20 (by omega) := rfl

theorem scA : kernelRun0_A.sl.H11_1 (F := F) c arg1 harg1 arg2 harg2 x0 x1 = [⟨rQS, k0_pay261 (scanV (k0_pay5 (rdIn arg1 harg1 x0 rHH)) (fun b => rdIn arg1 harg1 x0 (rH b)) (fun b => rdIn arg2 harg2 x1 (rG b)) 20 (by omega))⟩] := rfl

end Cert.Q4k

end
-- ==== Proof.WdsA.lean ====
/-
  The scratch a point of case A writes of its weights: words, minima and factors of either matrix.
-/
module

public import proofs.«01_k».proof.Proof.Words
public import proofs.«01_k».proof.Proof.Gen.KernelIdeal.Frame.RunA

@[expose] public section

noncomputable section

namespace Cert.Q4k

open Cert.KernelIdeal Cert.KernelIdeal.Gen Idealize.ShloMosaic Idealize.ShloMosaic.TcCoe

variable {F : FTy → Type} [FloatOps F]
variable (c : Dev nD) (i : grid0.Coords) (arg1 : Memref sig .tc .vmem S48x5120 .f32) (harg1 : arg1.IsWhole) (arg2 : Memref sig .tc .vmem S1x5120 .f32) (harg2 : arg2.IsWhole) (arg3 : Memref sig .tc .vmem S20x512x128 .i8) (harg3 : arg3.IsWhole) (arg4 : Memref sig .tc .vmem S12x20x512 .i8) (harg4 : arg4.IsWhole) (arg5 : Memref sig .tc .vmem S20x512 .i16) (harg5 : arg5.IsWhole) (arg6 : Memref sig .tc .vmem S20x512 .i16) (harg6 : arg6.IsWhole) (arg7 : Memref sig .tc .vmem S20x512x128 .i8) (harg7 : arg7.IsWhole) (arg8 : Memref sig .tc .vmem S12x20x512 .i8) (harg8 : arg8.IsWhole) (arg9 : Memref sig .tc .vmem S20x512 .i16) (harg9 : arg9.IsWhole) (arg10 : Memref sig .tc .vmem S20x512 .i16) (harg10 : arg10.IsWhole) (arg11 : Memref sig .tc .vmem S48x5120 .i8) (harg11 : arg11.IsWhole) (arg12 : Memref sig .tc .vmem S48x20 .f32) (harg12 : arg12.IsWhole) (arg13 : Memref sig .tc .vmem S48x512 .i8) (harg13 : arg13.IsWhole) (arg14 : Memref sig .tc .vmem S48x56 .f32) (harg14 : arg14.IsWhole) (arg15 : Memref sig .tc .vmem S2x48x512 .bf16) (harg15 : arg15.IsWhole) (arg16 : Memref sig .tc .vmem S2x48x128 .f32) (harg16 : arg16.IsWhole) (arg17 : Memref sig .tc .vmem S20x48x512 .bf16) (harg17 : arg17.IsWhole) (arg18 : Memref sig .tc .vmem S20x48x128 .f32) (harg18 : arg18.IsWhole) (arg19 : Memref sig .tc .vmem S144x256 .bf16) (harg19 : arg19.IsWhole) (arg20 : Memref sig .tc .vmem S2x4x20x512 .i32) (harg20 : arg20.IsWhole) (arg21 : Memref sig .tc .vmem S3x192x512 .bf16) (harg21 : arg21.IsWhole) (arg22 : Memref sig .tc .vmem S20x512 .f32) (harg22 : arg22.IsWhole)
variable (x0 : Vec F S48x5120 .f32) (x1 : Vec F S1x5120 .f32) (x2 : Vec F S20x512x128 .i8) (x3 : Vec F S12x20x512 .i8) (x4 : Vec F S20x512 .i16) (x5 : Vec F S20x512 .i16) (x6 : Vec F S20x512x128 .i8) (x7 : Vec F S12x20x512 .i8) (x8 : Vec F S20x512 .i16) (x9 : Vec F S20x512 .i16)
variable (xs0 : Vec F S20x48x512 .bf16) (xs1 : Vec F S20x48x128 .f32) (xs2 : Vec F S144x256 .bf16)

theorem wAg : kernelRun0_A.sl.HS3_8 (F := F) c arg4 harg4 x3 = wordPieces (fun i => rdIn arg4 harg4 x3 (rC i)) := rfl

theorem wAu : kernelRun0_A.sl.HS3_16 (F := F) c arg4 harg4 arg8 harg8 x3 x7 = wordPieces (fun i => rdIn arg8 harg8 x7 (rC i)) ++ wordPieces (fun i => rdIn arg4 harg4 x3 (rC i)) := rfl

theorem zAg : kernelRun0_A.sl.HS4_3 (F := F) c arg4 harg4 arg6 harg6 x3 x5 = zPieces (fun i => rdIn arg4 harg4 x3 (rC i)) (rdIn arg6 harg6 x5 rDD) := rfl

theorem zAu : kernelRun0_A.sl.HS4_6 (F := F) c arg4 harg4 arg6 harg6 arg8 harg8 arg10 harg10 x3 x5 x7 x9 = zPieces (fun i => rdIn arg8 harg8 x7 (rC i)) (rdIn arg10 harg10 x9 rDD) ++ zPieces (fun i => rdIn arg4 harg4 x3 (rC i)) (rdIn arg6 harg6 x5 rDD) := rfl

theorem dAg : kernelRun0_A.sl.HS5_1 (F := F) c arg5 harg5 x4 = [⟨rDD, dfV (rdIn arg5 harg5 x4 rDD)⟩] := rfl

theorem dAu : kernelRun0_A.sl.HS5_2 (F := F) c arg5 harg5 arg9 harg9 x4 x8 = [⟨rDD, dfV (rdIn arg9 harg9 x8 rDD)⟩, ⟨rDD, dfV (rdIn arg5 harg5 x4 rDD)⟩] := rfl

end Cert.Q4k

end
-- ==== Proof.ChainAg.lean ====
/-
  The accumulator of the product `g` in case A of the run: at each block it is `blk` of the accumulator before it and
  of the block's loads, so the product is `accs` of whole arrays.
-/
module

public import proofs.«01_k».proof.Proof.Kern
public import proofs.«01_k».proof.Proof.Gen.KernelIdeal.Frame.RunA

@[expose] public section

noncomputable section

namespace Cert.Q4k

open Cert.KernelIdeal Cert.KernelIdeal.Gen Idealize.ShloMosaic Idealize.ShloMosaic.TcCoe

variable {F : FTy → Type} [FloatOps F]
variable (c : Dev nD) (i : grid0.Coords) (arg1 : Memref sig .tc .vmem S48x5120 .f32) (harg1 : arg1.IsWhole) (arg2 : Memref sig .tc .vmem S1x5120 .f32) (harg2 : arg2.IsWhole) (arg3 : Memref sig .tc .vmem S20x512x128 .i8) (harg3 : arg3.IsWhole) (arg4 : Memref sig .tc .vmem S12x20x512 .i8) (harg4 : arg4.IsWhole) (arg5 : Memref sig .tc .vmem S20x512 .i16) (harg5 : arg5.IsWhole) (arg6 : Memref sig .tc .vmem S20x512 .i16) (harg6 : arg6.IsWhole) (arg7 : Memref sig .tc .vmem S20x512x128 .i8) (harg7 : arg7.IsWhole) (arg8 : Memref sig .tc .vmem S12x20x512 .i8) (harg8 : arg8.IsWhole) (arg9 : Memref sig .tc .vmem S20x512 .i16) (harg9 : arg9.IsWhole) (arg10 : Memref sig .tc .vmem S20x512 .i16) (harg10 : arg10.IsWhole) (arg11 : Memref sig .tc .vmem S48x5120 .i8) (harg11 : arg11.IsWhole) (arg12 : Memref sig .tc .vmem S48x20 .f32) (harg12 : arg12.IsWhole) (arg13 : Memref sig .tc .vmem S48x512 .i8) (harg13 : arg13.IsWhole) (arg14 : Memref sig .tc .vmem S48x56 .f32) (harg14 : arg14.IsWhole) (arg15 : Memref sig .tc .vmem S2x48x512 .bf16) (harg15 : arg15.IsWhole) (arg16 : Memref sig .tc .vmem S2x48x128 .f32) (harg16 : arg16.IsWhole) (arg17 : Memref sig .tc .vmem S20x48x512 .bf16) (harg17 : arg17.IsWhole) (arg18 : Memref sig .tc .vmem S20x48x128 .f32) (harg18 : arg18.IsWhole) (arg19 : Memref sig .tc .vmem S144x256 .bf16) (harg19 : arg19.IsWhole) (arg20 : Memref sig .tc .vmem S2x4x20x512 .i32) (harg20 : arg20.IsWhole) (arg21 : Memref sig .tc .vmem S3x192x512 .bf16) (harg21 : arg21.IsWhole) (arg22 : Memref sig .tc .vmem S20x512 .f32) (harg22 : arg22.IsWhole)
variable (x0 : Vec F S48x5120 .f32) (x1 : Vec F S1x5120 .f32) (x2 : Vec F S20x512x128 .i8) (x3 : Vec F S12x20x512 .i8) (x4 : Vec F S20x512 .i16) (x5 : Vec F S20x512 .i16) (x6 : Vec F S20x512x128 .i8) (x7 : Vec F S12x20x512 .i8) (x8 : Vec F S20x512 .i16) (x9 : Vec F S20x512 .i16)
variable (xs0 : Vec F S20x48x512 .bf16) (xs1 : Vec F S20x48x128 .f32) (xs2 : Vec F S144x256 .bf16)

theorem gA_start : kernelRun0_A.sl.r_133 (F := F) c arg1 harg1 arg2 harg2 arg4 harg4 arg6 harg6 arg19 arg21 x0 x1 x3 x5 = acc0 (fun i => rdCov arg21 (kernelRun0_A.sl.HS4_3 (F := F) c arg4 harg4 arg6 harg6 x3 x5) (rZ i)) (rdCov arg19 (kernelRun0_A.sl.HS2_3 (F := F) c arg1 harg1 arg2 harg2 x0 x1) rX3) (rdCov arg19 (kernelRun0_A.sl.HS2_3 (F := F) c arg1 harg1 arg2 harg2 x0 x1) rX2) (rdCov arg19 (kernelRun0_A.sl.HS2_3 (F := F) c arg1 harg1 arg2 harg2 x0 x1) rX1) := rfl

theorem gA_0 : kernelRun0_A.sl.r_143 (F := F) c arg1 harg1 arg2 harg2 arg3 harg3 arg4 harg4 arg5 harg5 arg6 harg6 arg17 arg18 arg19 arg20 arg21 arg22 x0 x1 x2 x3 x4 x5 = blk (kernelRun0_A.sl.r_133 (F := F) c arg1 harg1 arg2 harg2 arg4 harg4 arg6 harg6 arg19 arg21 x0 x1 x3 x5) (rdIn arg3 harg3 x2 (rW 0)) (fun p q => rdCov arg20 (kernelRun0_A.sl.HS3_8 (F := F) c arg4 harg4 x3) (rP p q 0)) (rdCov arg17 (kernelRun0_A.sl.HS0_40 (F := F) c arg1 harg1 arg2 harg2 x0 x1) (rA 0)) (rdCov arg18 (kernelRun0_A.sl.HS1_20 (F := F) c arg1 harg1 arg2 harg2 x0 x1) (rS 0)) (rdCov arg22 (kernelRun0_A.sl.HS5_1 (F := F) c arg5 harg5 x4) (rD 0)) := rfl

theorem gA_1 : kernelRun0_A.sl.r_151 (F := F) c arg1 harg1 arg2 harg2 arg3 harg3 arg4 harg4 arg5 harg5 arg6 harg6 arg17 arg18 arg19 arg20 arg21 arg22 x0 x1 x2 x3 x4 x5 = blk (kernelRun0_A.sl.r_143 (F := F) c arg1 harg1 arg2 harg2 arg3 harg3 arg4 harg4 arg5 harg5 arg6 harg6 arg17 arg18 arg19 arg20 arg21 arg22 x0 x1 x2 x3 x4 x5) (rdIn arg3 harg3 x2 (rW 1)) (fun p q => rdCov arg20 (kernelRun0_A.sl.HS3_8 (F := F) c arg4 harg4 x3) (rP p q 1)) (rdCov arg17 (kernelRun0_A.sl.HS0_40 (F := F) c arg1 harg1 arg2 harg2 x0 x1) (rA 1)) (rdCov arg18 (kernelRun0_A.sl.HS1_20 (F := F) c arg1 harg1 arg2 harg2 x0 x1) (rS 1)) (rdCov arg22 (kernelRun0_A.sl.HS5_1 (F := F) c arg5 harg5 x4) (rD 1)) := rfl

theorem gA_2 : kernelRun0_A.sl.r_161 (F := F) c arg1 harg1 arg2 harg2 arg3 harg3 arg4 harg4 arg5 harg5 arg6 harg6 arg17 arg18 arg19 arg20 arg21 arg22 x0 x1 x2 x3 x4 x5 = blk (kernelRun0_A.sl.r_151 (F := F) c arg1 harg1 arg2 harg2 arg3 harg3 arg4 harg4 arg5 harg5 arg6 harg6 arg17 arg18 arg19 arg20 arg21 arg22 x0 x1 x2 x3 x4 x5) (rdIn arg3 harg3 x2 (rW 2)) (fun p q => rdCov arg20 (kernelRun0_A.sl.HS3_8 (F := F) c arg4 harg4 x3) (rP p q 2)) (rdCov arg17 (kernelRun0_A.sl.HS0_40 (F := F) c arg1 harg1 arg2 harg2 x0 x1) (rA 2)) (rdCov arg18 (kernelRun0_A.sl.HS1_20 (F := F) c arg1 harg1 arg2 harg2 x0 x1) (rS 2)) (rdCov arg22 (kernelRun0_A.sl.HS5_1 (F := F) c arg5 harg5 x4) (rD 2)) := rfl

theorem gA_3 : kernelRun0_A.sl.r_171 (F := F) c arg1 harg1 arg2 harg2 arg3 harg3 arg4 harg4 arg5 harg5 arg6 harg6 arg17 arg18 arg19 arg20 arg21 arg22 x0 x1 x2 x3 x4 x5 = blk (kernelRun0_A.sl.r_161 (F := F) c arg1 harg1 arg2 harg2 arg3 harg3 arg4 harg4 arg5 harg5 arg6 harg6 arg17 arg18 arg19 arg20 arg21 arg22 x0 x1 x2 x3 x4 x5) (rdIn arg3 harg3 x2 (rW 3)) (fun p q => rdCov arg20 (kernelRun0_A.sl.HS3_8 (F := F) c arg4 harg4 x3) (rP p q 3)) (rdCov arg17 (kernelRun0_A.sl.HS0_40 (F := F) c arg1 harg1 arg2 harg2 x0 x1) (rA 3)) (rdCov arg18 (kernelRun0_A.sl.HS1_20 (F := F) c arg1 harg1 arg2 harg2 x0 x1) (rS 3)) (rdCov arg22 (kernelRun0_A.sl.HS5_1 (F := F) c arg5 harg5 x4) (rD 3)) := rfl

theorem gA_4 : kernelRun0_A.sl.r_177 (F := F) c arg1 harg1 arg2 harg2 arg3 harg3 arg4 harg4 arg5 harg5 arg6 harg6 arg17 arg18 arg19 arg20 arg21 arg22 x0 x1 x2 x3 x4 x5 = blk (kernelRun0_A.sl.r_171 (F := F) c arg1 harg1 arg2 harg2 arg3 harg3 arg4 harg4 arg5 harg5 arg6 harg6 arg17 arg18 arg19 arg20 arg21 arg22 x0 x1 x2 x3 x4 x5) (rdIn arg3 harg3 x2 (rW 4)) (fun p q => rdCov arg20 (kernelRun0_A.sl.HS3_8 (F := F) c arg4 harg4 x3) (rP p q 4)) (rdCov arg17 (kernelRun0_A.sl.HS0_40 (F := F) c arg1 harg1 arg2 harg2 x0 x1) (rA 4)) (rdCov arg18 (kernelRun0_A.sl.HS1_20 (F := F) c arg1 harg1 arg2 harg2 x0 x1) (rS 4)) (rdCov arg22 (kernelRun0_A.sl.HS5_1 (F := F) c arg5 harg5 x4) (rD 4)) := rfl

theorem gA_5 : kernelRun0_A.sl.r_188 (F := F) c arg1 harg1 arg2 harg2 arg3 harg3 arg4 harg4 arg5 harg5 arg6 harg6 arg17 arg18 arg19 arg20 arg21 arg22 x0 x1 x2 x3 x4 x5 = blk (kernelRun0_A.sl.r_177 (F := F) c arg1 harg1 arg2 harg2 arg3 harg3 arg4 harg4 arg5 harg5 arg6 harg6 arg17 arg18 arg19 arg20 arg21 arg22 x0 x1 x2 x3 x4 x5) (rdIn arg3 harg3 x2 (rW 5)) (fun p q => rdCov arg20 (kernelRun0_A.sl.HS3_8 (F := F) c arg4 harg4 x3) (rP p q 5)) (rdCov arg17 (kernelRun0_A.sl.HS0_40 (F := F) c arg1 harg1 arg2 harg2 x0 x1) (rA 5)) (rdCov arg18 (kernelRun0_A.sl.HS1_20 (F := F) c arg1 harg1 arg2 harg2 x0 x1) (rS 5)) (rdCov arg22 (kernelRun0_A.sl.HS5_1 (F := F) c arg5 harg5 x4) (rD 5)) := rfl

theorem gA_6 : kernelRun0_A.sl.r_197 (F := F) c arg1 harg1 arg2 harg2 arg3 harg3 arg4 harg4 arg5 harg5 arg6 harg6 arg17 arg18 arg19 arg20 arg21 arg22 x0 x1 x2 x3 x4 x5 = blk (kernelRun0_A.sl.r_188 (F := F) c arg1 harg1 arg2 harg2 arg3 harg3 arg4 harg4 arg5 harg5 arg6 harg6 arg17 arg18 arg19 arg20 arg21 arg22 x0 x1 x2 x3 x4 x5) (rdIn arg3 harg3 x2 (rW 6)) (fun p q => rdCov arg20 (kernelRun0_A.sl.HS3_8 (F := F) c arg4 harg4 x3) (rP p q 6)) (rdCov arg17 (kernelRun0_A.sl.HS0_40 (F := F) c arg1 harg1 arg2 harg2 x0 x1) (rA 6)) (rdCov arg18 (kernelRun0_A.sl.HS1_20 (F := F) c arg1 harg1 arg2 harg2 x0 x1) (rS 6)) (rdCov arg22 (kernelRun0_A.sl.HS5_1 (F := F) c arg5 harg5 x4) (rD 6)) := rfl

theorem gA_7 : kernelRun0_A.sl.r_206 (F := F) c arg1 harg1 arg2 harg2 arg3 harg3 arg4 harg4 arg5 harg5 arg6 harg6 arg17 arg18 arg19 arg20 arg21 arg22 x0 x1 x2 x3 x4 x5 = blk (kernelRun0_A.sl.r_197 (F := F) c arg1 harg1 arg2 harg2 arg3 harg3 arg4 harg4 arg5 harg5 arg6 harg6 arg17 arg18 arg19 arg20 arg21 arg22 x0 x1 x2 x3 x4 x5) (rdIn arg3 harg3 x2 (rW 7)) (fun p q => rdCov arg20 (kernelRun0_A.sl.HS3_8 (F := F) c arg4 harg4 x3) (rP p q 7)) (rdCov arg17 (kernelRun0_A.sl.HS0_40 (F := F) c arg1 harg1 arg2 harg2 x0 x1) (rA 7)) (rdCov arg18 (kernelRun0_A.sl.HS1_20 (F := F) c arg1 harg1 arg2 harg2 x0 x1) (rS 7)) (rdCov arg22 (kernelRun0_A.sl.HS5_1 (F := F) c arg5 harg5 x4) (rD 7)) := rfl

theorem gA_8 : kernelRun0_A.sl.r_215 (F := F) c arg1 harg1 arg2 harg2 arg3 harg3 arg4 harg4 arg5 harg5 arg6 harg6 arg17 arg18 arg19 arg20 arg21 arg22 x0 x1 x2 x3 x4 x5 = blk (kernelRun0_A.sl.r_206 (F := F) c arg1 harg1 arg2 harg2 arg3 harg3 arg4 harg4 arg5 harg5 arg6 harg6 arg17 arg18 arg19 arg20 arg21 arg22 x0 x1 x2 x3 x4 x5) (rdIn arg3 harg3 x2 (rW 8)) (fun p q => rdCov arg20 (kernelRun0_A.sl.HS3_8 (F := F) c arg4 harg4 x3) (rP p q 8)) (rdCov arg17 (kernelRun0_A.sl.HS0_40 (F := F) c arg1 harg1 arg2 harg2 x0 x1) (rA 8)) (rdCov arg18 (kernelRun0_A.sl.HS1_20 (F := F) c arg1 harg1 arg2 harg2 x0 x1) (rS 8)) (rdCov arg22 (kernelRun0_A.sl.HS5_1 (F := F) c arg5 harg5 x4) (rD 8)) := rfl

theorem gA_9 : kernelRun0_A.sl.r_223 (F := F) c arg1 harg1 arg2 harg2 arg3 harg3 arg4 harg4 arg5 harg5 arg6 harg6 arg17 arg18 arg19 arg20 arg21 arg22 x0 x1 x2 x3 x4 x5 = blk (kernelRun0_A.sl.r_215 (F := F) c arg1 harg1 arg2 harg2 arg3 harg3 arg4 harg4 arg5 harg5 arg6 harg6 arg17 arg18 arg19 arg20 arg21 arg22 x0 x1 x2 x3 x4 x5) (rdIn arg3 harg3 x2 (rW 9)) (fun p q => rdCov arg20 (kernelRun0_A.sl.HS3_8 (F := F) c arg4 harg4 x3) (rP p q 9)) (rdCov arg17 (kernelRun0_A.sl.HS0_40 (F := F) c arg1 harg1 arg2 harg2 x0 x1) (rA 9)) (rdCov arg18 (kernelRun0_A.sl.HS1_20 (F := F) c arg1 harg1 arg2 harg2 x0 x1) (rS 9)) (rdCov arg22 (kernelRun0_A.sl.HS5_1 (F := F) c arg5 harg5 x4) (rD 9)) := rfl

theorem gA_10 : kernelRun0_A.sl.r_231 (F := F) c arg1 harg1 arg2 harg2 arg3 harg3 arg4 harg4 arg5 harg5 arg6 harg6 arg17 arg18 arg19 arg20 arg21 arg22 x0 x1 x2 x3 x4 x5 = blk (kernelRun0_A.sl.r_223 (F := F) c arg1 harg1 arg2 harg2 arg3 harg3 arg4 harg4 arg5 harg5 arg6 harg6 arg17 arg18 arg19 arg20 arg21 arg22 x0 x1 x2 x3 x4 x5) (rdIn arg3 harg3 x2 (rW 10)) (fun p q => rdCov arg20 (kernelRun0_A.sl.HS3_8 (F := F) c arg4 harg4 x3) (rP p q 10)) (rdCov arg17 (kernelRun0_A.sl.HS0_40 (F := F) c arg1 harg1 arg2 harg2 x0 x1) (rA 10)) (rdCov arg18 (kernelRun0_A.sl.HS1_20 (F := F) c arg1 harg1 arg2 harg2 x0 x1) (rS 10)) (rdCov arg22 (kernelRun0_A.sl.HS5_1 (F := F) c arg5 harg5 x4) (rD 10)) := rfl

theorem gA_11 : kernelRun0_A.sl.r_240 (F := F) c arg1 harg1 arg2 harg2 arg3 harg3 arg4 harg4 arg5 harg5 arg6 harg6 arg17 arg18 arg19 arg20 arg21 arg22 x0 x1 x2 x3 x4 x5 = blk (kernelRun0_A.sl.r_231 (F := F) c arg1 harg1 arg2 harg2 arg3 harg3 arg4 harg4 arg5 harg5 arg6 harg6 arg17 arg18 arg19 arg20 arg21 arg22 x0 x1 x2 x3 x4 x5) (rdIn arg3 harg3 x2 (rW 11)) (fun p q => rdCov arg20 (kernelRun0_A.sl.HS3_8 (F := F) c arg4 harg4 x3) (rP p q 11)) (rdCov arg17 (kernelRun0_A.sl.HS0_40 (F := F) c arg1 harg1 arg2 harg2 x0 x1) (rA 11)) (rdCov arg18 (kernelRun0_A.sl.HS1_20 (F := F) c arg1 harg1 arg2 harg2 x0 x1) (rS 11)) (rdCov arg22 (kernelRun0_A.sl.HS5_1 (F := F) c arg5 harg5 x4) (rD 11)) := rfl

theorem gA_12 : kernelRun0_A.sl.r_247 (F := F) c arg1 harg1 arg2 harg2 arg3 harg3 arg4 harg4 arg5 harg5 arg6 harg6 arg17 arg18 arg19 arg20 arg21 arg22 x0 x1 x2 x3 x4 x5 = blk (kernelRun0_A.sl.r_240 (F := F) c arg1 harg1 arg2 harg2 arg3 harg3 arg4 harg4 arg5 harg5 arg6 harg6 arg17 arg18 arg19 arg20 arg21 arg22 x0 x1 x2 x3 x4 x5) (rdIn arg3 harg3 x2 (rW 12)) (fun p q => rdCov arg20 (kernelRun0_A.sl.HS3_8 (F := F) c arg4 harg4 x3) (rP p q 12)) (rdCov arg17 (kernelRun0_A.sl.HS0_40 (F := F) c arg1 harg1 arg2 harg2 x0 x1) (rA 12)) (rdCov arg18 (kernelRun0_A.sl.HS1_20 (F := F) c arg1 harg1 arg2 harg2 x0 x1) (rS 12)) (rdCov arg22 (kernelRun0_A.sl.HS5_1 (F := F) c arg5 harg5 x4) (rD 12)) := rfl

theorem gA_13 : kernelRun0_A.sl.r_258 (F := F) c arg1 harg1 arg2 harg2 arg3 harg3 arg4 harg4 arg5 harg5 arg6 harg6 arg17 arg18 arg19 arg20 arg21 arg22 x0 x1 x2 x3 x4 x5 = blk (kernelRun0_A.sl.r_247 (F := F) c arg1 harg1 arg2 harg2 arg3 harg3 arg4 harg4 arg5 harg5 arg6 harg6 arg17 arg18 arg19 arg20 arg21 arg22 x0 x1 x2 x3 x4 x5) (rdIn arg3 harg3 x2 (rW 13)) (fun p q => rdCov arg20 (kernelRun0_A.sl.HS3_8 (F := F) c arg4 harg4 x3) (rP p q 13)) (rdCov arg17 (kernelRun0_A.sl.HS0_40 (F := F) c arg1 harg1 arg2 harg2 x0 x1) (rA 13)) (rdCov arg18 (kernelRun0_A.sl.HS1_20 (F := F) c arg1 harg1 arg2 harg2 x0 x1) (rS 13)) (rdCov arg22 (kernelRun0_A.sl.HS5_1 (F := F) c arg5 harg5 x4) (rD 13)) := rfl

theorem gA_14 : kernelRun0_A.sl.r_268 (F := F) c arg1 harg1 arg2 harg2 arg3 harg3 arg4 harg4 arg5 harg5 arg6 harg6 arg17 arg18 arg19 arg20 arg21 arg22 x0 x1 x2 x3 x4 x5 = blk (kernelRun0_A.sl.r_258 (F := F) c arg1 harg1 arg2 harg2 arg3 harg3 arg4 harg4 arg5 harg5 arg6 harg6 arg17 arg18 arg19 arg20 arg21 arg22 x0 x1 x2 x3 x4 x5) (rdIn arg3 harg3 x2 (rW 14)) (fun p q => rdCov arg20 (kernelRun0_A.sl.HS3_8 (F := F) c arg4 harg4 x3) (rP p q 14)) (rdCov arg17 (kernelRun0_A.sl.HS0_40 (F := F) c arg1 harg1 arg2 harg2 x0 x1) (rA 14)) (rdCov arg18 (kernelRun0_A.sl.HS1_20 (F := F) c arg1 harg1 arg2 harg2 x0 x1) (rS 14)) (rdCov arg22 (kernelRun0_A.sl.HS5_1 (F := F) c arg5 harg5 x4) (rD 14)) := rfl

theorem gA_15 : kernelRun0_A.sl.r_278 (F := F) c arg1 harg1 arg2 harg2 arg3 harg3 arg4 harg4 arg5 harg5 arg6 harg6 arg17 arg18 arg19 arg20 arg21 arg22 x0 x1 x2 x3 x4 x5 = blk (kernelRun0_A.sl.r_268 (F := F) c arg1 harg1 arg2 harg2 arg3 harg3 arg4 harg4 arg5 harg5 arg6 harg6 arg17 arg18 arg19 arg20 arg21 arg22 x0 x1 x2 x3 x4 x5) (rdIn arg3 harg3 x2 (rW 15)) (fun p q => rdCov arg20 (kernelRun0_A.sl.HS3_8 (F := F) c arg4 harg4 x3) (rP p q 15)) (rdCov arg17 (kernelRun0_A.sl.HS0_40 (F := F) c arg1 harg1 arg2 harg2 x0 x1) (rA 15)) (rdCov arg18 (kernelRun0_A.sl.HS1_20 (F := F) c arg1 harg1 arg2 harg2 x0 x1) (rS 15)) (rdCov arg22 (kernelRun0_A.sl.HS5_1 (F := F) c arg5 harg5 x4) (rD 15)) := rfl

theorem gA_16 : kernelRun0_A.sl.r_286 (F := F) c arg1 harg1 arg2 harg2 arg3 harg3 arg4 harg4 arg5 harg5 arg6 harg6 arg17 arg18 arg19 arg20 arg21 arg22 x0 x1 x2 x3 x4 x5 = blk (kernelRun0_A.sl.r_278 (F := F) c arg1 harg1 arg2 harg2 arg3 harg3 arg4 harg4 arg5 harg5 arg6 harg6 arg17 arg18 arg19 arg20 arg21 arg22 x0 x1 x2 x3 x4 x5) (rdIn arg3 harg3 x2 (rW 16)) (fun p q => rdCov arg20 (kernelRun0_A.sl.HS3_8 (F := F) c arg4 harg4 x3) (rP p q 16)) (rdCov arg17 (kernelRun0_A.sl.HS0_40 (F := F) c arg1 harg1 arg2 harg2 x0 x1) (rA 16)) (rdCov arg18 (kernelRun0_A.sl.HS1_20 (F := F) c arg1 harg1 arg2 harg2 x0 x1) (rS 16)) (rdCov arg22 (kernelRun0_A.sl.HS5_1 (F := F) c arg5 harg5 x4) (rD 16)) := rfl

theorem gA_17 : kernelRun0_A.sl.r_296 (F := F) c arg1 harg1 arg2 harg2 arg3 harg3 arg4 harg4 arg5 harg5 arg6 harg6 arg17 arg18 arg19 arg20 arg21 arg22 x0 x1 x2 x3 x4 x5 = blk (kernelRun0_A.sl.r_286 (F := F) c arg1 harg1 arg2 harg2 arg3 harg3 arg4 harg4 arg5 harg5 arg6 harg6 arg17 arg18 arg19 arg20 arg21 arg22 x0 x1 x2 x3 x4 x5) (rdIn arg3 harg3 x2 (rW 17)) (fun p q => rdCov arg20 (kernelRun0_A.sl.HS3_8 (F := F) c arg4 harg4 x3) (rP p q 17)) (rdCov arg17 (kernelRun0_A.sl.HS0_40 (F := F) c arg1 harg1 arg2 harg2 x0 x1) (rA 17)) (rdCov arg18 (kernelRun0_A.sl.HS1_20 (F := F) c arg1 harg1 arg2 harg2 x0 x1) (rS 17)) (rdCov arg22 (kernelRun0_A.sl.HS5_1 (F := F) c arg5 harg5 x4) (rD 17)) := rfl

theorem gA_18 : kernelRun0_A.sl.r_306 (F := F) c arg1 harg1 arg2 harg2 arg3 harg3 arg4 harg4 arg5 harg5 arg6 harg6 arg17 arg18 arg19 arg20 arg21 arg22 x0 x1 x2 x3 x4 x5 = blk (kernelRun0_A.sl.r_296 (F := F) c arg1 harg1 arg2 harg2 arg3 harg3 arg4 harg4 arg5 harg5 arg6 harg6 arg17 arg18 arg19 arg20 arg21 arg22 x0 x1 x2 x3 x4 x5) (rdIn arg3 harg3 x2 (rW 18)) (fun p q => rdCov arg20 (kernelRun0_A.sl.HS3_8 (F := F) c arg4 harg4 x3) (rP p q 18)) (rdCov arg17 (kernelRun0_A.sl.HS0_40 (F := F) c arg1 harg1 arg2 harg2 x0 x1) (rA 18)) (rdCov arg18 (kernelRun0_A.sl.HS1_20 (F := F) c arg1 harg1 arg2 harg2 x0 x1) (rS 18)) (rdCov arg22 (kernelRun0_A.sl.HS5_1 (F := F) c arg5 harg5 x4) (rD 18)) := rfl

theorem gA_19 : kernelRun0_A.sl.r_312 (F := F) c arg1 harg1 arg2 harg2 arg3 harg3 arg4 harg4 arg5 harg5 arg6 harg6 arg17 arg18 arg19 arg20 arg21 arg22 x0 x1 x2 x3 x4 x5 = blk (kernelRun0_A.sl.r_306 (F := F) c arg1 harg1 arg2 harg2 arg3 harg3 arg4 harg4 arg5 harg5 arg6 harg6 arg17 arg18 arg19 arg20 arg21 arg22 x0 x1 x2 x3 x4 x5) (rdIn arg3 harg3 x2 (rW 19)) (fun p q => rdCov arg20 (kernelRun0_A.sl.HS3_8 (F := F) c arg4 harg4 x3) (rP p q 19)) (rdCov arg17 (kernelRun0_A.sl.HS0_40 (F := F) c arg1 harg1 arg2 harg2 x0 x1) (rA 19)) (rdCov arg18 (kernelRun0_A.sl.HS1_20 (F := F) c arg1 harg1 arg2 harg2 x0 x1) (rS 19)) (rdCov arg22 (kernelRun0_A.sl.HS5_1 (F := F) c arg5 harg5 x4) (rD 19)) := rfl

/-- The whole product. -/
theorem gA_eq : kernelRun0_A.sl.r_312 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 20 := by
  have h0 : kernelRun0_A.sl.r_133 (F := F) c arg1 harg1 arg2 harg2 arg4 harg4 arg6 harg6 arg19 arg21 x0 x1 x3 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 0 := by
    rw [gA_start]; simp only [rdCov_eq, rdIn_eq, accs]
  have h1 : kernelRun0_A.sl.r_143 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 1 := by
    rw [gA_0, h0]; simp only [rdCov_eq, rdIn_eq]; exact (accs_succ _ _ _ _ _ _ _ 0).symm
  have h2 : kernelRun0_A.sl.r_151 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 2 := by
    rw [gA_1, h1]; simp only [rdCov_eq, rdIn_eq]; exact (accs_succ _ _ _ _ _ _ _ 1).symm
  have h3 : kernelRun0_A.sl.r_161 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 3 := by
    rw [gA_2, h2]; simp only [rdCov_eq, rdIn_eq]; exact (accs_succ _ _ _ _ _ _ _ 2).symm
  have h4 : kernelRun0_A.sl.r_171 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 4 := by
    rw [gA_3, h3]; simp only [rdCov_eq, rdIn_eq]; exact (accs_succ _ _ _ _ _ _ _ 3).symm
  have h5 : kernelRun0_A.sl.r_177 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 5 := by
    rw [gA_4, h4]; simp only [rdCov_eq, rdIn_eq]; exact (accs_succ _ _ _ _ _ _ _ 4).symm
  have h6 : kernelRun0_A.sl.r_188 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 6 := by
    rw [gA_5, h5]; simp only [rdCov_eq, rdIn_eq]; exact (accs_succ _ _ _ _ _ _ _ 5).symm
  have h7 : kernelRun0_A.sl.r_197 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 7 := by
    rw [gA_6, h6]; simp only [rdCov_eq, rdIn_eq]; exact (accs_succ _ _ _ _ _ _ _ 6).symm
  have h8 : kernelRun0_A.sl.r_206 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 8 := by
    rw [gA_7, h7]; simp only [rdCov_eq, rdIn_eq]; exact (accs_succ _ _ _ _ _ _ _ 7).symm
  have h9 : kernelRun0_A.sl.r_215 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 9 := by
    rw [gA_8, h8]; simp only [rdCov_eq, rdIn_eq]; exact (accs_succ _ _ _ _ _ _ _ 8).symm
  have h10 : kernelRun0_A.sl.r_223 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 10 := by
    rw [gA_9, h9]; simp only [rdCov_eq, rdIn_eq]; exact (accs_succ _ _ _ _ _ _ _ 9).symm
  have h11 : kernelRun0_A.sl.r_231 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 11 := by
    rw [gA_10, h10]; simp only [rdCov_eq, rdIn_eq]; exact (accs_succ _ _ _ _ _ _ _ 10).symm
  have h12 : kernelRun0_A.sl.r_240 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 12 := by
    rw [gA_11, h11]; simp only [rdCov_eq, rdIn_eq]; exact (accs_succ _ _ _ _ _ _ _ 11).symm
  have h13 : kernelRun0_A.sl.r_247 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 13 := by
    rw [gA_12, h12]; simp only [rdCov_eq, rdIn_eq]; exact (accs_succ _ _ _ _ _ _ _ 12).symm
  have h14 : kernelRun0_A.sl.r_258 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 14 := by
    rw [gA_13, h13]; simp only [rdCov_eq, rdIn_eq]; exact (accs_succ _ _ _ _ _ _ _ 13).symm
  have h15 : kernelRun0_A.sl.r_268 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 15 := by
    rw [gA_14, h14]; simp only [rdCov_eq, rdIn_eq]; exact (accs_succ _ _ _ _ _ _ _ 14).symm
  have h16 : kernelRun0_A.sl.r_278 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 16 := by
    rw [gA_15, h15]; simp only [rdCov_eq, rdIn_eq]; exact (accs_succ _ _ _ _ _ _ _ 15).symm
  have h17 : kernelRun0_A.sl.r_286 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 17 := by
    rw [gA_16, h16]; simp only [rdCov_eq, rdIn_eq]; exact (accs_succ _ _ _ _ _ _ _ 16).symm
  have h18 : kernelRun0_A.sl.r_296 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 18 := by
    rw [gA_17, h17]; simp only [rdCov_eq, rdIn_eq]; exact (accs_succ _ _ _ _ _ _ _ 17).symm
  have h19 : kernelRun0_A.sl.r_306 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 19 := by
    rw [gA_18, h18]; simp only [rdCov_eq, rdIn_eq]; exact (accs_succ _ _ _ _ _ _ _ 18).symm
  have h20 : kernelRun0_A.sl.r_312 (F := F) c arg1 harg1 arg2 harg2 arg3 harg3 arg4 harg4 arg5 harg5 arg6 harg6 arg17 arg18 arg19 arg20 arg21 arg22 x0 x1 x2 x3 x4 x5 = accs x2 (View.canon (kernelRun0_A.sl.HS3_8 (F := F) c arg4 harg4 x3)) (View.canon (kernelRun0_A.sl.HS4_3 (F := F) c arg4 harg4 arg6 harg6 x3 x5)) (View.canon (kernelRun0_A.sl.HS5_1 (F := F) c arg5 harg5 x4)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 20 := by
    rw [gA_19, h19]; simp only [rdCov_eq, rdIn_eq]; exact (accs_succ _ _ _ _ _ _ _ 19).symm
  exact h20

end Cert.Q4k

end
-- ==== Proof.ChainAu.lean ====
/-
  The accumulator of the product `u` in case A of the run: at each block it is `blk` of the accumulator before it and
  of the block's loads, so the product is `accs` of whole arrays.
-/
module

public import proofs.«01_k».proof.Proof.Kern
public import proofs.«01_k».proof.Proof.Gen.KernelIdeal.Frame.RunA

@[expose] public section

noncomputable section

namespace Cert.Q4k

open Cert.KernelIdeal Cert.KernelIdeal.Gen Idealize.ShloMosaic Idealize.ShloMosaic.TcCoe

variable {F : FTy → Type} [FloatOps F]
variable (c : Dev nD) (i : grid0.Coords) (arg1 : Memref sig .tc .vmem S48x5120 .f32) (harg1 : arg1.IsWhole) (arg2 : Memref sig .tc .vmem S1x5120 .f32) (harg2 : arg2.IsWhole) (arg3 : Memref sig .tc .vmem S20x512x128 .i8) (harg3 : arg3.IsWhole) (arg4 : Memref sig .tc .vmem S12x20x512 .i8) (harg4 : arg4.IsWhole) (arg5 : Memref sig .tc .vmem S20x512 .i16) (harg5 : arg5.IsWhole) (arg6 : Memref sig .tc .vmem S20x512 .i16) (harg6 : arg6.IsWhole) (arg7 : Memref sig .tc .vmem S20x512x128 .i8) (harg7 : arg7.IsWhole) (arg8 : Memref sig .tc .vmem S12x20x512 .i8) (harg8 : arg8.IsWhole) (arg9 : Memref sig .tc .vmem S20x512 .i16) (harg9 : arg9.IsWhole) (arg10 : Memref sig .tc .vmem S20x512 .i16) (harg10 : arg10.IsWhole) (arg11 : Memref sig .tc .vmem S48x5120 .i8) (harg11 : arg11.IsWhole) (arg12 : Memref sig .tc .vmem S48x20 .f32) (harg12 : arg12.IsWhole) (arg13 : Memref sig .tc .vmem S48x512 .i8) (harg13 : arg13.IsWhole) (arg14 : Memref sig .tc .vmem S48x56 .f32) (harg14 : arg14.IsWhole) (arg15 : Memref sig .tc .vmem S2x48x512 .bf16) (harg15 : arg15.IsWhole) (arg16 : Memref sig .tc .vmem S2x48x128 .f32) (harg16 : arg16.IsWhole) (arg17 : Memref sig .tc .vmem S20x48x512 .bf16) (harg17 : arg17.IsWhole) (arg18 : Memref sig .tc .vmem S20x48x128 .f32) (harg18 : arg18.IsWhole) (arg19 : Memref sig .tc .vmem S144x256 .bf16) (harg19 : arg19.IsWhole) (arg20 : Memref sig .tc .vmem S2x4x20x512 .i32) (harg20 : arg20.IsWhole) (arg21 : Memref sig .tc .vmem S3x192x512 .bf16) (harg21 : arg21.IsWhole) (arg22 : Memref sig .tc .vmem S20x512 .f32) (harg22 : arg22.IsWhole)
variable (x0 : Vec F S48x5120 .f32) (x1 : Vec F S1x5120 .f32) (x2 : Vec F S20x512x128 .i8) (x3 : Vec F S12x20x512 .i8) (x4 : Vec F S20x512 .i16) (x5 : Vec F S20x512 .i16) (x6 : Vec F S20x512x128 .i8) (x7 : Vec F S12x20x512 .i8) (x8 : Vec F S20x512 .i16) (x9 : Vec F S20x512 .i16)
variable (xs0 : Vec F S20x48x512 .bf16) (xs1 : Vec F S20x48x128 .f32) (xs2 : Vec F S144x256 .bf16)

theorem uA_start : kernelRun0_A.sl.r_340 (F := F) c arg1 harg1 arg2 harg2 arg4 harg4 arg6 harg6 arg8 harg8 arg10 harg10 arg19 arg21 x0 x1 x3 x5 x7 x9 = acc0 (fun i => rdCov arg21 (kernelRun0_A.sl.HS4_6 (F := F) c arg4 harg4 arg6 harg6 arg8 harg8 arg10 harg10 x3 x5 x7 x9) (rZ i)) (rdCov arg19 (kernelRun0_A.sl.HS2_3 (F := F) c arg1 harg1 arg2 harg2 x0 x1) rX3) (rdCov arg19 (kernelRun0_A.sl.HS2_3 (F := F) c arg1 harg1 arg2 harg2 x0 x1) rX2) (rdCov arg19 (kernelRun0_A.sl.HS2_3 (F := F) c arg1 harg1 arg2 harg2 x0 x1) rX1) := rfl

theorem uA_0 : kernelRun0_A.sl.r_349 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_340 (F := F) c arg1 harg1 arg2 harg2 arg4 harg4 arg6 harg6 arg8 harg8 arg10 harg10 arg19 arg21 x0 x1 x3 x5 x7 x9) (rdIn arg7 harg7 x6 (rW 0)) (fun p q => rdCov arg20 (kernelRun0_A.sl.HS3_16 (F := F) c arg4 harg4 arg8 harg8 x3 x7) (rP p q 0)) (rdCov arg17 (kernelRun0_A.sl.HS0_40 (F := F) c arg1 harg1 arg2 harg2 x0 x1) (rA 0)) (rdCov arg18 (kernelRun0_A.sl.HS1_20 (F := F) c arg1 harg1 arg2 harg2 x0 x1) (rS 0)) (rdCov arg22 (kernelRun0_A.sl.HS5_2 (F := F) c arg5 harg5 arg9 harg9 x4 x8) (rD 0)) := rfl

theorem uA_1 : kernelRun0_A.sl.r_358 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_349 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 1)) (fun p q => rdCov arg20 (kernelRun0_A.sl.HS3_16 (F := F) c arg4 harg4 arg8 harg8 x3 x7) (rP p q 1)) (rdCov arg17 (kernelRun0_A.sl.HS0_40 (F := F) c arg1 harg1 arg2 harg2 x0 x1) (rA 1)) (rdCov arg18 (kernelRun0_A.sl.HS1_20 (F := F) c arg1 harg1 arg2 harg2 x0 x1) (rS 1)) (rdCov arg22 (kernelRun0_A.sl.HS5_2 (F := F) c arg5 harg5 arg9 harg9 x4 x8) (rD 1)) := rfl

theorem uA_2 : kernelRun0_A.sl.r_367 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_358 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 2)) (fun p q => rdCov arg20 (kernelRun0_A.sl.HS3_16 (F := F) c arg4 harg4 arg8 harg8 x3 x7) (rP p q 2)) (rdCov arg17 (kernelRun0_A.sl.HS0_40 (F := F) c arg1 harg1 arg2 harg2 x0 x1) (rA 2)) (rdCov arg18 (kernelRun0_A.sl.HS1_20 (F := F) c arg1 harg1 arg2 harg2 x0 x1) (rS 2)) (rdCov arg22 (kernelRun0_A.sl.HS5_2 (F := F) c arg5 harg5 arg9 harg9 x4 x8) (rD 2)) := rfl

theorem uA_3 : kernelRun0_A.sl.r_375 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_367 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 3)) (fun p q => rdCov arg20 (kernelRun0_A.sl.HS3_16 (F := F) c arg4 harg4 arg8 harg8 x3 x7) (rP p q 3)) (rdCov arg17 (kernelRun0_A.sl.HS0_40 (F := F) c arg1 harg1 arg2 harg2 x0 x1) (rA 3)) (rdCov arg18 (kernelRun0_A.sl.HS1_20 (F := F) c arg1 harg1 arg2 harg2 x0 x1) (rS 3)) (rdCov arg22 (kernelRun0_A.sl.HS5_2 (F := F) c arg5 harg5 arg9 harg9 x4 x8) (rD 3)) := rfl

theorem uA_4 : kernelRun0_A.sl.r_383 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_375 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 4)) (fun p q => rdCov arg20 (kernelRun0_A.sl.HS3_16 (F := F) c arg4 harg4 arg8 harg8 x3 x7) (rP p q 4)) (rdCov arg17 (kernelRun0_A.sl.HS0_40 (F := F) c arg1 harg1 arg2 harg2 x0 x1) (rA 4)) (rdCov arg18 (kernelRun0_A.sl.HS1_20 (F := F) c arg1 harg1 arg2 harg2 x0 x1) (rS 4)) (rdCov arg22 (kernelRun0_A.sl.HS5_2 (F := F) c arg5 harg5 arg9 harg9 x4 x8) (rD 4)) := rfl

theorem uA_5 : kernelRun0_A.sl.r_392 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_383 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 5)) (fun p q => rdCov arg20 (kernelRun0_A.sl.HS3_16 (F := F) c arg4 harg4 arg8 harg8 x3 x7) (rP p q 5)) (rdCov arg17 (kernelRun0_A.sl.HS0_40 (F := F) c arg1 harg1 arg2 harg2 x0 x1) (rA 5)) (rdCov arg18 (kernelRun0_A.sl.HS1_20 (F := F) c arg1 harg1 arg2 harg2 x0 x1) (rS 5)) (rdCov arg22 (kernelRun0_A.sl.HS5_2 (F := F) c arg5 harg5 arg9 harg9 x4 x8) (rD 5)) := rfl

theorem uA_6 : kernelRun0_A.sl.r_399 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_392 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 6)) (fun p q => rdCov arg20 (kernelRun0_A.sl.HS3_16 (F := F) c arg4 harg4 arg8 harg8 x3 x7) (rP p q 6)) (rdCov arg17 (kernelRun0_A.sl.HS0_40 (F := F) c arg1 harg1 arg2 harg2 x0 x1) (rA 6)) (rdCov arg18 (kernelRun0_A.sl.HS1_20 (F := F) c arg1 harg1 arg2 harg2 x0 x1) (rS 6)) (rdCov arg22 (kernelRun0_A.sl.HS5_2 (F := F) c arg5 harg5 arg9 harg9 x4 x8) (rD 6)) := rfl

theorem uA_7 : kernelRun0_A.sl.r_410 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_399 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 7)) (fun p q => rdCov arg20 (kernelRun0_A.sl.HS3_16 (F := F) c arg4 harg4 arg8 harg8 x3 x7) (rP p q 7)) (rdCov arg17 (kernelRun0_A.sl.HS0_40 (F := F) c arg1 harg1 arg2 harg2 x0 x1) (rA 7)) (rdCov arg18 (kernelRun0_A.sl.HS1_20 (F := F) c arg1 harg1 arg2 harg2 x0 x1) (rS 7)) (rdCov arg22 (kernelRun0_A.sl.HS5_2 (F := F) c arg5 harg5 arg9 harg9 x4 x8) (rD 7)) := rfl

theorem uA_8 : kernelRun0_A.sl.r_420 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_410 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 8)) (fun p q => rdCov arg20 (kernelRun0_A.sl.HS3_16 (F := F) c arg4 harg4 arg8 harg8 x3 x7) (rP p q 8)) (rdCov arg17 (kernelRun0_A.sl.HS0_40 (F := F) c arg1 harg1 arg2 harg2 x0 x1) (rA 8)) (rdCov arg18 (kernelRun0_A.sl.HS1_20 (F := F) c arg1 harg1 arg2 harg2 x0 x1) (rS 8)) (rdCov arg22 (kernelRun0_A.sl.HS5_2 (F := F) c arg5 harg5 arg9 harg9 x4 x8) (rD 8)) := rfl

theorem uA_9 : kernelRun0_A.sl.r_430 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_420 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 9)) (fun p q => rdCov arg20 (kernelRun0_A.sl.HS3_16 (F := F) c arg4 harg4 arg8 harg8 x3 x7) (rP p q 9)) (rdCov arg17 (kernelRun0_A.sl.HS0_40 (F := F) c arg1 harg1 arg2 harg2 x0 x1) (rA 9)) (rdCov arg18 (kernelRun0_A.sl.HS1_20 (F := F) c arg1 harg1 arg2 harg2 x0 x1) (rS 9)) (rdCov arg22 (kernelRun0_A.sl.HS5_2 (F := F) c arg5 harg5 arg9 harg9 x4 x8) (rD 9)) := rfl

theorem uA_10 : kernelRun0_A.sl.r_438 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_430 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 10)) (fun p q => rdCov arg20 (kernelRun0_A.sl.HS3_16 (F := F) c arg4 harg4 arg8 harg8 x3 x7) (rP p q 10)) (rdCov arg17 (kernelRun0_A.sl.HS0_40 (F := F) c arg1 harg1 arg2 harg2 x0 x1) (rA 10)) (rdCov arg18 (kernelRun0_A.sl.HS1_20 (F := F) c arg1 harg1 arg2 harg2 x0 x1) (rS 10)) (rdCov arg22 (kernelRun0_A.sl.HS5_2 (F := F) c arg5 harg5 arg9 harg9 x4 x8) (rD 10)) := rfl

theorem uA_11 : kernelRun0_A.sl.r_448 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_438 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 11)) (fun p q => rdCov arg20 (kernelRun0_A.sl.HS3_16 (F := F) c arg4 harg4 arg8 harg8 x3 x7) (rP p q 11)) (rdCov arg17 (kernelRun0_A.sl.HS0_40 (F := F) c arg1 harg1 arg2 harg2 x0 x1) (rA 11)) (rdCov arg18 (kernelRun0_A.sl.HS1_20 (F := F) c arg1 harg1 arg2 harg2 x0 x1) (rS 11)) (rdCov arg22 (kernelRun0_A.sl.HS5_2 (F := F) c arg5 harg5 arg9 harg9 x4 x8) (rD 11)) := rfl

theorem uA_12 : kernelRun0_A.sl.r_458 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_448 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 12)) (fun p q => rdCov arg20 (kernelRun0_A.sl.HS3_16 (F := F) c arg4 harg4 arg8 harg8 x3 x7) (rP p q 12)) (rdCov arg17 (kernelRun0_A.sl.HS0_40 (F := F) c arg1 harg1 arg2 harg2 x0 x1) (rA 12)) (rdCov arg18 (kernelRun0_A.sl.HS1_20 (F := F) c arg1 harg1 arg2 harg2 x0 x1) (rS 12)) (rdCov arg22 (kernelRun0_A.sl.HS5_2 (F := F) c arg5 harg5 arg9 harg9 x4 x8) (rD 12)) := rfl

theorem uA_13 : kernelRun0_A.sl.r_464 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_458 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 13)) (fun p q => rdCov arg20 (kernelRun0_A.sl.HS3_16 (F := F) c arg4 harg4 arg8 harg8 x3 x7) (rP p q 13)) (rdCov arg17 (kernelRun0_A.sl.HS0_40 (F := F) c arg1 harg1 arg2 harg2 x0 x1) (rA 13)) (rdCov arg18 (kernelRun0_A.sl.HS1_20 (F := F) c arg1 harg1 arg2 harg2 x0 x1) (rS 13)) (rdCov arg22 (kernelRun0_A.sl.HS5_2 (F := F) c arg5 harg5 arg9 harg9 x4 x8) (rD 13)) := rfl

theorem uA_14 : kernelRun0_A.sl.r_475 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_464 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 14)) (fun p q => rdCov arg20 (kernelRun0_A.sl.HS3_16 (F := F) c arg4 harg4 arg8 harg8 x3 x7) (rP p q 14)) (rdCov arg17 (kernelRun0_A.sl.HS0_40 (F := F) c arg1 harg1 arg2 harg2 x0 x1) (rA 14)) (rdCov arg18 (kernelRun0_A.sl.HS1_20 (F := F) c arg1 harg1 arg2 harg2 x0 x1) (rS 14)) (rdCov arg22 (kernelRun0_A.sl.HS5_2 (F := F) c arg5 harg5 arg9 harg9 x4 x8) (rD 14)) := rfl

theorem uA_15 : kernelRun0_A.sl.r_484 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_475 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 15)) (fun p q => rdCov arg20 (kernelRun0_A.sl.HS3_16 (F := F) c arg4 harg4 arg8 harg8 x3 x7) (rP p q 15)) (rdCov arg17 (kernelRun0_A.sl.HS0_40 (F := F) c arg1 harg1 arg2 harg2 x0 x1) (rA 15)) (rdCov arg18 (kernelRun0_A.sl.HS1_20 (F := F) c arg1 harg1 arg2 harg2 x0 x1) (rS 15)) (rdCov arg22 (kernelRun0_A.sl.HS5_2 (F := F) c arg5 harg5 arg9 harg9 x4 x8) (rD 15)) := rfl

theorem uA_16 : kernelRun0_A.sl.r_493 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_484 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 16)) (fun p q => rdCov arg20 (kernelRun0_A.sl.HS3_16 (F := F) c arg4 harg4 arg8 harg8 x3 x7) (rP p q 16)) (rdCov arg17 (kernelRun0_A.sl.HS0_40 (F := F) c arg1 harg1 arg2 harg2 x0 x1) (rA 16)) (rdCov arg18 (kernelRun0_A.sl.HS1_20 (F := F) c arg1 harg1 arg2 harg2 x0 x1) (rS 16)) (rdCov arg22 (kernelRun0_A.sl.HS5_2 (F := F) c arg5 harg5 arg9 harg9 x4 x8) (rD 16)) := rfl

theorem uA_17 : kernelRun0_A.sl.r_502 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_493 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 17)) (fun p q => rdCov arg20 (kernelRun0_A.sl.HS3_16 (F := F) c arg4 harg4 arg8 harg8 x3 x7) (rP p q 17)) (rdCov arg17 (kernelRun0_A.sl.HS0_40 (F := F) c arg1 harg1 arg2 harg2 x0 x1) (rA 17)) (rdCov arg18 (kernelRun0_A.sl.HS1_20 (F := F) c arg1 harg1 arg2 harg2 x0 x1) (rS 17)) (rdCov arg22 (kernelRun0_A.sl.HS5_2 (F := F) c arg5 harg5 arg9 harg9 x4 x8) (rD 17)) := rfl

theorem uA_18 : kernelRun0_A.sl.r_510 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_502 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 18)) (fun p q => rdCov arg20 (kernelRun0_A.sl.HS3_16 (F := F) c arg4 harg4 arg8 harg8 x3 x7) (rP p q 18)) (rdCov arg17 (kernelRun0_A.sl.HS0_40 (F := F) c arg1 harg1 arg2 harg2 x0 x1) (rA 18)) (rdCov arg18 (kernelRun0_A.sl.HS1_20 (F := F) c arg1 harg1 arg2 harg2 x0 x1) (rS 18)) (rdCov arg22 (kernelRun0_A.sl.HS5_2 (F := F) c arg5 harg5 arg9 harg9 x4 x8) (rD 18)) := rfl

theorem uA_19 : kernelRun0_A.sl.r_518 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = blk (kernelRun0_A.sl.r_510 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (rdIn arg7 harg7 x6 (rW 19)) (fun p q => rdCov arg20 (kernelRun0_A.sl.HS3_16 (F := F) c arg4 harg4 arg8 harg8 x3 x7) (rP p q 19)) (rdCov arg17 (kernelRun0_A.sl.HS0_40 (F := F) c arg1 harg1 arg2 harg2 x0 x1) (rA 19)) (rdCov arg18 (kernelRun0_A.sl.HS1_20 (F := F) c arg1 harg1 arg2 harg2 x0 x1) (rS 19)) (rdCov arg22 (kernelRun0_A.sl.HS5_2 (F := F) c arg5 harg5 arg9 harg9 x4 x8) (rD 19)) := rfl

/-- The whole product. -/
theorem uA_eq : kernelRun0_A.sl.r_518 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 20 := by
  have h0 : kernelRun0_A.sl.r_340 (F := F) c arg1 harg1 arg2 harg2 arg4 harg4 arg6 harg6 arg8 harg8 arg10 harg10 arg19 arg21 x0 x1 x3 x5 x7 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 0 := by
    rw [uA_start]; simp only [rdCov_eq, rdIn_eq, accs]
  have h1 : kernelRun0_A.sl.r_349 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 1 := by
    rw [uA_0, h0]; simp only [rdCov_eq, rdIn_eq]; exact (accs_succ _ _ _ _ _ _ _ 0).symm
  have h2 : kernelRun0_A.sl.r_358 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 2 := by
    rw [uA_1, h1]; simp only [rdCov_eq, rdIn_eq]; exact (accs_succ _ _ _ _ _ _ _ 1).symm
  have h3 : kernelRun0_A.sl.r_367 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 3 := by
    rw [uA_2, h2]; simp only [rdCov_eq, rdIn_eq]; exact (accs_succ _ _ _ _ _ _ _ 2).symm
  have h4 : kernelRun0_A.sl.r_375 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 4 := by
    rw [uA_3, h3]; simp only [rdCov_eq, rdIn_eq]; exact (accs_succ _ _ _ _ _ _ _ 3).symm
  have h5 : kernelRun0_A.sl.r_383 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 5 := by
    rw [uA_4, h4]; simp only [rdCov_eq, rdIn_eq]; exact (accs_succ _ _ _ _ _ _ _ 4).symm
  have h6 : kernelRun0_A.sl.r_392 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 6 := by
    rw [uA_5, h5]; simp only [rdCov_eq, rdIn_eq]; exact (accs_succ _ _ _ _ _ _ _ 5).symm
  have h7 : kernelRun0_A.sl.r_399 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 7 := by
    rw [uA_6, h6]; simp only [rdCov_eq, rdIn_eq]; exact (accs_succ _ _ _ _ _ _ _ 6).symm
  have h8 : kernelRun0_A.sl.r_410 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 8 := by
    rw [uA_7, h7]; simp only [rdCov_eq, rdIn_eq]; exact (accs_succ _ _ _ _ _ _ _ 7).symm
  have h9 : kernelRun0_A.sl.r_420 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 9 := by
    rw [uA_8, h8]; simp only [rdCov_eq, rdIn_eq]; exact (accs_succ _ _ _ _ _ _ _ 8).symm
  have h10 : kernelRun0_A.sl.r_430 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 10 := by
    rw [uA_9, h9]; simp only [rdCov_eq, rdIn_eq]; exact (accs_succ _ _ _ _ _ _ _ 9).symm
  have h11 : kernelRun0_A.sl.r_438 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 11 := by
    rw [uA_10, h10]; simp only [rdCov_eq, rdIn_eq]; exact (accs_succ _ _ _ _ _ _ _ 10).symm
  have h12 : kernelRun0_A.sl.r_448 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 12 := by
    rw [uA_11, h11]; simp only [rdCov_eq, rdIn_eq]; exact (accs_succ _ _ _ _ _ _ _ 11).symm
  have h13 : kernelRun0_A.sl.r_458 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 13 := by
    rw [uA_12, h12]; simp only [rdCov_eq, rdIn_eq]; exact (accs_succ _ _ _ _ _ _ _ 12).symm
  have h14 : kernelRun0_A.sl.r_464 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 14 := by
    rw [uA_13, h13]; simp only [rdCov_eq, rdIn_eq]; exact (accs_succ _ _ _ _ _ _ _ 13).symm
  have h15 : kernelRun0_A.sl.r_475 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 15 := by
    rw [uA_14, h14]; simp only [rdCov_eq, rdIn_eq]; exact (accs_succ _ _ _ _ _ _ _ 14).symm
  have h16 : kernelRun0_A.sl.r_484 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 16 := by
    rw [uA_15, h15]; simp only [rdCov_eq, rdIn_eq]; exact (accs_succ _ _ _ _ _ _ _ 15).symm
  have h17 : kernelRun0_A.sl.r_493 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 17 := by
    rw [uA_16, h16]; simp only [rdCov_eq, rdIn_eq]; exact (accs_succ _ _ _ _ _ _ _ 16).symm
  have h18 : kernelRun0_A.sl.r_502 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 18 := by
    rw [uA_17, h17]; simp only [rdCov_eq, rdIn_eq]; exact (accs_succ _ _ _ _ _ _ _ 17).symm
  have h19 : kernelRun0_A.sl.r_510 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 19 := by
    rw [uA_18, h18]; simp only [rdCov_eq, rdIn_eq]; exact (accs_succ _ _ _ _ _ _ _ 18).symm
  have h20 : kernelRun0_A.sl.r_518 (F := F) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 = accs x6 (View.canon (kernelRun0_A.sl.HS3_16 (F := F) c arg4 harg4 arg8 harg8 x3 x7)) (View.canon (kernelRun0_A.sl.HS4_6 (F := F) c arg4 harg4 arg6 harg6 arg8 harg8 arg10 harg10 x3 x5 x7 x9)) (View.canon (kernelRun0_A.sl.HS5_2 (F := F) c arg5 harg5 arg9 harg9 x4 x8)) (View.canon (kernelRun0_A.sl.HS0_40 (F := F) c arg1 harg1 arg2 harg2 x0 x1)) (View.canon (kernelRun0_A.sl.HS1_20 (F := F) c arg1 harg1 arg2 harg2 x0 x1)) (View.canon (kernelRun0_A.sl.HS2_3 (F := F) c arg1 harg1 arg2 harg2 x0 x1)) 20 := by
    rw [uA_19, h19]; simp only [rdCov_eq, rdIn_eq]; exact (accs_succ _ _ _ _ _ _ _ 19).symm
  exact h20

end Cert.Q4k

end
-- ==== Proof.StepA.lean ====
/-
  What step 0 leaves: the codes and scales of the row block, the scratch, the codes of the step, and its two lanes of scales.
-/
module

public import proofs.«01_k».proof.Proof.Gen.KernelIdeal.Frame
public import proofs.«01_k».proof.Proof.Hold
public import proofs.«01_k».proof.Proof.Act
public import proofs.«01_k».proof.Proof.QuantA
public import proofs.«01_k».proof.Proof.WdsA
public import proofs.«01_k».proof.Proof.ChainAg
public import proofs.«01_k».proof.Proof.ChainAu

@[expose] public section

noncomputable section

namespace Cert.Q4k

open Cert.KernelIdeal Cert.KernelIdeal.Gen Idealize.ShloMosaic Idealize.ShloMosaic.TcCoe

variable (c : Dev nD) (i : grid0.Coords) (arg1 : Memref Cert.KernelIdeal.sig .tc .vmem S48x5120 .f32) (harg1 : arg1.IsWhole) (arg2 : Memref Cert.KernelIdeal.sig .tc .vmem S1x5120 .f32) (harg2 : arg2.IsWhole) (arg3 : Memref Cert.KernelIdeal.sig .tc .vmem S20x512x128 .i8) (harg3 : arg3.IsWhole) (arg4 : Memref Cert.KernelIdeal.sig .tc .vmem S12x20x512 .i8) (harg4 : arg4.IsWhole) (arg5 : Memref Cert.KernelIdeal.sig .tc .vmem S20x512 .i16) (harg5 : arg5.IsWhole) (arg6 : Memref Cert.KernelIdeal.sig .tc .vmem S20x512 .i16) (harg6 : arg6.IsWhole) (arg7 : Memref Cert.KernelIdeal.sig .tc .vmem S20x512x128 .i8) (harg7 : arg7.IsWhole) (arg8 : Memref Cert.KernelIdeal.sig .tc .vmem S12x20x512 .i8) (harg8 : arg8.IsWhole) (arg9 : Memref Cert.KernelIdeal.sig .tc .vmem S20x512 .i16) (harg9 : arg9.IsWhole) (arg10 : Memref Cert.KernelIdeal.sig .tc .vmem S20x512 .i16) (harg10 : arg10.IsWhole) (arg11 : Memref Cert.KernelIdeal.sig .tc .vmem S48x5120 .i8) (harg11 : arg11.IsWhole) (arg12 : Memref Cert.KernelIdeal.sig .tc .vmem S48x20 .f32) (harg12 : arg12.IsWhole) (arg13 : Memref Cert.KernelIdeal.sig .tc .vmem S48x512 .i8) (harg13 : arg13.IsWhole) (arg14 : Memref Cert.KernelIdeal.sig .tc .vmem S48x56 .f32) (harg14 : arg14.IsWhole) (arg15 : Memref Cert.KernelIdeal.sig .tc .vmem S2x48x512 .bf16) (harg15 : arg15.IsWhole) (arg16 : Memref Cert.KernelIdeal.sig .tc .vmem S2x48x128 .f32) (harg16 : arg16.IsWhole) (arg17 : Memref Cert.KernelIdeal.sig .tc .vmem S20x48x512 .bf16) (harg17 : arg17.IsWhole) (arg18 : Memref Cert.KernelIdeal.sig .tc .vmem S20x48x128 .f32) (harg18 : arg18.IsWhole) (arg19 : Memref Cert.KernelIdeal.sig .tc .vmem S144x256 .bf16) (harg19 : arg19.IsWhole) (arg20 : Memref Cert.KernelIdeal.sig .tc .vmem S2x4x20x512 .i32) (harg20 : arg20.IsWhole) (arg21 : Memref Cert.KernelIdeal.sig .tc .vmem S3x192x512 .bf16) (harg21 : arg21.IsWhole) (arg22 : Memref Cert.KernelIdeal.sig .tc .vmem S20x512 .f32) (harg22 : arg22.IsWhole)
variable (hc0 : cond0_0 i) (x0 : Vec Ideal S48x5120 .f32) (x1 : Vec Ideal S1x5120 .f32) (x2 : Vec Ideal S20x512x128 .i8) (x3 : Vec Ideal S12x20x512 .i8) (x4 : Vec Ideal S20x512 .i16) (x5 : Vec Ideal S20x512 .i16) (x6 : Vec Ideal S20x512x128 .i8) (x7 : Vec Ideal S12x20x512 .i8) (x8 : Vec Ideal S20x512 .i16) (x9 : Vec Ideal S20x512 .i16)

theorem offs0A : (![0, 0] : Fin 2 → ℕ) = fun _ => 0 := by funext a; fin_cases a <;> rfl

theorem gAv (t : Fin 48) (n : Fin 512) :
    kernelRun0_A.sl.r_312 (F := Ideal) c arg1 harg1 arg2 harg2 arg3 harg3 arg4 harg4 arg5 harg5 arg6 harg6 arg17 arg18 arg19 arg20 arg21 arg22 x0 x1 x2 x3 x4 x5 (ix2 t n) = prodOf x2 x3 x4 x5 (bS (k0_pay5 (F := Ideal) (rdIn arg1 harg1 x0 rHH)) (fun b => rdIn arg1 harg1 x0 (rH b)) (fun b => rdIn arg2 harg2 x1 (rG b)) t) (bQ (k0_pay5 (F := Ideal) (rdIn arg1 harg1 x0 rHH)) (fun b => rdIn arg1 harg1 x0 (rH b)) (fun b => rdIn arg2 harg2 x1 (rG b)) t) n := by
  rw [gA_eq, wAg, zAg, dAg, aA, sA, xA]
  have R := rowOk_store (k0_pay5 (F := Ideal) (rdIn arg1 harg1 x0 rHH)) (fun b => rdIn arg1 harg1 x0 (rH b)) (fun b => rdIn arg2 harg2 x1 (rG b)) t
  rw [rdIn_eq arg6, rdIn_eq arg5]
  simp only [rdIn_eq arg4]
  exact tile_value0 R x2 x3 x4 x5 n

theorem uAv (t : Fin 48) (n : Fin 512) :
    kernelRun0_A.sl.r_518 (F := Ideal) c arg1 harg1 arg2 harg2 arg4 harg4 arg5 harg5 arg6 harg6 arg7 harg7 arg8 harg8 arg9 harg9 arg10 harg10 arg17 arg18 arg19 arg20 arg21 arg22 x0 x1 x3 x4 x5 x6 x7 x8 x9 (ix2 t n) = prodOf x6 x7 x8 x9 (bS (k0_pay5 (F := Ideal) (rdIn arg1 harg1 x0 rHH)) (fun b => rdIn arg1 harg1 x0 (rH b)) (fun b => rdIn arg2 harg2 x1 (rG b)) t) (bQ (k0_pay5 (F := Ideal) (rdIn arg1 harg1 x0 rHH)) (fun b => rdIn arg1 harg1 x0 (rH b)) (fun b => rdIn arg2 harg2 x1 (rG b)) t) n := by
  rw [uA_eq, wAu, zAu, dAu, aA, sA, xA]
  have R := rowOk_store (k0_pay5 (F := Ideal) (rdIn arg1 harg1 x0 rHH)) (fun b => rdIn arg1 harg1 x0 (rH b)) (fun b => rdIn arg2 harg2 x1 (rG b)) t
  rw [rdIn_eq arg10, rdIn_eq arg9]
  simp only [rdIn_eq arg8]
  exact tile_value R x6 x7 x8 x9 n _ _ _

theorem outA_12 : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 = View.canon (actPieces (kernelRun0_A.sl.r_312 (F := Ideal) c arg1 harg1 arg2 harg2 arg3 harg3 arg4 harg4 arg5 harg5 arg6 harg6 arg17 arg18 arg19 arg20 arg21 arg22 x0 x1 x2 x3 x4 x5) (kernelRun0_A.sl.r_518 (F := Ideal) c arg1 harg1 arg2 harg2 arg4 harg4 arg5 harg5 arg6 harg6 arg7 harg7 arg8 harg8 arg9 harg9 arg10 harg10 arg17 arg18 arg19 arg20 arg21 arg22 x0 x1 x3 x4 x5 x6 x7 x8 x9)) := by
  unfold out0_A_12
  rw [View.read_writes_junk_eq_canon]
  rfl

theorem pay271_eqA (v : Vec Ideal S48x5120 .i8) : k0_pay271 (F := Ideal) v = v := by
  funext j
  obtain ⟨a, b, rfl⟩ : ∃ (a : Fin 48) (b : Fin 5120), j = ix2 a b := ⟨j 0, j 1, eq_ix2 j⟩
  pointwise [k0_pay271]

theorem pay272_eqA (v : Vec Ideal S48x20 .f32) : k0_pay272 (F := Ideal) v = v := by
  funext j
  obtain ⟨a, b, rfl⟩ : ∃ (a : Fin 48) (b : Fin 20), j = ix2 a b := ⟨j 0, j 1, eq_ix2 j⟩
  pointwise [k0_pay272]

theorem outA_10 : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 = View.canon (qPieces (k0_pay5 (F := Ideal) (rdIn arg1 harg1 x0 rHH)) (fun b => rdIn arg1 harg1 x0 (rH b)) (fun b => rdIn arg2 harg2 x1 (rG b)) 20 (by omega)) := by
  unfold out0_A_10
  rw [View.read_writes_junk_eq_canon]
  have e : kernelRun0_A.sl.v3 (F := Ideal) c arg1 harg1 arg2 harg2 arg11 x0 x1 = View.canon (qPieces (k0_pay5 (F := Ideal) (rdIn arg1 harg1 x0 rHH)) (fun b => rdIn arg1 harg1 x0 (rH b)) (fun b => rdIn arg2 harg2 x1 (rG b)) 20 (by omega)) := by
    refine Eq.trans (b := View.ld (View.canon (kernelRun0_A.sl.H10_20 (F := Ideal) c arg1 harg1 arg2 harg2 x0 x1)) (Rect.unit ![0, 0] S48x5120.size inb_S48x5120_S48x5120_0_0)) ?_ ?_
    · exact View.readCov_eq_canon' _ _ _
    · rw [View.ld_unit_zero offs0A, qA]
  refine Eq.trans (b := k0_pay271 (F := Ideal) (kernelRun0_A.sl.v3 (F := Ideal) c arg1 harg1 arg2 harg2 arg11 x0 x1)) ?_ ?_
  · exact View.canon_cons_unit_zero offs0A inb_S48x5120_S48x5120_0_0 _ _
  · rw [e, pay271_eqA]

theorem outA_11 : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 = k0_pay261 (F := Ideal) (scanV (k0_pay5 (F := Ideal) (rdIn arg1 harg1 x0 rHH)) (fun b => rdIn arg1 harg1 x0 (rH b)) (fun b => rdIn arg2 harg2 x1 (rG b)) 20 (by omega)) := by
  unfold out0_A_11
  rw [View.read_writes_junk_eq_canon]
  have e : kernelRun0_A.sl.v6 (F := Ideal) c arg1 harg1 arg2 harg2 arg12 x0 x1 = k0_pay261 (F := Ideal) (scanV (k0_pay5 (F := Ideal) (rdIn arg1 harg1 x0 rHH)) (fun b => rdIn arg1 harg1 x0 (rH b)) (fun b => rdIn arg2 harg2 x1 (rG b)) 20 (by omega)) := by
    refine Eq.trans (b := View.ld (View.canon (kernelRun0_A.sl.H11_1 (F := Ideal) c arg1 harg1 arg2 harg2 x0 x1)) (Rect.unit ![0, 0] S48x20.size inb_S48x20_S48x20_0_0)) ?_ ?_
    · exact View.readCov_eq_canon' _ _ _
    · rw [View.ld_unit_zero offs0A, scA]
      exact View.canon_cons_unit_zero offs0A inb_S48x20_S48x20_0_0 _ _
  refine Eq.trans (b := k0_pay272 (F := Ideal) (kernelRun0_A.sl.v6 (F := Ideal) c arg1 harg1 arg2 harg2 arg12 x0 x1)) ?_ ?_
  · exact View.canon_cons_unit_zero offs0A inb_S48x20_S48x20_0_0 _ _
  · rw [e, pay272_eqA]

theorem outA_13 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 = lanesV (kernelRun0_A.sl.r_312 (F := Ideal) c arg1 harg1 arg2 harg2 arg3 harg3 arg4 harg4 arg5 harg5 arg6 harg6 arg17 arg18 arg19 arg20 arg21 arg22 x0 x1 x2 x3 x4 x5) (kernelRun0_A.sl.r_518 (F := Ideal) c arg1 harg1 arg2 harg2 arg4 harg4 arg5 harg5 arg6 harg6 arg7 harg7 arg8 harg8 arg9 harg9 arg10 harg10 arg17 arg18 arg19 arg20 arg21 arg22 x0 x1 x3 x4 x5 x6 x7 x8 x9) (BitVec.ofNat 32 (i 0).val) (kernelRun0_A.sl.v4472 (F := Ideal) c arg14) := by
  unfold out0_A_13
  rw [View.read_writes_junk_eq_canon]
  refine (View.canon_cons_unit_zero offs0A inb_S48x56_S48x56_0_0 _ _).trans ?_
  unfold lanesV
  refine congrArg (fun z => k0_pay1 (F := Ideal) _ (k0_pay844 (F := Ideal) z) _) ?_
  exact View.readCov_cons_toLoadRect _ _ _ _

theorem soutA_ok (t : Fin 48) : RowOk (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9) (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9) t (bS (k0_pay5 (F := Ideal) (rdIn arg1 harg1 x0 rHH)) (fun b => rdIn arg1 harg1 x0 (rH b)) (fun b => rdIn arg2 harg2 x1 (rG b)) t) (bQ (k0_pay5 (F := Ideal) (rdIn arg1 harg1 x0 rHH)) (fun b => rdIn arg1 harg1 x0 (rH b)) (fun b => rdIn arg2 harg2 x1 (rG b)) t) := by
  have R := rowOk_store (k0_pay5 (F := Ideal) (rdIn arg1 harg1 x0 rHH)) (fun b => rdIn arg1 harg1 x0 (rH b)) (fun b => rdIn arg2 harg2 x1 (rG b)) t
  have e0 : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 = View.canon (kernelRun0_A.sl.HS0_40 (F := Ideal) c arg1 harg1 arg2 harg2 x0 x1) := by
    unfold sout0_A_0; rw [View.read_writes_junk_eq_canon]; rfl
  have e1 : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 = View.canon (kernelRun0_A.sl.HS1_20 (F := Ideal) c arg1 harg1 arg2 harg2 x0 x1) := by
    unfold sout0_A_1; rw [View.read_writes_junk_eq_canon]; rfl
  have e2 : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 = View.canon (kernelRun0_A.sl.HS2_3 (F := Ideal) c arg1 harg1 arg2 harg2 x0 x1) := by
    unfold sout0_A_2; rw [View.read_writes_junk_eq_canon]; rfl
  rw [e0, e1, e2, aA, sA, xA]
  exact R

end Cert.Q4k

end
-- ==== Proof.WdsB.lean ====
/-
  The scratch a point of case B writes of its weights: words, minima and factors of either matrix.
-/
module

public import proofs.«01_k».proof.Proof.Words
public import proofs.«01_k».proof.Proof.Gen.KernelIdeal.Frame.RunB

@[expose] public section

noncomputable section

namespace Cert.Q4k

open Cert.KernelIdeal Cert.KernelIdeal.Gen Idealize.ShloMosaic Idealize.ShloMosaic.TcCoe

variable {F : FTy → Type} [FloatOps F]
variable (c : Dev nD) (i : grid0.Coords) (arg1 : Memref sig .tc .vmem S48x5120 .f32) (harg1 : arg1.IsWhole) (arg2 : Memref sig .tc .vmem S1x5120 .f32) (harg2 : arg2.IsWhole) (arg3 : Memref sig .tc .vmem S20x512x128 .i8) (harg3 : arg3.IsWhole) (arg4 : Memref sig .tc .vmem S12x20x512 .i8) (harg4 : arg4.IsWhole) (arg5 : Memref sig .tc .vmem S20x512 .i16) (harg5 : arg5.IsWhole) (arg6 : Memref sig .tc .vmem S20x512 .i16) (harg6 : arg6.IsWhole) (arg7 : Memref sig .tc .vmem S20x512x128 .i8) (harg7 : arg7.IsWhole) (arg8 : Memref sig .tc .vmem S12x20x512 .i8) (harg8 : arg8.IsWhole) (arg9 : Memref sig .tc .vmem S20x512 .i16) (harg9 : arg9.IsWhole) (arg10 : Memref sig .tc .vmem S20x512 .i16) (harg10 : arg10.IsWhole) (arg11 : Memref sig .tc .vmem S48x5120 .i8) (harg11 : arg11.IsWhole) (arg12 : Memref sig .tc .vmem S48x20 .f32) (harg12 : arg12.IsWhole) (arg13 : Memref sig .tc .vmem S48x512 .i8) (harg13 : arg13.IsWhole) (arg14 : Memref sig .tc .vmem S48x56 .f32) (harg14 : arg14.IsWhole) (arg15 : Memref sig .tc .vmem S2x48x512 .bf16) (harg15 : arg15.IsWhole) (arg16 : Memref sig .tc .vmem S2x48x128 .f32) (harg16 : arg16.IsWhole) (arg17 : Memref sig .tc .vmem S20x48x512 .bf16) (harg17 : arg17.IsWhole) (arg18 : Memref sig .tc .vmem S20x48x128 .f32) (harg18 : arg18.IsWhole) (arg19 : Memref sig .tc .vmem S144x256 .bf16) (harg19 : arg19.IsWhole) (arg20 : Memref sig .tc .vmem S2x4x20x512 .i32) (harg20 : arg20.IsWhole) (arg21 : Memref sig .tc .vmem S3x192x512 .bf16) (harg21 : arg21.IsWhole) (arg22 : Memref sig .tc .vmem S20x512 .f32) (harg22 : arg22.IsWhole)
variable (x0 : Vec F S48x5120 .f32) (x1 : Vec F S1x5120 .f32) (x2 : Vec F S20x512x128 .i8) (x3 : Vec F S12x20x512 .i8) (x4 : Vec F S20x512 .i16) (x5 : Vec F S20x512 .i16) (x6 : Vec F S20x512x128 .i8) (x7 : Vec F S12x20x512 .i8) (x8 : Vec F S20x512 .i16) (x9 : Vec F S20x512 .i16)
variable (xs0 : Vec F S20x48x512 .bf16) (xs1 : Vec F S20x48x128 .f32) (xs2 : Vec F S144x256 .bf16)

theorem wBg : kernelRun0_B.sl.HS3_8 (F := F) c arg4 harg4 x3 = wordPieces (fun i => rdIn arg4 harg4 x3 (rC i)) := rfl

theorem wBu : kernelRun0_B.sl.HS3_16 (F := F) c arg4 harg4 arg8 harg8 x3 x7 = wordPieces (fun i => rdIn arg8 harg8 x7 (rC i)) ++ wordPieces (fun i => rdIn arg4 harg4 x3 (rC i)) := rfl

theorem zBg : kernelRun0_B.sl.HS4_3 (F := F) c arg4 harg4 arg6 harg6 x3 x5 = zPieces (fun i => rdIn arg4 harg4 x3 (rC i)) (rdIn arg6 harg6 x5 rDD) := rfl

theorem zBu : kernelRun0_B.sl.HS4_6 (F := F) c arg4 harg4 arg6 harg6 arg8 harg8 arg10 harg10 x3 x5 x7 x9 = zPieces (fun i => rdIn arg8 harg8 x7 (rC i)) (rdIn arg10 harg10 x9 rDD) ++ zPieces (fun i => rdIn arg4 harg4 x3 (rC i)) (rdIn arg6 harg6 x5 rDD) := rfl

theorem dBg : kernelRun0_B.sl.HS5_1 (F := F) c arg5 harg5 x4 = [⟨rDD, dfV (rdIn arg5 harg5 x4 rDD)⟩] := rfl

theorem dBu : kernelRun0_B.sl.HS5_2 (F := F) c arg5 harg5 arg9 harg9 x4 x8 = [⟨rDD, dfV (rdIn arg9 harg9 x8 rDD)⟩, ⟨rDD, dfV (rdIn arg5 harg5 x4 rDD)⟩] := rfl

end Cert.Q4k

end
-- ==== Proof.ChainBg.lean ====
/-
  The accumulator of the product `g` in case B of the run: at each block it is `blk` of the accumulator before it and
  of the block's loads, so the product is `accs` of whole arrays.
-/
module

public import proofs.«01_k».proof.Proof.Kern
public import proofs.«01_k».proof.Proof.Gen.KernelIdeal.Frame.RunB

@[expose] public section

noncomputable section

namespace Cert.Q4k

open Cert.KernelIdeal Cert.KernelIdeal.Gen Idealize.ShloMosaic Idealize.ShloMosaic.TcCoe

variable {F : FTy → Type} [FloatOps F]
variable (c : Dev nD) (i : grid0.Coords) (arg1 : Memref sig .tc .vmem S48x5120 .f32) (harg1 : arg1.IsWhole) (arg2 : Memref sig .tc .vmem S1x5120 .f32) (harg2 : arg2.IsWhole) (arg3 : Memref sig .tc .vmem S20x512x128 .i8) (harg3 : arg3.IsWhole) (arg4 : Memref sig .tc .vmem S12x20x512 .i8) (harg4 : arg4.IsWhole) (arg5 : Memref sig .tc .vmem S20x512 .i16) (harg5 : arg5.IsWhole) (arg6 : Memref sig .tc .vmem S20x512 .i16) (harg6 : arg6.IsWhole) (arg7 : Memref sig .tc .vmem S20x512x128 .i8) (harg7 : arg7.IsWhole) (arg8 : Memref sig .tc .vmem S12x20x512 .i8) (harg8 : arg8.IsWhole) (arg9 : Memref sig .tc .vmem S20x512 .i16) (harg9 : arg9.IsWhole) (arg10 : Memref sig .tc .vmem S20x512 .i16) (harg10 : arg10.IsWhole) (arg11 : Memref sig .tc .vmem S48x5120 .i8) (harg11 : arg11.IsWhole) (arg12 : Memref sig .tc .vmem S48x20 .f32) (harg12 : arg12.IsWhole) (arg13 : Memref sig .tc .vmem S48x512 .i8) (harg13 : arg13.IsWhole) (arg14 : Memref sig .tc .vmem S48x56 .f32) (harg14 : arg14.IsWhole) (arg15 : Memref sig .tc .vmem S2x48x512 .bf16) (harg15 : arg15.IsWhole) (arg16 : Memref sig .tc .vmem S2x48x128 .f32) (harg16 : arg16.IsWhole) (arg17 : Memref sig .tc .vmem S20x48x512 .bf16) (harg17 : arg17.IsWhole) (arg18 : Memref sig .tc .vmem S20x48x128 .f32) (harg18 : arg18.IsWhole) (arg19 : Memref sig .tc .vmem S144x256 .bf16) (harg19 : arg19.IsWhole) (arg20 : Memref sig .tc .vmem S2x4x20x512 .i32) (harg20 : arg20.IsWhole) (arg21 : Memref sig .tc .vmem S3x192x512 .bf16) (harg21 : arg21.IsWhole) (arg22 : Memref sig .tc .vmem S20x512 .f32) (harg22 : arg22.IsWhole)
variable (x0 : Vec F S48x5120 .f32) (x1 : Vec F S1x5120 .f32) (x2 : Vec F S20x512x128 .i8) (x3 : Vec F S12x20x512 .i8) (x4 : Vec F S20x512 .i16) (x5 : Vec F S20x512 .i16) (x6 : Vec F S20x512x128 .i8) (x7 : Vec F S12x20x512 .i8) (x8 : Vec F S20x512 .i16) (x9 : Vec F S20x512 .i16)
variable (xs0 : Vec F S20x48x512 .bf16) (xs1 : Vec F S20x48x128 .f32) (xs2 : Vec F S144x256 .bf16)

theorem gB_start : kernelRun0_B.sl.r_19 (F := F) c arg4 harg4 arg6 harg6 arg19 harg19 arg21 x3 x5 xs2 = acc0 (fun i => rdCov arg21 (kernelRun0_B.sl.HS4_3 (F := F) c arg4 harg4 arg6 harg6 x3 x5) (rZ i)) (rdIn arg19 harg19 xs2 rX3) (rdIn arg19 harg19 xs2 rX2) (rdIn arg19 harg19 xs2 rX1) := rfl

theorem gB_0 : kernelRun0_B.sl.r_29 (F := F) c arg3 harg3 arg4 harg4 arg5 harg5 arg6 harg6 arg17 harg17 arg18 harg18 arg19 harg19 arg20 arg21 arg22 x2 x3 x4 x5 xs0 xs1 xs2 = blk (kernelRun0_B.sl.r_19 (F := F) c arg4 harg4 arg6 harg6 arg19 harg19 arg21 x3 x5 xs2) (rdIn arg3 harg3 x2 (rW 0)) (fun p q => rdCov arg20 (kernelRun0_B.sl.HS3_8 (F := F) c arg4 harg4 x3) (rP p q 0)) (rdIn arg17 harg17 xs0 (rA 0)) (rdIn arg18 harg18 xs1 (rS 0)) (rdCov arg22 (kernelRun0_B.sl.HS5_1 (F := F) c arg5 harg5 x4) (rD 0)) := rfl

theorem gB_1 : kernelRun0_B.sl.r_37 (F := F) c arg3 harg3 arg4 harg4 arg5 harg5 arg6 harg6 arg17 harg17 arg18 harg18 arg19 harg19 arg20 arg21 arg22 x2 x3 x4 x5 xs0 xs1 xs2 = blk (kernelRun0_B.sl.r_29 (F := F) c arg3 harg3 arg4 harg4 arg5 harg5 arg6 harg6 arg17 harg17 arg18 harg18 arg19 harg19 arg20 arg21 arg22 x2 x3 x4 x5 xs0 xs1 xs2) (rdIn arg3 harg3 x2 (rW 1)) (fun p q => rdCov arg20 (kernelRun0_B.sl.HS3_8 (F := F) c arg4 harg4 x3) (rP p q 1)) (rdIn arg17 harg17 xs0 (rA 1)) (rdIn arg18 harg18 xs1 (rS 1)) (rdCov arg22 (kernelRun0_B.sl.HS5_1 (F := F) c arg5 harg5 x4) (rD 1)) := rfl

theorem gB_2 : kernelRun0_B.sl.r_47 (F := F) c arg3 harg3 arg4 harg4 arg5 harg5 arg6 harg6 arg17 harg17 arg18 harg18 arg19 harg19 arg20 arg21 arg22 x2 x3 x4 x5 xs0 xs1 xs2 = blk (kernelRun0_B.sl.r_37 (F := F) c arg3 harg3 arg4 harg4 arg5 harg5 arg6 harg6 arg17 harg17 arg18 harg18 arg19 harg19 arg20 arg21 arg22 x2 x3 x4 x5 xs0 xs1 xs2) (rdIn arg3 harg3 x2 (rW 2)) (fun p q => rdCov arg20 (kernelRun0_B.sl.HS3_8 (F := F) c arg4 harg4 x3) (rP p q 2)) (rdIn arg17 harg17 xs0 (rA 2)) (rdIn arg18 harg18 xs1 (rS 2)) (rdCov arg22 (kernelRun0_B.sl.HS5_1 (F := F) c arg5 harg5 x4) (rD 2)) := rfl

theorem gB_3 : kernelRun0_B.sl.r_57 (F := F) c arg3 harg3 arg4 harg4 arg5 harg5 arg6 harg6 arg17 harg17 arg18 harg18 arg19 harg19 arg20 arg21 arg22 x2 x3 x4 x5 xs0 xs1 xs2 = blk (kernelRun0_B.sl.r_47 (F := F) c arg3 harg3 arg4 harg4 arg5 harg5 arg6 harg6 arg17 harg17 arg18 harg18 arg19 harg19 arg20 arg21 arg22 x2 x3 x4 x5 xs0 xs1 xs2) (rdIn arg3 harg3 x2 (rW 3)) (fun p q => rdCov arg20 (kernelRun0_B.sl.HS3_8 (F := F) c arg4 harg4 x3) (rP p q 3)) (rdIn arg17 harg17 xs0 (rA 3)) (rdIn arg18 harg18 xs1 (rS 3)) (rdCov arg22 (kernelRun0_B.sl.HS5_1 (F := F) c arg5 harg5 x4) (rD 3)) := rfl

theorem gB_4 : kernelRun0_B.sl.r_63 (F := F) c arg3 harg3 arg4 harg4 arg5 harg5 arg6 harg6 arg17 harg17 arg18 harg18 arg19 harg19 arg20 arg21 arg22 x2 x3 x4 x5 xs0 xs1 xs2 = blk (kernelRun0_B.sl.r_57 (F := F) c arg3 harg3 arg4 harg4 arg5 harg5 arg6 harg6 arg17 harg17 arg18 harg18 arg19 harg19 arg20 arg21 arg22 x2 x3 x4 x5 xs0 xs1 xs2) (rdIn arg3 harg3 x2 (rW 4)) (fun p q => rdCov arg20 (kernelRun0_B.sl.HS3_8 (F := F) c arg4 harg4 x3) (rP p q 4)) (rdIn arg17 harg17 xs0 (rA 4)) (rdIn arg18 harg18 xs1 (rS 4)) (rdCov arg22 (kernelRun0_B.sl.HS5_1 (F := F) c arg5 harg5 x4) (rD 4)) := rfl

theorem gB_5 : kernelRun0_B.sl.r_74 (F := F) c arg3 harg3 arg4 harg4 arg5 harg5 arg6 harg6 arg17 harg17 arg18 harg18 arg19 harg19 arg20 arg21 arg22 x2 x3 x4 x5 xs0 xs1 xs2 = blk (kernelRun0_B.sl.r_63 (F := F) c arg3 harg3 arg4 harg4 arg5 harg5 arg6 harg6 arg17 harg17 arg18 harg18 arg19 harg19 arg20 arg21 arg22 x2 x3 x4 x5 xs0 xs1 xs2) (rdIn arg3 harg3 x2 (rW 5)) (fun p q => rdCov arg20 (kernelRun0_B.sl.HS3_8 (F := F) c arg4 harg4 x3) (rP p q 5)) (rdIn arg17 harg17 xs0 (rA 5)) (rdIn arg18 harg18 xs1 (rS 5)) (rdCov arg22 (kernelRun0_B.sl.HS5_1 (F := F) c arg5 harg5 x4) (rD 5)) := rfl

theorem gB_6 : kernelRun0_B.sl.r_83 (F := F) c arg3 harg3 arg4 harg4 arg5 harg5 arg6 harg6 arg17 harg17 arg18 harg18 arg19 harg19 arg20 arg21 arg22 x2 x3 x4 x5 xs0 xs1 xs2 = blk (kernelRun0_B.sl.r_74 (F := F) c arg3 harg3 arg4 harg4 arg5 harg5 arg6 harg6 arg17 harg17 arg18 harg18 arg19 harg19 arg20 arg21 arg22 x2 x3 x4 x5 xs0 xs1 xs2) (rdIn arg3 harg3 x2 (rW 6)) (fun p q => rdCov arg20 (kernelRun0_B.sl.HS3_8 (F := F) c arg4 harg4 x3) (rP p q 6)) (rdIn arg17 harg17 xs0 (rA 6)) (rdIn arg18 harg18 xs1 (rS 6)) (rdCov arg22 (kernelRun0_B.sl.HS5_1 (F := F) c arg5 harg5 x4) (rD 6)) := rfl

theorem gB_7 : kernelRun0_B.sl.r_92 (F := F) c arg3 harg3 arg4 harg4 arg5 harg5 arg6 harg6 arg17 harg17 arg18 harg18 arg19 harg19 arg20 arg21 arg22 x2 x3 x4 x5 xs0 xs1 xs2 = blk (kernelRun0_B.sl.r_83 (F := F) c arg3 harg3 arg4 harg4 arg5 harg5 arg6 harg6 arg17 harg17 arg18 harg18 arg19 harg19 arg20 arg21 arg22 x2 x3 x4 x5 xs0 xs1 xs2) (rdIn arg3 harg3 x2 (rW 7)) (fun p q => rdCov arg20 (kernelRun0_B.sl.HS3_8 (F := F) c arg4 harg4 x3) (rP p q 7)) (rdIn arg17 harg17 xs0 (rA 7)) (rdIn arg18 harg18 xs1 (rS 7)) (rdCov arg22 (kernelRun0_B.sl.HS5_1 (F := F) c arg5 harg5 x4) (rD 7)) := rfl

theorem gB_8 : kernelRun0_B.sl.r_101 (F := F) c arg3 harg3 arg4 harg4 arg5 harg5 arg6 harg6 arg17 harg17 arg18 harg18 arg19 harg19 arg20 arg21 arg22 x2 x3 x4 x5 xs0 xs1 xs2 = blk (kernelRun0_B.sl.r_92 (F := F) c arg3 harg3 arg4 harg4 arg5 harg5 arg6 harg6 arg17 harg17 arg18 harg18 arg19 harg19 arg20 arg21 arg22 x2 x3 x4 x5 xs0 xs1 xs2) (rdIn arg3 harg3 x2 (rW 8)) (fun p q => rdCov arg20 (kernelRun0_B.sl.HS3_8 (F := F) c arg4 harg4 x3) (rP p q 8)) (rdIn arg17 harg17 xs0 (rA 8)) (rdIn arg18 harg18 xs1 (rS 8)) (rdCov arg22 (kernelRun0_B.sl.HS5_1 (F := F) c arg5 harg5 x4) (rD 8)) := rfl

theorem gB_9 : kernelRun0_B.sl.r_109 (F := F) c arg3 harg3 arg4 harg4 arg5 harg5 arg6 harg6 arg17 harg17 arg18 harg18 arg19 harg19 arg20 arg21 arg22 x2 x3 x4 x5 xs0 xs1 xs2 = blk (kernelRun0_B.sl.r_101 (F := F) c arg3 harg3 arg4 harg4 arg5 harg5 arg6 harg6 arg17 harg17 arg18 harg18 arg19 harg19 arg20 arg21 arg22 x2 x3 x4 x5 xs0 xs1 xs2) (rdIn arg3 harg3 x2 (rW 9)) (fun p q => rdCov arg20 (kernelRun0_B.sl.HS3_8 (F := F) c arg4 harg4 x3) (rP p q 9)) (rdIn arg17 harg17 xs0 (rA 9)) (rdIn arg18 harg18 xs1 (rS 9)) (rdCov arg22 (kernelRun0_B.sl.HS5_1 (F := F) c arg5 harg5 x4) (rD 9)) := rfl

theorem gB_10 : kernelRun0_B.sl.r_117 (F := F) c arg3 harg3 arg4 harg4 arg5 harg5 arg6 harg6 arg17 harg17 arg18 harg18 arg19 harg19 arg20 arg21 arg22 x2 x3 x4 x5 xs0 xs1 xs2 = blk (kernelRun0_B.sl.r_109 (F := F) c arg3 harg3 arg4 harg4 arg5 harg5 arg6 harg6 arg17 harg17 arg18 harg18 arg19 harg19 arg20 arg21 arg22 x2 x3 x4 x5 xs0 xs1 xs2) (rdIn arg3 harg3 x2 (rW 10)) (fun p q => rdCov arg20 (kernelRun0_B.sl.HS3_8 (F := F) c arg4 harg4 x3) (rP p q 10)) (rdIn arg17 harg17 xs0 (rA 10)) (rdIn arg18 harg18 xs1 (rS 10)) (rdCov arg22 (kernelRun0_B.sl.HS5_1 (F := F) c arg5 harg5 x4) (rD 10)) := rfl

theorem gB_11 : kernelRun0_B.sl.r_126 (F := F) c arg3 harg3 arg4 harg4 arg5 harg5 arg6 harg6 arg17 harg17 arg18 harg18 arg19 harg19 arg20 arg21 arg22 x2 x3 x4 x5 xs0 xs1 xs2 = blk (kernelRun0_B.sl.r_117 (F := F) c arg3 harg3 arg4 harg4 arg5 harg5 arg6 harg6 arg17 harg17 arg18 harg18 arg19 harg19 arg20 arg21 arg22 x2 x3 x4 x5 xs0 xs1 xs2) (rdIn arg3 harg3 x2 (rW 11)) (fun p q => rdCov arg20 (kernelRun0_B.sl.HS3_8 (F := F) c arg4 harg4 x3) (rP p q 11)) (rdIn arg17 harg17 xs0 (rA 11)) (rdIn arg18 harg18 xs1 (rS 11)) (rdCov arg22 (kernelRun0_B.sl.HS5_1 (F := F) c arg5 harg5 x4) (rD 11)) := rfl

theorem gB_12 : kernelRun0_B.sl.r_133 (F := F) c arg3 harg3 arg4 harg4 arg5 harg5 arg6 harg6 arg17 harg17 arg18 harg18 arg19 harg19 arg20 arg21 arg22 x2 x3 x4 x5 xs0 xs1 xs2 = blk (kernelRun0_B.sl.r_126 (F := F) c arg3 harg3 arg4 harg4 arg5 harg5 arg6 harg6 arg17 harg17 arg18 harg18 arg19 harg19 arg20 arg21 arg22 x2 x3 x4 x5 xs0 xs1 xs2) (rdIn arg3 harg3 x2 (rW 12)) (fun p q => rdCov arg20 (kernelRun0_B.sl.HS3_8 (F := F) c arg4 harg4 x3) (rP p q 12)) (rdIn arg17 harg17 xs0 (rA 12)) (rdIn arg18 harg18 xs1 (rS 12)) (rdCov arg22 (kernelRun0_B.sl.HS5_1 (F := F) c arg5 harg5 x4) (rD 12)) := rfl

theorem gB_13 : kernelRun0_B.sl.r_144 (F := F) c arg3 harg3 arg4 harg4 arg5 harg5 arg6 harg6 arg17 harg17 arg18 harg18 arg19 harg19 arg20 arg21 arg22 x2 x3 x4 x5 xs0 xs1 xs2 = blk (kernelRun0_B.sl.r_133 (F := F) c arg3 harg3 arg4 harg4 arg5 harg5 arg6 harg6 arg17 harg17 arg18 harg18 arg19 harg19 arg20 arg21 arg22 x2 x3 x4 x5 xs0 xs1 xs2) (rdIn arg3 harg3 x2 (rW 13)) (fun p q => rdCov arg20 (kernelRun0_B.sl.HS3_8 (F := F) c arg4 harg4 x3) (rP p q 13)) (rdIn arg17 harg17 xs0 (rA 13)) (rdIn arg18 harg18 xs1 (rS 13)) (rdCov arg22 (kernelRun0_B.sl.HS5_1 (F := F) c arg5 harg5 x4) (rD 13)) := rfl

theorem gB_14 : kernelRun0_B.sl.r_154 (F := F) c arg3 harg3 arg4 harg4 arg5 harg5 arg6 harg6 arg17 harg17 arg18 harg18 arg19 harg19 arg20 arg21 arg22 x2 x3 x4 x5 xs0 xs1 xs2 = blk (kernelRun0_B.sl.r_144 (F := F) c arg3 harg3 arg4 harg4 arg5 harg5 arg6 harg6 arg17 harg17 arg18 harg18 arg19 harg19 arg20 arg21 arg22 x2 x3 x4 x5 xs0 xs1 xs2) (rdIn arg3 harg3 x2 (rW 14)) (fun p q => rdCov arg20 (kernelRun0_B.sl.HS3_8 (F := F) c arg4 harg4 x3) (rP p q 14)) (rdIn arg17 harg17 xs0 (rA 14)) (rdIn arg18 harg18 xs1 (rS 14)) (rdCov arg22 (kernelRun0_B.sl.HS5_1 (F := F) c arg5 harg5 x4) (rD 14)) := rfl

theorem gB_15 : kernelRun0_B.sl.r_164 (F := F) c arg3 harg3 arg4 harg4 arg5 harg5 arg6 harg6 arg17 harg17 arg18 harg18 arg19 harg19 arg20 arg21 arg22 x2 x3 x4 x5 xs0 xs1 xs2 = blk (kernelRun0_B.sl.r_154 (F := F) c arg3 harg3 arg4 harg4 arg5 harg5 arg6 harg6 arg17 harg17 arg18 harg18 arg19 harg19 arg20 arg21 arg22 x2 x3 x4 x5 xs0 xs1 xs2) (rdIn arg3 harg3 x2 (rW 15)) (fun p q => rdCov arg20 (kernelRun0_B.sl.HS3_8 (F := F) c arg4 harg4 x3) (rP p q 15)) (rdIn arg17 harg17 xs0 (rA 15)) (rdIn arg18 harg18 xs1 (rS 15)) (rdCov arg22 (kernelRun0_B.sl.HS5_1 (F := F) c arg5 harg5 x4) (rD 15)) := rfl

theorem gB_16 : kernelRun0_B.sl.r_172 (F := F) c arg3 harg3 arg4 harg4 arg5 harg5 arg6 harg6 arg17 harg17 arg18 harg18 arg19 harg19 arg20 arg21 arg22 x2 x3 x4 x5 xs0 xs1 xs2 = blk (kernelRun0_B.sl.r_164 (F := F) c arg3 harg3 arg4 harg4 arg5 harg5 arg6 harg6 arg17 harg17 arg18 harg18 arg19 harg19 arg20 arg21 arg22 x2 x3 x4 x5 xs0 xs1 xs2) (rdIn arg3 harg3 x2 (rW 16)) (fun p q => rdCov arg20 (kernelRun0_B.sl.HS3_8 (F := F) c arg4 harg4 x3) (rP p q 16)) (rdIn arg17 harg17 xs0 (rA 16)) (rdIn arg18 harg18 xs1 (rS 16)) (rdCov arg22 (kernelRun0_B.sl.HS5_1 (F := F) c arg5 harg5 x4) (rD 16)) := rfl

theorem gB_17 : kernelRun0_B.sl.r_182 (F := F) c arg3 harg3 arg4 harg4 arg5 harg5 arg6 harg6 arg17 harg17 arg18 harg18 arg19 harg19 arg20 arg21 arg22 x2 x3 x4 x5 xs0 xs1 xs2 = blk (kernelRun0_B.sl.r_172 (F := F) c arg3 harg3 arg4 harg4 arg5 harg5 arg6 harg6 arg17 harg17 arg18 harg18 arg19 harg19 arg20 arg21 arg22 x2 x3 x4 x5 xs0 xs1 xs2) (rdIn arg3 harg3 x2 (rW 17)) (fun p q => rdCov arg20 (kernelRun0_B.sl.HS3_8 (F := F) c arg4 harg4 x3) (rP p q 17)) (rdIn arg17 harg17 xs0 (rA 17)) (rdIn arg18 harg18 xs1 (rS 17)) (rdCov arg22 (kernelRun0_B.sl.HS5_1 (F := F) c arg5 harg5 x4) (rD 17)) := rfl

theorem gB_18 : kernelRun0_B.sl.r_192 (F := F) c arg3 harg3 arg4 harg4 arg5 harg5 arg6 harg6 arg17 harg17 arg18 harg18 arg19 harg19 arg20 arg21 arg22 x2 x3 x4 x5 xs0 xs1 xs2 = blk (kernelRun0_B.sl.r_182 (F := F) c arg3 harg3 arg4 harg4 arg5 harg5 arg6 harg6 arg17 harg17 arg18 harg18 arg19 harg19 arg20 arg21 arg22 x2 x3 x4 x5 xs0 xs1 xs2) (rdIn arg3 harg3 x2 (rW 18)) (fun p q => rdCov arg20 (kernelRun0_B.sl.HS3_8 (F := F) c arg4 harg4 x3) (rP p q 18)) (rdIn arg17 harg17 xs0 (rA 18)) (rdIn arg18 harg18 xs1 (rS 18)) (rdCov arg22 (kernelRun0_B.sl.HS5_1 (F := F) c arg5 harg5 x4) (rD 18)) := rfl

theorem gB_19 : kernelRun0_B.sl.r_198 (F := F) c arg3 harg3 arg4 harg4 arg5 harg5 arg6 harg6 arg17 harg17 arg18 harg18 arg19 harg19 arg20 arg21 arg22 x2 x3 x4 x5 xs0 xs1 xs2 = blk (kernelRun0_B.sl.r_192 (F := F) c arg3 harg3 arg4 harg4 arg5 harg5 arg6 harg6 arg17 harg17 arg18 harg18 arg19 harg19 arg20 arg21 arg22 x2 x3 x4 x5 xs0 xs1 xs2) (rdIn arg3 harg3 x2 (rW 19)) (fun p q => rdCov arg20 (kernelRun0_B.sl.HS3_8 (F := F) c arg4 harg4 x3) (rP p q 19)) (rdIn arg17 harg17 xs0 (rA 19)) (rdIn arg18 harg18 xs1 (rS 19)) (rdCov arg22 (kernelRun0_B.sl.HS5_1 (F := F) c arg5 harg5 x4) (rD 19)) := rfl

/-- The whole product. -/
theorem gB_eq : kernelRun0_B.sl.r_198 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 20 := by
  have h0 : kernelRun0_B.sl.r_19 (F := F) c arg4 harg4 arg6 harg6 arg19 harg19 arg21 x3 x5 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 0 := by
    rw [gB_start]; simp only [rdCov_eq, rdIn_eq, accs]
  have h1 : kernelRun0_B.sl.r_29 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 1 := by
    rw [gB_0, h0]; simp only [rdCov_eq, rdIn_eq]; exact (accs_succ _ _ _ _ _ _ _ 0).symm
  have h2 : kernelRun0_B.sl.r_37 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 2 := by
    rw [gB_1, h1]; simp only [rdCov_eq, rdIn_eq]; exact (accs_succ _ _ _ _ _ _ _ 1).symm
  have h3 : kernelRun0_B.sl.r_47 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 3 := by
    rw [gB_2, h2]; simp only [rdCov_eq, rdIn_eq]; exact (accs_succ _ _ _ _ _ _ _ 2).symm
  have h4 : kernelRun0_B.sl.r_57 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 4 := by
    rw [gB_3, h3]; simp only [rdCov_eq, rdIn_eq]; exact (accs_succ _ _ _ _ _ _ _ 3).symm
  have h5 : kernelRun0_B.sl.r_63 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 5 := by
    rw [gB_4, h4]; simp only [rdCov_eq, rdIn_eq]; exact (accs_succ _ _ _ _ _ _ _ 4).symm
  have h6 : kernelRun0_B.sl.r_74 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 6 := by
    rw [gB_5, h5]; simp only [rdCov_eq, rdIn_eq]; exact (accs_succ _ _ _ _ _ _ _ 5).symm
  have h7 : kernelRun0_B.sl.r_83 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 7 := by
    rw [gB_6, h6]; simp only [rdCov_eq, rdIn_eq]; exact (accs_succ _ _ _ _ _ _ _ 6).symm
  have h8 : kernelRun0_B.sl.r_92 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 8 := by
    rw [gB_7, h7]; simp only [rdCov_eq, rdIn_eq]; exact (accs_succ _ _ _ _ _ _ _ 7).symm
  have h9 : kernelRun0_B.sl.r_101 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 9 := by
    rw [gB_8, h8]; simp only [rdCov_eq, rdIn_eq]; exact (accs_succ _ _ _ _ _ _ _ 8).symm
  have h10 : kernelRun0_B.sl.r_109 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 10 := by
    rw [gB_9, h9]; simp only [rdCov_eq, rdIn_eq]; exact (accs_succ _ _ _ _ _ _ _ 9).symm
  have h11 : kernelRun0_B.sl.r_117 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 11 := by
    rw [gB_10, h10]; simp only [rdCov_eq, rdIn_eq]; exact (accs_succ _ _ _ _ _ _ _ 10).symm
  have h12 : kernelRun0_B.sl.r_126 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 12 := by
    rw [gB_11, h11]; simp only [rdCov_eq, rdIn_eq]; exact (accs_succ _ _ _ _ _ _ _ 11).symm
  have h13 : kernelRun0_B.sl.r_133 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 13 := by
    rw [gB_12, h12]; simp only [rdCov_eq, rdIn_eq]; exact (accs_succ _ _ _ _ _ _ _ 12).symm
  have h14 : kernelRun0_B.sl.r_144 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 14 := by
    rw [gB_13, h13]; simp only [rdCov_eq, rdIn_eq]; exact (accs_succ _ _ _ _ _ _ _ 13).symm
  have h15 : kernelRun0_B.sl.r_154 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 15 := by
    rw [gB_14, h14]; simp only [rdCov_eq, rdIn_eq]; exact (accs_succ _ _ _ _ _ _ _ 14).symm
  have h16 : kernelRun0_B.sl.r_164 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 16 := by
    rw [gB_15, h15]; simp only [rdCov_eq, rdIn_eq]; exact (accs_succ _ _ _ _ _ _ _ 15).symm
  have h17 : kernelRun0_B.sl.r_172 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 17 := by
    rw [gB_16, h16]; simp only [rdCov_eq, rdIn_eq]; exact (accs_succ _ _ _ _ _ _ _ 16).symm
  have h18 : kernelRun0_B.sl.r_182 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 18 := by
    rw [gB_17, h17]; simp only [rdCov_eq, rdIn_eq]; exact (accs_succ _ _ _ _ _ _ _ 17).symm
  have h19 : kernelRun0_B.sl.r_192 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 19 := by
    rw [gB_18, h18]; simp only [rdCov_eq, rdIn_eq]; exact (accs_succ _ _ _ _ _ _ _ 18).symm
  have h20 : kernelRun0_B.sl.r_198 (F := F) c arg3 harg3 arg4 harg4 arg5 harg5 arg6 harg6 arg17 harg17 arg18 harg18 arg19 harg19 arg20 arg21 arg22 x2 x3 x4 x5 xs0 xs1 xs2 = accs x2 (View.canon (kernelRun0_B.sl.HS3_8 (F := F) c arg4 harg4 x3)) (View.canon (kernelRun0_B.sl.HS4_3 (F := F) c arg4 harg4 arg6 harg6 x3 x5)) (View.canon (kernelRun0_B.sl.HS5_1 (F := F) c arg5 harg5 x4)) xs0 xs1 xs2 20 := by
    rw [gB_19, h19]; simp only [rdCov_eq, rdIn_eq]; exact (accs_succ _ _ _ _ _ _ _ 19).symm
  exact h20

end Cert.Q4k

end
-- ==== Proof.ChainBu.lean ====
/-
  The accumulator of the product `u` in case B of the run: at each block it is `blk` of the accumulator before it and
  of the block's loads, so the product is `accs` of whole arrays.
-/
module

public import proofs.«01_k».proof.Proof.Kern
public import proofs.«01_k».proof.Proof.Gen.KernelIdeal.Frame.RunB

@[expose] public section

noncomputable section

namespace Cert.Q4k

open Cert.KernelIdeal Cert.KernelIdeal.Gen Idealize.ShloMosaic Idealize.ShloMosaic.TcCoe

variable {F : FTy → Type} [FloatOps F]
variable (c : Dev nD) (i : grid0.Coords) (arg1 : Memref sig .tc .vmem S48x5120 .f32) (harg1 : arg1.IsWhole) (arg2 : Memref sig .tc .vmem S1x5120 .f32) (harg2 : arg2.IsWhole) (arg3 : Memref sig .tc .vmem S20x512x128 .i8) (harg3 : arg3.IsWhole) (arg4 : Memref sig .tc .vmem S12x20x512 .i8) (harg4 : arg4.IsWhole) (arg5 : Memref sig .tc .vmem S20x512 .i16) (harg5 : arg5.IsWhole) (arg6 : Memref sig .tc .vmem S20x512 .i16) (harg6 : arg6.IsWhole) (arg7 : Memref sig .tc .vmem S20x512x128 .i8) (harg7 : arg7.IsWhole) (arg8 : Memref sig .tc .vmem S12x20x512 .i8) (harg8 : arg8.IsWhole) (arg9 : Memref sig .tc .vmem S20x512 .i16) (harg9 : arg9.IsWhole) (arg10 : Memref sig .tc .vmem S20x512 .i16) (harg10 : arg10.IsWhole) (arg11 : Memref sig .tc .vmem S48x5120 .i8) (harg11 : arg11.IsWhole) (arg12 : Memref sig .tc .vmem S48x20 .f32) (harg12 : arg12.IsWhole) (arg13 : Memref sig .tc .vmem S48x512 .i8) (harg13 : arg13.IsWhole) (arg14 : Memref sig .tc .vmem S48x56 .f32) (harg14 : arg14.IsWhole) (arg15 : Memref sig .tc .vmem S2x48x512 .bf16) (harg15 : arg15.IsWhole) (arg16 : Memref sig .tc .vmem S2x48x128 .f32) (harg16 : arg16.IsWhole) (arg17 : Memref sig .tc .vmem S20x48x512 .bf16) (harg17 : arg17.IsWhole) (arg18 : Memref sig .tc .vmem S20x48x128 .f32) (harg18 : arg18.IsWhole) (arg19 : Memref sig .tc .vmem S144x256 .bf16) (harg19 : arg19.IsWhole) (arg20 : Memref sig .tc .vmem S2x4x20x512 .i32) (harg20 : arg20.IsWhole) (arg21 : Memref sig .tc .vmem S3x192x512 .bf16) (harg21 : arg21.IsWhole) (arg22 : Memref sig .tc .vmem S20x512 .f32) (harg22 : arg22.IsWhole)
variable (x0 : Vec F S48x5120 .f32) (x1 : Vec F S1x5120 .f32) (x2 : Vec F S20x512x128 .i8) (x3 : Vec F S12x20x512 .i8) (x4 : Vec F S20x512 .i16) (x5 : Vec F S20x512 .i16) (x6 : Vec F S20x512x128 .i8) (x7 : Vec F S12x20x512 .i8) (x8 : Vec F S20x512 .i16) (x9 : Vec F S20x512 .i16)
variable (xs0 : Vec F S20x48x512 .bf16) (xs1 : Vec F S20x48x128 .f32) (xs2 : Vec F S144x256 .bf16)

theorem uB_start : kernelRun0_B.sl.r_227 (F := F) c arg4 harg4 arg6 harg6 arg8 harg8 arg10 harg10 arg19 harg19 arg21 x3 x5 x7 x9 xs2 = acc0 (fun i => rdCov arg21 (kernelRun0_B.sl.HS4_6 (F := F) c arg4 harg4 arg6 harg6 arg8 harg8 arg10 harg10 x3 x5 x7 x9) (rZ i)) (rdIn arg19 harg19 xs2 rX3) (rdIn arg19 harg19 xs2 rX2) (rdIn arg19 harg19 xs2 rX1) := rfl

theorem uB_0 : kernelRun0_B.sl.r_236 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_227 (F := F) c arg4 harg4 arg6 harg6 arg8 harg8 arg10 harg10 arg19 harg19 arg21 x3 x5 x7 x9 xs2) (rdIn arg7 harg7 x6 (rW 0)) (fun p q => rdCov arg20 (kernelRun0_B.sl.HS3_16 (F := F) c arg4 harg4 arg8 harg8 x3 x7) (rP p q 0)) (rdIn arg17 harg17 xs0 (rA 0)) (rdIn arg18 harg18 xs1 (rS 0)) (rdCov arg22 (kernelRun0_B.sl.HS5_2 (F := F) c arg5 harg5 arg9 harg9 x4 x8) (rD 0)) := rfl

theorem uB_1 : kernelRun0_B.sl.r_245 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_236 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 1)) (fun p q => rdCov arg20 (kernelRun0_B.sl.HS3_16 (F := F) c arg4 harg4 arg8 harg8 x3 x7) (rP p q 1)) (rdIn arg17 harg17 xs0 (rA 1)) (rdIn arg18 harg18 xs1 (rS 1)) (rdCov arg22 (kernelRun0_B.sl.HS5_2 (F := F) c arg5 harg5 arg9 harg9 x4 x8) (rD 1)) := rfl

theorem uB_2 : kernelRun0_B.sl.r_254 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_245 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 2)) (fun p q => rdCov arg20 (kernelRun0_B.sl.HS3_16 (F := F) c arg4 harg4 arg8 harg8 x3 x7) (rP p q 2)) (rdIn arg17 harg17 xs0 (rA 2)) (rdIn arg18 harg18 xs1 (rS 2)) (rdCov arg22 (kernelRun0_B.sl.HS5_2 (F := F) c arg5 harg5 arg9 harg9 x4 x8) (rD 2)) := rfl

theorem uB_3 : kernelRun0_B.sl.r_262 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_254 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 3)) (fun p q => rdCov arg20 (kernelRun0_B.sl.HS3_16 (F := F) c arg4 harg4 arg8 harg8 x3 x7) (rP p q 3)) (rdIn arg17 harg17 xs0 (rA 3)) (rdIn arg18 harg18 xs1 (rS 3)) (rdCov arg22 (kernelRun0_B.sl.HS5_2 (F := F) c arg5 harg5 arg9 harg9 x4 x8) (rD 3)) := rfl

theorem uB_4 : kernelRun0_B.sl.r_270 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_262 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 4)) (fun p q => rdCov arg20 (kernelRun0_B.sl.HS3_16 (F := F) c arg4 harg4 arg8 harg8 x3 x7) (rP p q 4)) (rdIn arg17 harg17 xs0 (rA 4)) (rdIn arg18 harg18 xs1 (rS 4)) (rdCov arg22 (kernelRun0_B.sl.HS5_2 (F := F) c arg5 harg5 arg9 harg9 x4 x8) (rD 4)) := rfl

theorem uB_5 : kernelRun0_B.sl.r_279 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_270 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 5)) (fun p q => rdCov arg20 (kernelRun0_B.sl.HS3_16 (F := F) c arg4 harg4 arg8 harg8 x3 x7) (rP p q 5)) (rdIn arg17 harg17 xs0 (rA 5)) (rdIn arg18 harg18 xs1 (rS 5)) (rdCov arg22 (kernelRun0_B.sl.HS5_2 (F := F) c arg5 harg5 arg9 harg9 x4 x8) (rD 5)) := rfl

theorem uB_6 : kernelRun0_B.sl.r_286 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_279 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 6)) (fun p q => rdCov arg20 (kernelRun0_B.sl.HS3_16 (F := F) c arg4 harg4 arg8 harg8 x3 x7) (rP p q 6)) (rdIn arg17 harg17 xs0 (rA 6)) (rdIn arg18 harg18 xs1 (rS 6)) (rdCov arg22 (kernelRun0_B.sl.HS5_2 (F := F) c arg5 harg5 arg9 harg9 x4 x8) (rD 6)) := rfl

theorem uB_7 : kernelRun0_B.sl.r_297 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_286 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 7)) (fun p q => rdCov arg20 (kernelRun0_B.sl.HS3_16 (F := F) c arg4 harg4 arg8 harg8 x3 x7) (rP p q 7)) (rdIn arg17 harg17 xs0 (rA 7)) (rdIn arg18 harg18 xs1 (rS 7)) (rdCov arg22 (kernelRun0_B.sl.HS5_2 (F := F) c arg5 harg5 arg9 harg9 x4 x8) (rD 7)) := rfl

theorem uB_8 : kernelRun0_B.sl.r_307 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_297 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 8)) (fun p q => rdCov arg20 (kernelRun0_B.sl.HS3_16 (F := F) c arg4 harg4 arg8 harg8 x3 x7) (rP p q 8)) (rdIn arg17 harg17 xs0 (rA 8)) (rdIn arg18 harg18 xs1 (rS 8)) (rdCov arg22 (kernelRun0_B.sl.HS5_2 (F := F) c arg5 harg5 arg9 harg9 x4 x8) (rD 8)) := rfl

theorem uB_9 : kernelRun0_B.sl.r_317 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_307 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 9)) (fun p q => rdCov arg20 (kernelRun0_B.sl.HS3_16 (F := F) c arg4 harg4 arg8 harg8 x3 x7) (rP p q 9)) (rdIn arg17 harg17 xs0 (rA 9)) (rdIn arg18 harg18 xs1 (rS 9)) (rdCov arg22 (kernelRun0_B.sl.HS5_2 (F := F) c arg5 harg5 arg9 harg9 x4 x8) (rD 9)) := rfl

theorem uB_10 : kernelRun0_B.sl.r_325 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_317 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 10)) (fun p q => rdCov arg20 (kernelRun0_B.sl.HS3_16 (F := F) c arg4 harg4 arg8 harg8 x3 x7) (rP p q 10)) (rdIn arg17 harg17 xs0 (rA 10)) (rdIn arg18 harg18 xs1 (rS 10)) (rdCov arg22 (kernelRun0_B.sl.HS5_2 (F := F) c arg5 harg5 arg9 harg9 x4 x8) (rD 10)) := rfl

theorem uB_11 : kernelRun0_B.sl.r_335 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_325 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 11)) (fun p q => rdCov arg20 (kernelRun0_B.sl.HS3_16 (F := F) c arg4 harg4 arg8 harg8 x3 x7) (rP p q 11)) (rdIn arg17 harg17 xs0 (rA 11)) (rdIn arg18 harg18 xs1 (rS 11)) (rdCov arg22 (kernelRun0_B.sl.HS5_2 (F := F) c arg5 harg5 arg9 harg9 x4 x8) (rD 11)) := rfl

theorem uB_12 : kernelRun0_B.sl.r_345 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_335 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 12)) (fun p q => rdCov arg20 (kernelRun0_B.sl.HS3_16 (F := F) c arg4 harg4 arg8 harg8 x3 x7) (rP p q 12)) (rdIn arg17 harg17 xs0 (rA 12)) (rdIn arg18 harg18 xs1 (rS 12)) (rdCov arg22 (kernelRun0_B.sl.HS5_2 (F := F) c arg5 harg5 arg9 harg9 x4 x8) (rD 12)) := rfl

theorem uB_13 : kernelRun0_B.sl.r_351 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_345 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 13)) (fun p q => rdCov arg20 (kernelRun0_B.sl.HS3_16 (F := F) c arg4 harg4 arg8 harg8 x3 x7) (rP p q 13)) (rdIn arg17 harg17 xs0 (rA 13)) (rdIn arg18 harg18 xs1 (rS 13)) (rdCov arg22 (kernelRun0_B.sl.HS5_2 (F := F) c arg5 harg5 arg9 harg9 x4 x8) (rD 13)) := rfl

theorem uB_14 : kernelRun0_B.sl.r_362 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_351 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 14)) (fun p q => rdCov arg20 (kernelRun0_B.sl.HS3_16 (F := F) c arg4 harg4 arg8 harg8 x3 x7) (rP p q 14)) (rdIn arg17 harg17 xs0 (rA 14)) (rdIn arg18 harg18 xs1 (rS 14)) (rdCov arg22 (kernelRun0_B.sl.HS5_2 (F := F) c arg5 harg5 arg9 harg9 x4 x8) (rD 14)) := rfl

theorem uB_15 : kernelRun0_B.sl.r_371 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_362 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 15)) (fun p q => rdCov arg20 (kernelRun0_B.sl.HS3_16 (F := F) c arg4 harg4 arg8 harg8 x3 x7) (rP p q 15)) (rdIn arg17 harg17 xs0 (rA 15)) (rdIn arg18 harg18 xs1 (rS 15)) (rdCov arg22 (kernelRun0_B.sl.HS5_2 (F := F) c arg5 harg5 arg9 harg9 x4 x8) (rD 15)) := rfl

theorem uB_16 : kernelRun0_B.sl.r_380 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_371 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 16)) (fun p q => rdCov arg20 (kernelRun0_B.sl.HS3_16 (F := F) c arg4 harg4 arg8 harg8 x3 x7) (rP p q 16)) (rdIn arg17 harg17 xs0 (rA 16)) (rdIn arg18 harg18 xs1 (rS 16)) (rdCov arg22 (kernelRun0_B.sl.HS5_2 (F := F) c arg5 harg5 arg9 harg9 x4 x8) (rD 16)) := rfl

theorem uB_17 : kernelRun0_B.sl.r_389 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_380 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 17)) (fun p q => rdCov arg20 (kernelRun0_B.sl.HS3_16 (F := F) c arg4 harg4 arg8 harg8 x3 x7) (rP p q 17)) (rdIn arg17 harg17 xs0 (rA 17)) (rdIn arg18 harg18 xs1 (rS 17)) (rdCov arg22 (kernelRun0_B.sl.HS5_2 (F := F) c arg5 harg5 arg9 harg9 x4 x8) (rD 17)) := rfl

theorem uB_18 : kernelRun0_B.sl.r_397 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_389 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 18)) (fun p q => rdCov arg20 (kernelRun0_B.sl.HS3_16 (F := F) c arg4 harg4 arg8 harg8 x3 x7) (rP p q 18)) (rdIn arg17 harg17 xs0 (rA 18)) (rdIn arg18 harg18 xs1 (rS 18)) (rdCov arg22 (kernelRun0_B.sl.HS5_2 (F := F) c arg5 harg5 arg9 harg9 x4 x8) (rD 18)) := rfl

theorem uB_19 : kernelRun0_B.sl.r_405 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = blk (kernelRun0_B.sl.r_397 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (rdIn arg7 harg7 x6 (rW 19)) (fun p q => rdCov arg20 (kernelRun0_B.sl.HS3_16 (F := F) c arg4 harg4 arg8 harg8 x3 x7) (rP p q 19)) (rdIn arg17 harg17 xs0 (rA 19)) (rdIn arg18 harg18 xs1 (rS 19)) (rdCov arg22 (kernelRun0_B.sl.HS5_2 (F := F) c arg5 harg5 arg9 harg9 x4 x8) (rD 19)) := rfl

/-- The whole product. -/
theorem uB_eq : kernelRun0_B.sl.r_405 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 20 := by
  have h0 : kernelRun0_B.sl.r_227 (F := F) c arg4 harg4 arg6 harg6 arg8 harg8 arg10 harg10 arg19 harg19 arg21 x3 x5 x7 x9 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 0 := by
    rw [uB_start]; simp only [rdCov_eq, rdIn_eq, accs]
  have h1 : kernelRun0_B.sl.r_236 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 1 := by
    rw [uB_0, h0]; simp only [rdCov_eq, rdIn_eq]; exact (accs_succ _ _ _ _ _ _ _ 0).symm
  have h2 : kernelRun0_B.sl.r_245 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 2 := by
    rw [uB_1, h1]; simp only [rdCov_eq, rdIn_eq]; exact (accs_succ _ _ _ _ _ _ _ 1).symm
  have h3 : kernelRun0_B.sl.r_254 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 3 := by
    rw [uB_2, h2]; simp only [rdCov_eq, rdIn_eq]; exact (accs_succ _ _ _ _ _ _ _ 2).symm
  have h4 : kernelRun0_B.sl.r_262 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 4 := by
    rw [uB_3, h3]; simp only [rdCov_eq, rdIn_eq]; exact (accs_succ _ _ _ _ _ _ _ 3).symm
  have h5 : kernelRun0_B.sl.r_270 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 5 := by
    rw [uB_4, h4]; simp only [rdCov_eq, rdIn_eq]; exact (accs_succ _ _ _ _ _ _ _ 4).symm
  have h6 : kernelRun0_B.sl.r_279 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 6 := by
    rw [uB_5, h5]; simp only [rdCov_eq, rdIn_eq]; exact (accs_succ _ _ _ _ _ _ _ 5).symm
  have h7 : kernelRun0_B.sl.r_286 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 7 := by
    rw [uB_6, h6]; simp only [rdCov_eq, rdIn_eq]; exact (accs_succ _ _ _ _ _ _ _ 6).symm
  have h8 : kernelRun0_B.sl.r_297 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 8 := by
    rw [uB_7, h7]; simp only [rdCov_eq, rdIn_eq]; exact (accs_succ _ _ _ _ _ _ _ 7).symm
  have h9 : kernelRun0_B.sl.r_307 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 9 := by
    rw [uB_8, h8]; simp only [rdCov_eq, rdIn_eq]; exact (accs_succ _ _ _ _ _ _ _ 8).symm
  have h10 : kernelRun0_B.sl.r_317 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 10 := by
    rw [uB_9, h9]; simp only [rdCov_eq, rdIn_eq]; exact (accs_succ _ _ _ _ _ _ _ 9).symm
  have h11 : kernelRun0_B.sl.r_325 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 11 := by
    rw [uB_10, h10]; simp only [rdCov_eq, rdIn_eq]; exact (accs_succ _ _ _ _ _ _ _ 10).symm
  have h12 : kernelRun0_B.sl.r_335 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 12 := by
    rw [uB_11, h11]; simp only [rdCov_eq, rdIn_eq]; exact (accs_succ _ _ _ _ _ _ _ 11).symm
  have h13 : kernelRun0_B.sl.r_345 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 13 := by
    rw [uB_12, h12]; simp only [rdCov_eq, rdIn_eq]; exact (accs_succ _ _ _ _ _ _ _ 12).symm
  have h14 : kernelRun0_B.sl.r_351 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 14 := by
    rw [uB_13, h13]; simp only [rdCov_eq, rdIn_eq]; exact (accs_succ _ _ _ _ _ _ _ 13).symm
  have h15 : kernelRun0_B.sl.r_362 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 15 := by
    rw [uB_14, h14]; simp only [rdCov_eq, rdIn_eq]; exact (accs_succ _ _ _ _ _ _ _ 14).symm
  have h16 : kernelRun0_B.sl.r_371 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 16 := by
    rw [uB_15, h15]; simp only [rdCov_eq, rdIn_eq]; exact (accs_succ _ _ _ _ _ _ _ 15).symm
  have h17 : kernelRun0_B.sl.r_380 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 17 := by
    rw [uB_16, h16]; simp only [rdCov_eq, rdIn_eq]; exact (accs_succ _ _ _ _ _ _ _ 16).symm
  have h18 : kernelRun0_B.sl.r_389 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 18 := by
    rw [uB_17, h17]; simp only [rdCov_eq, rdIn_eq]; exact (accs_succ _ _ _ _ _ _ _ 17).symm
  have h19 : kernelRun0_B.sl.r_397 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 19 := by
    rw [uB_18, h18]; simp only [rdCov_eq, rdIn_eq]; exact (accs_succ _ _ _ _ _ _ _ 18).symm
  have h20 : kernelRun0_B.sl.r_405 (F := F) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 = accs x6 (View.canon (kernelRun0_B.sl.HS3_16 (F := F) c arg4 harg4 arg8 harg8 x3 x7)) (View.canon (kernelRun0_B.sl.HS4_6 (F := F) c arg4 harg4 arg6 harg6 arg8 harg8 arg10 harg10 x3 x5 x7 x9)) (View.canon (kernelRun0_B.sl.HS5_2 (F := F) c arg5 harg5 arg9 harg9 x4 x8)) xs0 xs1 xs2 20 := by
    rw [uB_19, h19]; simp only [rdCov_eq, rdIn_eq]; exact (accs_succ _ _ _ _ _ _ _ 19).symm
  exact h20

end Cert.Q4k

end
-- ==== Proof.StepB.lean ====
/-
  What a later step leaves: the codes and scales of the row block as they were, the codes of the step, and its two lanes of scales.
-/
module

public import proofs.«01_k».proof.Proof.Gen.KernelIdeal.Frame
public import proofs.«01_k».proof.Proof.Hold
public import proofs.«01_k».proof.Proof.Act
public import proofs.«01_k».proof.Proof.WdsB
public import proofs.«01_k».proof.Proof.ChainBg
public import proofs.«01_k».proof.Proof.ChainBu

@[expose] public section

noncomputable section

namespace Cert.Q4k

open Cert.KernelIdeal Cert.KernelIdeal.Gen Idealize.ShloMosaic Idealize.ShloMosaic.TcCoe

variable (c : Dev nD) (i : grid0.Coords) (arg1 : Memref Cert.KernelIdeal.sig .tc .vmem S48x5120 .f32) (harg1 : arg1.IsWhole) (arg2 : Memref Cert.KernelIdeal.sig .tc .vmem S1x5120 .f32) (harg2 : arg2.IsWhole) (arg3 : Memref Cert.KernelIdeal.sig .tc .vmem S20x512x128 .i8) (harg3 : arg3.IsWhole) (arg4 : Memref Cert.KernelIdeal.sig .tc .vmem S12x20x512 .i8) (harg4 : arg4.IsWhole) (arg5 : Memref Cert.KernelIdeal.sig .tc .vmem S20x512 .i16) (harg5 : arg5.IsWhole) (arg6 : Memref Cert.KernelIdeal.sig .tc .vmem S20x512 .i16) (harg6 : arg6.IsWhole) (arg7 : Memref Cert.KernelIdeal.sig .tc .vmem S20x512x128 .i8) (harg7 : arg7.IsWhole) (arg8 : Memref Cert.KernelIdeal.sig .tc .vmem S12x20x512 .i8) (harg8 : arg8.IsWhole) (arg9 : Memref Cert.KernelIdeal.sig .tc .vmem S20x512 .i16) (harg9 : arg9.IsWhole) (arg10 : Memref Cert.KernelIdeal.sig .tc .vmem S20x512 .i16) (harg10 : arg10.IsWhole) (arg11 : Memref Cert.KernelIdeal.sig .tc .vmem S48x5120 .i8) (harg11 : arg11.IsWhole) (arg12 : Memref Cert.KernelIdeal.sig .tc .vmem S48x20 .f32) (harg12 : arg12.IsWhole) (arg13 : Memref Cert.KernelIdeal.sig .tc .vmem S48x512 .i8) (harg13 : arg13.IsWhole) (arg14 : Memref Cert.KernelIdeal.sig .tc .vmem S48x56 .f32) (harg14 : arg14.IsWhole) (arg15 : Memref Cert.KernelIdeal.sig .tc .vmem S2x48x512 .bf16) (harg15 : arg15.IsWhole) (arg16 : Memref Cert.KernelIdeal.sig .tc .vmem S2x48x128 .f32) (harg16 : arg16.IsWhole) (arg17 : Memref Cert.KernelIdeal.sig .tc .vmem S20x48x512 .bf16) (harg17 : arg17.IsWhole) (arg18 : Memref Cert.KernelIdeal.sig .tc .vmem S20x48x128 .f32) (harg18 : arg18.IsWhole) (arg19 : Memref Cert.KernelIdeal.sig .tc .vmem S144x256 .bf16) (harg19 : arg19.IsWhole) (arg20 : Memref Cert.KernelIdeal.sig .tc .vmem S2x4x20x512 .i32) (harg20 : arg20.IsWhole) (arg21 : Memref Cert.KernelIdeal.sig .tc .vmem S3x192x512 .bf16) (harg21 : arg21.IsWhole) (arg22 : Memref Cert.KernelIdeal.sig .tc .vmem S20x512 .f32) (harg22 : arg22.IsWhole)
variable (hc0 : ¬cond0_0 i) (x0 : Vec Ideal S48x5120 .f32) (x1 : Vec Ideal S1x5120 .f32) (x2 : Vec Ideal S20x512x128 .i8) (x3 : Vec Ideal S12x20x512 .i8) (x4 : Vec Ideal S20x512 .i16) (x5 : Vec Ideal S20x512 .i16) (x6 : Vec Ideal S20x512x128 .i8) (x7 : Vec Ideal S12x20x512 .i8) (x8 : Vec Ideal S20x512 .i16) (x9 : Vec Ideal S20x512 .i16)
  (xo10 : Vec Ideal S48x5120 .i8) (xo11 : Vec Ideal S48x20 .f32) (xo13 : Vec Ideal S48x56 .f32) (xs0 : Vec Ideal S20x48x512 .bf16) (xs1 : Vec Ideal S20x48x128 .f32) (xs2 : Vec Ideal S144x256 .bf16)

theorem offs0 : (![0, 0] : Fin 2 → ℕ) = fun _ => 0 := by funext a; fin_cases a <;> rfl

theorem gBv {t : Fin 48} {Sv : Fin 20 → EReal} {q : Fin 20 → Fin 256 → ℤ} (R : RowOk xs0 xs1 xs2 t Sv q) (n : Fin 512) :
    kernelRun0_B.sl.r_198 (F := Ideal) c arg3 harg3 arg4 harg4 arg5 harg5 arg6 harg6 arg17 harg17 arg18 harg18 arg19 harg19 arg20 arg21 arg22 x2 x3 x4 x5 xs0 xs1 xs2 (ix2 t n) = prodOf x2 x3 x4 x5 Sv q n := by
  rw [gB_eq, wBg, zBg, dBg]
  simp only [rdIn_eq]
  exact tile_value0 R x2 x3 x4 x5 n

theorem uBv {t : Fin 48} {Sv : Fin 20 → EReal} {q : Fin 20 → Fin 256 → ℤ} (R : RowOk xs0 xs1 xs2 t Sv q) (n : Fin 512) :
    kernelRun0_B.sl.r_405 (F := Ideal) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2 (ix2 t n) = prodOf x6 x7 x8 x9 Sv q n := by
  rw [uB_eq, wBu, zBu, dBu]
  simp only [rdIn_eq]
  exact tile_value R x6 x7 x8 x9 n _ _ _

theorem outB_12 : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 xo10 xo11 xo13 xs0 xs1 xs2 = View.canon (actPieces (kernelRun0_B.sl.r_198 (F := Ideal) c arg3 harg3 arg4 harg4 arg5 harg5 arg6 harg6 arg17 harg17 arg18 harg18 arg19 harg19 arg20 arg21 arg22 x2 x3 x4 x5 xs0 xs1 xs2) (kernelRun0_B.sl.r_405 (F := Ideal) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2)) := by
  unfold out0_B_12
  rw [View.read_writes_junk_eq_canon]
  rfl

theorem pay271_eq (v : Vec Ideal S48x5120 .i8) : k0_pay271 (F := Ideal) v = v := by
  funext j
  obtain ⟨a, b, rfl⟩ : ∃ (a : Fin 48) (b : Fin 5120), j = ix2 a b := ⟨j 0, j 1, eq_ix2 j⟩
  pointwise [k0_pay271]

theorem pay272_eq (v : Vec Ideal S48x20 .f32) : k0_pay272 (F := Ideal) v = v := by
  funext j
  obtain ⟨a, b, rfl⟩ : ∃ (a : Fin 48) (b : Fin 20), j = ix2 a b := ⟨j 0, j 1, eq_ix2 j⟩
  pointwise [k0_pay272]

theorem outB_10 : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 xo10 xo11 xo13 xs0 xs1 xs2 = xo10 := by
  unfold out0_B_10
  rw [View.read_writes_junk_eq_canon]
  have e : View.readAt (Elt Ideal) arg11.view (Rect.unit ![0, 0] S48x5120.size inb_S48x5120_S48x5120_0_0).toLoadRect (harg11.unread xo10) = xo10 :=
    (rdIn_eq arg11 harg11 xo10 _).trans (View.ld_unit_zero offs0 _ _)
  refine Eq.trans (b := k0_pay271 (F := Ideal) (View.readAt (Elt Ideal) arg11.view (Rect.unit ![0, 0] S48x5120.size inb_S48x5120_S48x5120_0_0).toLoadRect (harg11.unread xo10))) ?_ ?_
  · exact View.canon_cons_unit_zero offs0 inb_S48x5120_S48x5120_0_0 _ _
  · rw [e, pay271_eq]

theorem outB_11 : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 xo10 xo11 xo13 xs0 xs1 xs2 = xo11 := by
  unfold out0_B_11
  rw [View.read_writes_junk_eq_canon]
  have e : View.readAt (Elt Ideal) arg12.view (Rect.unit ![0, 0] S48x20.size inb_S48x20_S48x20_0_0).toLoadRect (harg12.unread xo11) = xo11 :=
    (rdIn_eq arg12 harg12 xo11 _).trans (View.ld_unit_zero offs0 _ _)
  refine Eq.trans (b := k0_pay272 (F := Ideal) (View.readAt (Elt Ideal) arg12.view (Rect.unit ![0, 0] S48x20.size inb_S48x20_S48x20_0_0).toLoadRect (harg12.unread xo11))) ?_ ?_
  · exact View.canon_cons_unit_zero offs0 inb_S48x20_S48x20_0_0 _ _
  · rw [e, pay272_eq]

theorem outB_13 : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 xo10 xo11 xo13 xs0 xs1 xs2 = lanesV (kernelRun0_B.sl.r_198 (F := Ideal) c arg3 harg3 arg4 harg4 arg5 harg5 arg6 harg6 arg17 harg17 arg18 harg18 arg19 harg19 arg20 arg21 arg22 x2 x3 x4 x5 xs0 xs1 xs2) (kernelRun0_B.sl.r_405 (F := Ideal) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (BitVec.ofNat 32 (i 0).val) xo13 := by
  unfold out0_B_13
  rw [View.read_writes_junk_eq_canon]
  have e : View.readAt (Elt Ideal) arg14.view (Rect.unit ![0, 0] S48x56.size inb_S48x56_S48x56_0_0).toLoadRect (harg14.unread xo13) = xo13 :=
    (rdIn_eq arg14 harg14 xo13 _).trans (View.ld_unit_zero offs0 _ _)
  refine Eq.trans (b := lanesV (kernelRun0_B.sl.r_198 (F := Ideal) c arg3 harg3 arg4 harg4 arg5 harg5 arg6 harg6 arg17 harg17 arg18 harg18 arg19 harg19 arg20 arg21 arg22 x2 x3 x4 x5 xs0 xs1 xs2) (kernelRun0_B.sl.r_405 (F := Ideal) c arg4 harg4 arg5 harg5 arg6 harg6 arg7 harg7 arg8 harg8 arg9 harg9 arg10 harg10 arg17 harg17 arg18 harg18 arg19 harg19 arg20 arg21 arg22 x3 x4 x5 x6 x7 x8 x9 xs0 xs1 xs2) (BitVec.ofNat 32 (i 0).val) (View.readAt (Elt Ideal) arg14.view (Rect.unit ![0, 0] S48x56.size inb_S48x56_S48x56_0_0).toLoadRect (harg14.unread xo13))) ?_ (congrArg _ e)
  refine (View.canon_cons_unit_zero offs0 inb_S48x56_S48x56_0_0 _ _).trans ?_
  unfold lanesV
  refine congrArg (fun z => k0_pay1 (F := Ideal) _ (k0_pay844 (F := Ideal) z) _) ?_
  exact View.readCov_cons_toLoadRect _ _ _ _

theorem soutB_0 : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 xo10 xo11 xo13 xs0 xs1 xs2 = xs0 := rfl
theorem soutB_1 : sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 xo10 xo11 xo13 xs0 xs1 xs2 = xs1 := rfl
theorem soutB_2 : sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 xo10 xo11 xo13 xs0 xs1 xs2 = xs2 := rfl

end Cert.Q4k

end
-- ==== Proof.Fold.lean ====
/-
  The steps together: after step `n` the codes and scales of the rows stand, the scratch holds what the products read, the
  step's block of codes is that of the activations, and the lanes of scales up to this step's are written.
-/
module

public import proofs.«01_k».proof.Proof.Gen.KernelIdeal.Value
public import proofs.«01_k».proof.Proof.Blks
public import proofs.«01_k».proof.Proof.Rowv
public import proofs.«01_k».proof.Proof.StepA
public import proofs.«01_k».proof.Proof.StepB

@[expose] public section

noncomputable section

namespace Cert.Q4k

open Cert.KernelIdeal Cert.KernelIdeal.Gen Cert.KernelIdeal.Value Idealize.ShloMosaic Idealize.ShloMosaic.TcCoe

/-! ## One step's activations -/

section act
variable (P U : Fin 48 → Fin 14336 → EReal)

/-- The activations, and the scale of their block `b`. -/
def aG (t : Fin 48) (n : Fin 14336) : EReal := actV (P t n) (U t n)
def sG (t : Fin 48) (b : Fin 56) : EReal := qS fun x => aG P U t (at256 b x)

variable {P U} {g u : Vec Ideal S48x512 .f32} {s : Fin 28}

theorem avS_eq (hg : ∀ t n, g (ix2 t n) = P t (col s n)) (hu : ∀ t n, u (ix2 t n) = U t (col s n)) (t : Fin 48) (i : Fin 2)
    (b : Fin 56) (hb : b.val = 2 * s.val + i.val) : avS g u i t = sG P U t b := by
  refine congrArg qS (funext fun x => ?_)
  have e : at256 b x = col s (cn i x) := Fin.ext (by simp only [at256, col, cn]; omega)
  rw [e]
  exact congrArg₂ actV (hg _ _) (hu _ _)

theorem codes_eq (hg : ∀ t n, g (ix2 t n) = P t (col s n)) (hu : ∀ t n, u (ix2 t n) = U t (col s n)) (t : Fin 48) (j : Fin 512) :
    View.canon (actPieces g u) (ix2 t j) = codeB (aG P U t (col s j)) (sG P U t ⟨(col s j).val / 256, by have := (col s j).isLt; omega⟩) := by
  rw [canonC]
  exact congrArg₂ codeB (congrArg₂ actV (hg _ _) (hu _ _)) (avS_eq hg hu t _ _ (by simp only [col]; omega))

theorem lanes_eq (hg : ∀ t n, g (ix2 t n) = P t (col s n)) (hu : ∀ t n, u (ix2 t n) = U t (col s n))
    (prev : Vec Ideal S48x56 .f32) (t : Fin 48) (hp : ∀ l : Fin 56, l.val < 2 * s.val → prev (ix2 t l) = sG P U t l)
    (l : Fin 56) (hl : l.val < 2 * s.val + 2) :
    lanesV g u (BitVec.ofNat 32 s.val) prev (ix2 t l) = sG P U t l := by
  rw [lanesV_apply]
  by_cases h1 : l.val = 2 * s.val + 1
  · rw [if_pos h1]; exact avS_eq hg hu t 1 l h1
  · rw [if_neg h1]
    by_cases h2 : l.val = 2 * s.val
    · rw [if_pos h2]; exact avS_eq hg hu t 0 l h2
    · rw [if_neg h2]; exact hp l (by omega)

end act

/-! ## The run's operands -/

variable (m : (ℓ : Loc nD τ Cert.KernelIdeal.sig) → Buf (Elt Ideal) ℓ) (c : Dev nD)

def hM : Fin 48 → Fin 5120 → EReal := fun t k => m ((c : Thread nD τ).loc main_arg0) (ix2 t k)
def gM : Fin 5120 → EReal := fun k => m ((c : Thread nD τ).loc main_arg1) (ix1 k)
/-- The gate's product and the other. -/
def pM (t : Fin 48) (n : Fin 14336) : EReal :=
  prodV (xS (hM m c) (gM m c) t) (xQ (hM m c) (gM m c) t) (fun b l => m ((c : Thread nD τ).loc main_arg2) (ix3 n b l))
    (fun b i => m ((c : Thread nD τ).loc main_arg3) (ix3 n b i)) (fun b => m ((c : Thread nD τ).loc main_arg4) (ix2 n b))
    (fun b => m ((c : Thread nD τ).loc main_arg5) (ix2 n b))
def uM (t : Fin 48) (n : Fin 14336) : EReal :=
  prodV (xS (hM m c) (gM m c) t) (xQ (hM m c) (gM m c) t) (fun b l => m ((c : Thread nD τ).loc main_arg6) (ix3 n b l))
    (fun b i => m ((c : Thread nD τ).loc main_arg7) (ix3 n b i)) (fun b => m ((c : Thread nD τ).loc main_arg8) (ix2 n b))
    (fun b => m ((c : Thread nD τ).loc main_arg9) (ix2 n b))

theorem hB_eq (t : Fin cfg0.N) : hB (iblk m c 0 t) = hM m c := funext fun a => funext fun b => blk0 m c t a b
theorem gB_eq' (t : Fin cfg0.N) : gB (iblk m c 1 t) = gM m c := funext fun b => blk1 m c t b

theorem prodM_eq (t : Fin cfg0.N) (r : Fin 48) (n : Fin 512) :
    prodOf (iblk m c 2 t) (iblk m c 3 t) (iblk m c 4 t) (iblk m c 5 t) (xS (hM m c) (gM m c) r) (xQ (hM m c) (gM m c) r) n
      = pM m c r (col (stepOf t) n) := by
  unfold prodOf pM
  congr 1
  · exact funext fun b => funext fun l => blk2 m c t b n l
  · exact funext fun b => funext fun i => blk3 m c t i b n
  · exact funext fun b => blk4 m c t b n
  · exact funext fun b => blk5 m c t b n

theorem prodU_eq (t : Fin cfg0.N) (r : Fin 48) (n : Fin 512) :
    prodOf (iblk m c 6 t) (iblk m c 7 t) (iblk m c 8 t) (iblk m c 9 t) (xS (hM m c) (gM m c) r) (xQ (hM m c) (gM m c) r) n
      = uM m c r (col (stepOf t) n) := by
  unfold prodOf uM
  congr 1
  · exact funext fun b => funext fun l => blk6 m c t b n l
  · exact funext fun b => funext fun i => blk7 m c t i b n
  · exact funext fun b => blk8 m c t b n
  · exact funext fun b => blk9 m c t b n

/-! ## What holds after a step -/

structure Inv (s : Fin 28) (o10 : Vec Ideal S48x5120 .i8) (o11 : Vec Ideal S48x20 .f32) (o12 : Vec Ideal S48x512 .i8)
    (o13 : Vec Ideal S48x56 .f32) (A : Vec Ideal S20x48x512 .bf16) (S : Vec Ideal S20x48x128 .f32) (X : Vec Ideal S144x256 .bf16) : Prop where
  rows : ∀ t k, o10 (ix2 t k) = codeB (rowN (hM m c) (gM m c) t k) (xS (hM m c) (gM m c) t ⟨k.val / 256, by have := k.isLt; omega⟩)
  scales : ∀ t b, o11 (ix2 t b) = xS (hM m c) (gM m c) t b
  codes : ∀ t j, o12 (ix2 t j) = codeB (aG (pM m c) (uM m c) t (col s j)) (sG (pM m c) (uM m c) t ⟨(col s j).val / 256, by have := (col s j).isLt; omega⟩)
  lanes : ∀ t (l : Fin 56), l.val < 2 * s.val + 2 → o13 (ix2 t l) = sG (pM m c) (uM m c) t l
  ok : ∀ t, RowOk A S X t (xS (hM m c) (gM m c) t) (xQ (hM m c) (gM m c) t)

theorem lanes_coords (t : Fin cfg0.N) : BitVec.ofNat 32 (grid0.coords t 0).val = BitVec.ofNat 32 (stepOf t).val :=
  congrArg _ (coords0 t)

theorem inv_A (t : Fin cfg0.N) (h0 : t.val % 28 = 0) (acc) :
    Inv m c (stepOf t) (stAt0 m c t.val t.isLt acc).1 (stAt0 m c t.val t.isLt acc).2.1 (stAt0 m c t.val t.isLt acc).2.2.1 (stAt0 m c t.val t.isLt acc).2.2.2.1
      (stAt0 m c t.val t.isLt acc).2.2.2.2.2.2.1 (stAt0 m c t.val t.isLt acc).2.2.2.2.2.2.2.1 (stAt0 m c t.val t.isLt acc).2.2.2.2.2.2.2.2 := by
  rw [stAt0_A m c t acc h0]
  dsimp only
  have hs : (stepOf t).val = 0 := by have := (stepOf t).isLt; have : (stepOf t).val = t.val := rfl; omega
  constructor
  · intro r k
    rw [outA_10, canonQ, qVal_row, hB_eq, gB_eq']
  · intro r b
    rw [outA_11, scales_apply, bS_row, hB_eq, gB_eq']
  · intro r j
    rw [outA_12]
    refine codes_eq (fun r n => ?_) (fun r n => ?_) r j
    · rw [gAv, bS_row, bQ_row, hB_eq, gB_eq', prodM_eq]
    · rw [uAv, bS_row, bQ_row, hB_eq, gB_eq', prodU_eq]
  · intro r l hl
    rw [outA_13, lanes_coords]
    refine lanes_eq (fun r n => ?_) (fun r n => ?_) _ r (fun l hl => by omega) l hl
    · rw [gAv, bS_row, bQ_row, hB_eq, gB_eq', prodM_eq]
    · rw [uAv, bS_row, bQ_row, hB_eq, gB_eq', prodU_eq]
  · intro r
    have R := soutA_ok c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) r
    rw [bS_row, bQ_row, hB_eq, gB_eq'] at R
    exact R

theorem inv_B (t : Fin cfg0.N) (h0 : ¬t.val % 28 = 0) (acc) (s' : Fin 28) (hs' : s'.val + 1 = t.val)
    (I : Inv m c s' acc.1 acc.2.1 acc.2.2.1 acc.2.2.2.1 acc.2.2.2.2.2.2.1 acc.2.2.2.2.2.2.2.1 acc.2.2.2.2.2.2.2.2) :
    Inv m c (stepOf t) (stAt0 m c t.val t.isLt acc).1 (stAt0 m c t.val t.isLt acc).2.1 (stAt0 m c t.val t.isLt acc).2.2.1 (stAt0 m c t.val t.isLt acc).2.2.2.1
      (stAt0 m c t.val t.isLt acc).2.2.2.2.2.2.1 (stAt0 m c t.val t.isLt acc).2.2.2.2.2.2.2.1 (stAt0 m c t.val t.isLt acc).2.2.2.2.2.2.2.2 := by
  rw [stAt0_B m c t acc h0]
  dsimp only
  have hs : (stepOf t).val = t.val := rfl
  constructor
  · rw [outB_10]; exact I.rows
  · rw [outB_11]; exact I.scales
  · intro r j
    rw [outB_12]
    refine codes_eq (fun r n => ?_) (fun r n => ?_) r j
    · rw [← prodM_eq m c t r n]; apply gBv; exact I.ok r
    · rw [← prodU_eq m c t r n]; apply uBv; exact I.ok r
  · intro r l hl
    rw [outB_13, lanes_coords]
    refine lanes_eq (fun r n => ?_) (fun r n => ?_) _ r (fun l hl => I.lanes r l (by omega)) l hl
    · rw [← prodM_eq m c t r n]; apply gBv; exact I.ok r
    · rw [← prodU_eq m c t r n]; apply uBv; exact I.ok r
  · intro r
    rw [soutB_0, soutB_1, soutB_2]
    exact I.ok r

theorem inv_all (n : ℕ) (hn : n < cfg0.N) :
    Inv m c (stepOf ⟨n, hn⟩) (outsAt0 m c n hn).1 (outsAt0 m c n hn).2.1 (outsAt0 m c n hn).2.2.1 (outsAt0 m c n hn).2.2.2.1
      (outsAt0 m c n hn).2.2.2.2.2.2.1 (outsAt0 m c n hn).2.2.2.2.2.2.2.1 (outsAt0 m c n hn).2.2.2.2.2.2.2.2 := by
  induction n with
  | zero =>
    rw [outsAt0_zero]
    exact inv_A m c ⟨0, hn⟩ (Nat.zero_mod _) _
  | succ n ih =>
    rw [outsAt0_succ]
    have hN := lt_of_lt_of_eq hn N_0
    exact inv_B m c ⟨n + 1, hn⟩ (by show ¬(n + 1) % 28 = 0; omega) _ (stepOf ⟨n, Nat.lt_of_succ_lt hn⟩) rfl (ih _)

/-! ## The run's results -/

theorem last_lt : 27 < cfg0.N := lt_of_lt_of_eq (by omega) N_0.symm

theorem G10_val (t : Fin 48) (k : Fin 5120) : G10 m c (ix2 t k)
    = codeB (rowN (hM m c) (gM m c) t k) (xS (hM m c) (gM m c) t ⟨k.val / 256, by have := k.isLt; omega⟩) := by
  rw [G10_last, ← outsAt0_sweep m c 27 last_lt]
  exact (inv_all m c 27 last_lt).rows t k

theorem G11_val (t : Fin 48) (b : Fin 20) : G11 m c (ix2 t b) = xS (hM m c) (gM m c) t b := by
  rw [G11_last, ← outsAt0_sweep m c 27 last_lt]
  exact (inv_all m c 27 last_lt).scales t b

theorem G13_val (t : Fin 48) (b : Fin 56) : G13 m c (ix2 t b) = sG (pM m c) (uM m c) t b := by
  rw [G13_last, ← outsAt0_sweep m c 27 last_lt]
  exact (inv_all m c 27 last_lt).lanes t b (by have := b.isLt; show b.val < 2 * 27 + 2; omega)

theorem G12_val (t : Fin 48) (n : Fin 14336) : G12 m c (ix2 t n)
    = codeB (aG (pM m c) (uM m c) t n) (sG (pM m c) (uM m c) t ⟨n.val / 256, by have := n.isLt; omega⟩) := by
  have hp : pt12Of (ix2 t n) = n.val / 512 := by
    show 28 * (t.val / 48 - 0) + 1 * (n.val / 512 - 0) = n.val / 512
    omega
  have hN : pt12Of (ix2 t n) < cfg0.N := by rw [hp]; exact lt_of_lt_of_eq (by omega) N_0.symm
  unfold G12
  rw [dif_pos hN, ← outsAt0_sweep m c (pt12Of (ix2 t n)) hN]
  have hl : loc12Of (ix2 t n) = ix2 t (⟨n.val % 512, by omega⟩ : Fin 512) := by
    funext a
    fin_cases a
    · exact Fin.ext (by show t.val % 48 = t.val; omega)
    · rfl
  have hc : col (stepOf ⟨pt12Of (ix2 t n), hN⟩) (⟨n.val % 512, by omega⟩ : Fin 512) = n :=
    Fin.ext (by show pt12Of (ix2 t n) * 512 + n.val % 512 = n.val; rw [hp]; omega)
  rw [hl]
  refine ((inv_all m c _ hN).codes t _).trans ?_
  simp only [hc]

end Cert.Q4k

end
-- ==== Proof.RefVal.lean ====
/-
  The reference's results, as what `Spec` says.
-/
module

public import proofs.«01_k».proof.Proof.Spec
public import Idealize.ShloMosaic.Lib.Pointwise
public import Idealize.ShloMosaic.Lib.WordCmp
public import Idealize.ShloMosaic.Lib.TwoAxisContraction
public import proofs.«01_k».proof.Proof.Gen.ReferenceIdeal.Read

@[expose] public section

noncomputable section

namespace Cert.Q4k.Ref

open Cert.ReferenceIdeal Cert.ReferenceIdeal.Gen Cert.ReferenceIdeal.Read Idealize.ShloMosaic Idealize.ShloMosaic.TcCoe

variable (x0 : Vec Ideal S48x5120 .f32) (x1 : Vec Ideal S5120 .f32) (x2 : Vec Ideal S14336x20x128 .i8)
  (x3 : Vec Ideal S14336x20x12 .i8) (x4 x5 : Vec Ideal S14336x20 .i16) (x6 : Vec Ideal S14336x20x128 .i8)
  (x7 : Vec Ideal S14336x20x12 .i8) (x8 x9 : Vec Ideal S14336x20 .i16)

/-- The rows and the gain by coordinates. -/
def hF : Fin 48 → Fin 5120 → EReal := fun t k => x0 (ix2 t k)
def gF : Fin 5120 → EReal := fun k => x1 (ix1 k)

theorem v12_apply (t : Fin 48) (k : Fin 5120) : val_main_v12 (F := Ideal) x0 x1 (ix2 t k) = rowN (hF x0) (gF x1) t k := by
  pointwise [val_main_v0, val_main_cst, val_main_v1, val_main_v2, val_main_cst_0, val_main_v3, val_main_v4, val_main_cst_1, val_main_v5, val_main_v6, val_main_v7, val_main_v8, val_main_v9, val_main_v10, val_main_v11, val_main_v12]
  rfl

theorem v20_apply (t : Fin 48) (b : Fin 20) : val_main_v20 (F := Ideal) x0 x1 (ix2 t b) = xS (hF x0) (gF x1) t b := by
  pointwise [val_main_v13, val_main_v14, val_main_cst_2, val_main_v15, val_main_cst_3, val_main_v16, val_main_v17, val_main_cst_4, val_main_v18, val_main_v19, val_main_cst_5, val_main_call0_v0, val_main_call0_v1, val_main_v20]
  rw [c127_bits]
  simp only [v12_apply]
  have e1 : id (constant (F := Ideal) S_ FTy.f32 1065353216#32) ix0 = (1 : EReal) := Ideal.ofBits_one_f32
  rw [e1]
  rfl

theorem v28_apply (t : Fin 48) (k : Fin 5120) : val_main_v28 (F := Ideal) x0 x1 (ix2 t k)
    = codeB (rowN (hF x0) (gF x1) t k) (xS (hF x0) (gF x1) t ⟨k.val / 256, by omega⟩) := by
  pointwise [val_main_v21, val_main_v22, val_main_v23, val_main_v24, val_main_c, val_main_c_6, val_main_call2_v0, val_main_call2_v1, val_main_call2_v2, val_main_call2_v3, val_main_call2_v4, val_main_v25, val_main_v26, val_main_v27, val_main_v28, val_main_v13]
  rw [v12_apply, v20_apply]
  have e1 : FloatOps.sitofp (F := Ideal) FTy.f32 127#32 = (127 : EReal) := by
    show ((((127#32 : BitVec 32).toInt : ℝ)) : EReal) = 127
    have : (127#32 : BitVec 32).toInt = 127 := by decide
    rw [this]; rfl
  have e2 : FloatOps.sitofp (F := Ideal) FTy.f32 4294967169#32 = (-127 : EReal) := by
    show ((((4294967169#32 : BitVec 32).toInt : ℝ)) : EReal) = -127
    have : (4294967169#32 : BitVec 32).toInt = -127 := by decide
    rw [this, Int.cast_neg, EReal.coe_neg]; rfl
  rw [e1, e2]
  rfl

theorem v28_int (t : Fin 48) (b : Fin 20) (x : Fin 256) (k : Fin 5120) (hk : k.val = b.val * 256 + x.val) :
    FloatOps.sitofp (F := Ideal) FTy.f32 (BitVec.signExtend 32 (val_main_v28 (F := Ideal) x0 x1 (ix2 t k)))
      = ((xQ (hF x0) (gF x1) t b x : ℝ) : EReal) := by
  rw [v28_apply]
  have ek : k = at256 b x := Fin.ext hk
  have eb : (⟨k.val / 256, by omega⟩ : Fin 20) = b := Fin.ext (by show k.val / 256 = b.val; omega)
  rw [eb, ek]
  show (((BitVec.signExtend 32 (codeB _ _)).toInt : ℝ) : EReal) = _
  rw [codeB_toInt]
  rfl

theorem v32_apply (t : Fin 48) (b : Fin 20) (j : Fin 8) : val_main_v32 (F := Ideal) x0 x1 (ix3 t b j)
    = (((∑ l : Fin 32, xQ (hF x0) (gF x1) t b ⟨32 * j.val + l.val, by omega⟩ : ℤ) : ℝ) : EReal) := by
  pointwise [val_main_v29, val_main_v30, val_main_v31, val_main_cst_7, val_main_v32]
  rw [Int.cast_sum, ← coe_sum]
  refine Finset.sum_congr rfl fun l _ => ?_
  exact v28_int x0 x1 t b ⟨32 * j.val + l.val, by omega⟩ _ (by simp; omega)

theorem v47_apply (n : Fin 14336) (b : Fin 20) (j : Fin 8) :
    val_main_v47 (F := Ideal) x3 (ix3 n b j) = BitVec.ofNat 32 (scN (fun i => x3 (ix3 n b i)) j) := by
  pointwise [val_main_v34, val_main_v35, val_main_v36, val_main_v37, val_main_c_8, val_main_v38, val_main_v39, val_main_c_9, val_main_v40, val_main_v41, val_main_c_10, val_main_v42, val_main_v43, val_main_c_11, val_main_v44, val_main_v45, val_main_v46, val_main_v47]
  unfold scN
  by_cases h : j.val < 4
  · rw [dif_pos h, dif_pos h]
    exact and63 _
  · rw [dif_neg h, dif_neg h]
    refine (or_low _ _).trans ?_
    have e : (⟨8 + (j.val - 4), by omega⟩ : Fin 12) = ⟨j.val + 4, by omega⟩ := Fin.ext (by simp; omega)
    rw [e]

theorem v57_apply (n : Fin 14336) (b : Fin 20) (j : Fin 8) :
    val_main_v57 (F := Ideal) x3 (ix3 n b j) = BitVec.ofNat 32 (mnN (fun i => x3 (ix3 n b i)) j) := by
  pointwise [val_main_v34, val_main_v35, val_main_v36, val_main_v37, val_main_c_8, val_main_v38, val_main_v39, val_main_c_9, val_main_v40, val_main_v41, val_main_c_10, val_main_v42, val_main_v43, val_main_c_11, val_main_v44, val_main_v45, val_main_v46, val_main_v47, val_main_c_12, val_main_v48, val_main_v49, val_main_c_13, val_main_v50, val_main_v51, val_main_c_14, val_main_v52, val_main_v53, val_main_c_15, val_main_v54, val_main_v55, val_main_v56, val_main_v57]
  unfold mnN
  by_cases h : j.val < 4
  · rw [dif_pos h, dif_pos h]
    exact and63 _
  · rw [dif_neg h, dif_neg h]
    refine (or_high _ _).trans ?_
    have e : (⟨8 + (j.val - 4), by omega⟩ : Fin 12) = ⟨j.val + 4, by omega⟩ := Fin.ext (by simp; omega)
    have e' : (⟨4 + (j.val - 4), by omega⟩ : Fin 12) = ⟨j.val, by omega⟩ := Fin.ext (by simp; omega)
    rw [e, e']

/-! ## The weights as fields -/

/-- The field of weight `l` of group `c`, half `h`: its nibble times its scale. -/
def fld (n : Fin 14336) (b : Fin 20) (c : Fin 4) (l : Fin 32) (h : Fin 2) : ℕ :=
  scN (fun i => x3 (ix3 n b i)) ⟨2 * c.val + h.val, by omega⟩ * nib (x2 (ix3 n b ⟨32 * c.val + l.val, by omega⟩)) h

theorem fld_lt (n : Fin 14336) (b : Fin 20) (c : Fin 4) (l : Fin 32) (h : Fin 2) : fld x2 x3 n b c l h < 946 := by
  have h1 := scN_lt (fun i => x3 (ix3 n b i)) ⟨2 * c.val + h.val, by omega⟩
  have h2 := nib_lt (x2 (ix3 n b ⟨32 * c.val + l.val, by omega⟩)) h
  unfold fld
  have : _ * _ ≤ 63 * 15 := Nat.mul_le_mul (Nat.le_of_lt_succ h1) (Nat.le_of_lt_succ h2)
  omega

theorem mul_ofNat (a b : ℕ) : BitVec.ofNat 32 a * BitVec.ofNat 32 b = BitVec.ofNat 32 (a * b) := by
  apply BitVec.eq_of_toNat_eq
  simp [BitVec.toNat_mul, Nat.mul_mod]

theorem v65_apply (n : Fin 14336) (b : Fin 20) (c : Fin 4) (l : Fin 32) :
    val_main_v65 (F := Ideal) x2 x3 (ix4 n b c l) = BitVec.ofNat 32 (fld x2 x3 n b c l 0) := by
  pointwise [val_main_v58, val_main_v59, val_main_v60, val_main_v61, val_main_c_16, val_main_v62, val_main_v63, val_main_v64, val_main_v65, val_main_v33]
  rw [v47_apply]
  unfold fld
  rw [← mul_ofNat]
  have e1 : (⟨c.val * 2, by omega⟩ : Fin 8) = ⟨2 * c.val + (0 : Fin 2).val, by simp; omega⟩ := Fin.ext (by simp; omega)
  have e2 : (⟨c.val * 32 + l.val, by omega⟩ : Fin 128) = ⟨32 * c.val + l.val, by omega⟩ := Fin.ext (by simp; omega)
  rw [e1, e2]
  congr 1
  exact and15 _

theorem v71_apply (n : Fin 14336) (b : Fin 20) (c : Fin 4) (l : Fin 32) :
    val_main_v71 (F := Ideal) x2 x3 (ix4 n b c l) = BitVec.ofNat 32 (fld x2 x3 n b c l 1) := by
  pointwise [val_main_v58, val_main_v59, val_main_v60, val_main_v61, val_main_c_16, val_main_v62, val_main_v63, val_main_v64, val_main_v65, val_main_v66, val_main_v67, val_main_c_17, val_main_v68, val_main_v69, val_main_v70, val_main_v71, val_main_v33]
  rw [v47_apply]
  unfold fld
  rw [← mul_ofNat]
  have e1 : (⟨c.val * 2 + 1, by omega⟩ : Fin 8) = ⟨2 * c.val + (1 : Fin 2).val, by simp; omega⟩ := Fin.ext (by simp; omega)
  have e2 : (⟨c.val * 32 + l.val, by omega⟩ : Fin 128) = ⟨32 * c.val + l.val, by omega⟩ := Fin.ext (by simp; omega)
  rw [e1, e2]
  congr 1
  exact shr4 _

theorem v77_apply (t : Fin 48) (b : Fin 20) (c : Fin 4) (l : Fin 32) :
    val_main_v77 (F := Ideal) x0 x1 (ix4 t b c l)
      = ((xQ (hF x0) (gF x1) t b ⟨64 * c.val + 32 * (0 : Fin 2).val + l.val, by simp; omega⟩ : ℝ) : EReal) := by
  pointwise [val_main_v72, val_main_v73, val_main_v74, val_main_v75, val_main_v76, val_main_v77]
  exact v28_int x0 x1 t b ⟨64 * c.val + 32 * (0 : Fin 2).val + l.val, by simp; omega⟩ _ (by simp; omega)

theorem v97_apply (t : Fin 48) (b : Fin 20) (c : Fin 4) (l : Fin 32) :
    val_main_v97 (F := Ideal) x0 x1 (ix4 t b c l)
      = ((xQ (hF x0) (gF x1) t b ⟨64 * c.val + 32 * (1 : Fin 2).val + l.val, by simp; omega⟩ : ℝ) : EReal) := by
  pointwise [val_main_v72, val_main_v93, val_main_v94, val_main_v95, val_main_v96, val_main_v97]
  exact v28_int x0 x1 t b ⟨64 * c.val + 32 * (1 : Fin 2).val + l.val, by simp; omega⟩ _ (by simp; omega)

theorem hi_lo : ∀ v : Fin 946, ((BitVec.ofNat 32 v.val).sshiftRight 7).toInt = ((v.val / 128 : ℕ) : ℤ)
    ∧ ((BitVec.ofNat 32 v.val) &&& 127#32).toInt = ((v.val % 128 : ℕ) : ℤ) := by decide +kernel

theorem hi_apply (v : ℕ) (h : v < 946) : FloatOps.sitofp (F := Ideal) FTy.f32 (IntOp.shrsi ArithUnit.host (BitVec.ofNat 32 v) 7#32)
    = (((v / 128 : ℕ) : ℤ) : ℝ) := by
  have := (hi_lo ⟨v, h⟩).1
  show ((((BitVec.ofNat 32 v).sshiftRight 7).toInt : ℝ) : EReal) = _
  rw [this]

theorem lo_apply (v : ℕ) (h : v < 946) : FloatOps.sitofp (F := Ideal) FTy.f32 (IntOp.andi (BitVec.ofNat 32 v) 127#32)
    = (((v % 128 : ℕ) : ℤ) : ℝ) := by
  have := (hi_lo ⟨v, h⟩).2
  show ((((BitVec.ofNat 32 v) &&& 127#32).toInt : ℝ) : EReal) = _
  rw [this]

theorem v81_apply (n : Fin 14336) (b : Fin 20) (c : Fin 4) (l : Fin 32) :
    val_main_v81 (F := Ideal) x2 x3 (ix4 n b c l) = (((fld x2 x3 n b c l 0 / 128 : ℕ) : ℤ) : ℝ) := by
  pointwise [val_main_v78, val_main_v79, val_main_v80, val_main_v81]
  rw [v65_apply]; exact hi_apply _ (fld_lt ..)
theorem v86_apply (n : Fin 14336) (b : Fin 20) (c : Fin 4) (l : Fin 32) :
    val_main_v86 (F := Ideal) x2 x3 (ix4 n b c l) = (((fld x2 x3 n b c l 0 % 128 : ℕ) : ℤ) : ℝ) := by
  pointwise [val_main_v83, val_main_v84, val_main_v85, val_main_v86]
  rw [v65_apply]; exact lo_apply _ (fld_lt ..)
theorem v101_apply (n : Fin 14336) (b : Fin 20) (c : Fin 4) (l : Fin 32) :
    val_main_v101 (F := Ideal) x2 x3 (ix4 n b c l) = (((fld x2 x3 n b c l 1 / 128 : ℕ) : ℤ) : ℝ) := by
  pointwise [val_main_v98, val_main_v99, val_main_v100, val_main_v101]
  rw [v71_apply]; exact hi_apply _ (fld_lt ..)
theorem v106_apply (n : Fin 14336) (b : Fin 20) (c : Fin 4) (l : Fin 32) :
    val_main_v106 (F := Ideal) x2 x3 (ix4 n b c l) = (((fld x2 x3 n b c l 1 % 128 : ℕ) : ℤ) : ℝ) := by
  pointwise [val_main_v103, val_main_v104, val_main_v105, val_main_v106]
  rw [v71_apply]; exact lo_apply _ (fld_lt ..)

/-! ## The four integer products -/

/-- A sum of codes times small numbers, over one half of a block. -/
def zsum (q : Fin 4 → Fin 32 → ℤ) (v : Fin 4 → Fin 32 → ℕ) : ℤ := ∑ c, ∑ l, q c l * (v c l : ℤ)

theorem zsum_coe (q : Fin 4 → Fin 32 → ℤ) (v : Fin 4 → Fin 32 → ℕ) :
    (∑ c, ∑ l, (((q c l : ℤ) : ℝ) : EReal) * ((((v c l : ℕ) : ℤ) : ℝ) : EReal)) = ((zsum q v : ℝ) : EReal) := by
  unfold zsum
  rw [Int.cast_sum, ← coe_sum]
  refine Finset.sum_congr rfl fun c _ => ?_
  rw [Int.cast_sum, ← coe_sum]
  refine Finset.sum_congr rfl fun l _ => ?_
  rw [Int.cast_mul, EReal.coe_mul]

theorem zsum_le (q : Fin 4 → Fin 32 → ℤ) (v : Fin 4 → Fin 32 → ℕ) (m : ℕ) (hq : ∀ c l, |q c l| ≤ 127) (hv : ∀ c l, v c l ≤ m) :
    |zsum q v| ≤ 128 * (127 * m) := by
  unfold zsum
  refine (Finset.abs_sum_le_sum_abs _ _).trans ?_
  have h : ∀ c ∈ (Finset.univ : Finset (Fin 4)), |∑ l, q c l * (v c l : ℤ)| ≤ 32 * (127 * m) := by
    intro c _
    refine (Finset.abs_sum_le_sum_abs _ _).trans ?_
    have h' : ∀ l ∈ (Finset.univ : Finset (Fin 32)), |q c l * (v c l : ℤ)| ≤ 127 * m := by
      intro l _
      rw [abs_mul]
      refine mul_le_mul (hq c l) ?_ (abs_nonneg _) (by norm_num)
      rw [Nat.abs_cast]; exact_mod_cast hv c l
    refine (Finset.sum_le_sum h').trans ?_
    simp
  refine (Finset.sum_le_sum h).trans ?_
  simp; omega

theorem xQ_abs (h : Fin 48 → Fin 5120 → EReal) (g : Fin 5120 → EReal) (t : Fin 48) (b : Fin 20) (x : Fin 256) :
    |xQ h g t b x| ≤ 127 := abs_le.2 ⟨codeZ_ge _ _, codeZ_le _ _⟩

/-- The codes of half `h`. -/
def qH (t : Fin 48) (b : Fin 20) (h : Fin 2) (c : Fin 4) (l : Fin 32) : ℤ :=
  xQ (hF x0) (gF x1) t b ⟨64 * c.val + 32 * h.val + l.val, by omega⟩

theorem v82_apply (t : Fin 48) (b : Fin 20) (n : Fin 14336) : val_main_v82 (F := Ideal) x0 x1 x2 x3 (ix3 b t n)
    = ((zsum (qH x0 x1 t b 0) (fun c l => fld x2 x3 n b c l 0 / 128) : ℝ) : EReal) := by
  pointwise [val_main_v82]
  rw [← zsum_coe]
  refine Finset.sum_congr rfl fun c _ => Finset.sum_congr rfl fun l _ => ?_
  rw [v77_apply, v81_apply]; rfl
theorem v87_apply (t : Fin 48) (b : Fin 20) (n : Fin 14336) : val_main_v87 (F := Ideal) x0 x1 x2 x3 (ix3 b t n)
    = ((zsum (qH x0 x1 t b 0) (fun c l => fld x2 x3 n b c l 0 % 128) : ℝ) : EReal) := by
  pointwise [val_main_v87]
  rw [← zsum_coe]
  refine Finset.sum_congr rfl fun c _ => Finset.sum_congr rfl fun l _ => ?_
  rw [v77_apply, v86_apply]; rfl
theorem v102_apply (t : Fin 48) (b : Fin 20) (n : Fin 14336) : val_main_v102 (F := Ideal) x0 x1 x2 x3 (ix3 b t n)
    = ((zsum (qH x0 x1 t b 1) (fun c l => fld x2 x3 n b c l 1 / 128) : ℝ) : EReal) := by
  pointwise [val_main_v102]
  rw [← zsum_coe]
  refine Finset.sum_congr rfl fun c _ => Finset.sum_congr rfl fun l _ => ?_
  rw [v97_apply, v101_apply]; rfl
theorem v107_apply (t : Fin 48) (b : Fin 20) (n : Fin 14336) : val_main_v107 (F := Ideal) x0 x1 x2 x3 (ix3 b t n)
    = ((zsum (qH x0 x1 t b 1) (fun c l => fld x2 x3 n b c l 1 % 128) : ℝ) : EReal) := by
  pointwise [val_main_v107]
  rw [← zsum_coe]
  refine Finset.sum_congr rfl fun c _ => Finset.sum_congr rfl fun l _ => ?_
  rw [v97_apply, v106_apply]; rfl

theorem zsum_split (q : Fin 4 → Fin 32 → ℤ) (v : Fin 4 → Fin 32 → ℕ) :
    128 * zsum q (fun c l => v c l / 128) + zsum q (fun c l => v c l % 128) = zsum q v := by
  unfold zsum
  rw [Finset.mul_sum, ← Finset.sum_add_distrib]
  refine Finset.sum_congr rfl fun c _ => ?_
  rw [Finset.mul_sum, ← Finset.sum_add_distrib]
  refine Finset.sum_congr rfl fun l _ => ?_
  have : ((v c l : ℕ) : ℤ) = 128 * ((v c l / 128 : ℕ) : ℤ) + ((v c l % 128 : ℕ) : ℤ) := by exact_mod_cast (Nat.div_add_mod _ _).symm
  rw [this]; ring

theorem sI_eq (t : Fin 48) (b : Fin 20) (n : Fin 14336) :
    zsum (qH x0 x1 t b 0) (fun c l => fld x2 x3 n b c l 0) + zsum (qH x0 x1 t b 1) (fun c l => fld x2 x3 n b c l 1)
      = sI (xQ (hF x0) (gF x1) t b) (fun l => x2 (ix3 n b l)) (fun i => x3 (ix3 n b i)) := by
  unfold sI
  rw [Fin.sum_univ_two]
  rfl

theorem v113_apply (t : Fin 48) (b : Fin 20) (n : Fin 14336) :
    (val_main_v113 (F := Ideal) x0 x1 x2 x3 (ix3 b t n)).toInt
      = sI (xQ (hF x0) (gF x1) t b) (fun l => x2 (ix3 n b l)) (fun i => x3 (ix3 n b i)) := by
  have hq : ∀ h c l, |qH x0 x1 t b h c l| ≤ 127 := fun h c l => xQ_abs _ _ _ _ _
  have hhi : ∀ h c l, fld x2 x3 n b c l h / 128 ≤ 7 := fun h c l => by have := fld_lt x2 x3 n b c l h; omega
  have hlo : ∀ h c l, fld x2 x3 n b c l h % 128 ≤ 127 := fun h c l => by omega
  have hv : ∀ h c l, fld x2 x3 n b c l h ≤ 945 := fun h c l => by have := fld_lt x2 x3 n b c l h; omega
  have a0 := abs_le.1 (zsum_le _ _ 7 (hq 0) (hhi 0))
  have b0 := abs_le.1 (zsum_le _ _ 127 (hq 0) (hlo 0))
  have a1 := abs_le.1 (zsum_le _ _ 7 (hq 1) (hhi 1))
  have b1 := abs_le.1 (zsum_le _ _ 127 (hq 1) (hlo 1))
  have c0 := abs_le.1 (zsum_le _ _ 945 (hq 0) (hv 0))
  have c1 := abs_le.1 (zsum_le _ _ 945 (hq 1) (hv 1))
  rw [← sI_eq]
  have s0 := zsum_split (qH x0 x1 t b 0) (fun c l => fld x2 x3 n b c l 0)
  have s1 := zsum_split (qH x0 x1 t b 1) (fun c l => fld x2 x3 n b c l 1)
  have e : val_main_v113 (F := Ideal) x0 x1 x2 x3 (ix3 b t n)
      = BitVec.ofInt 32 (zsum (qH x0 x1 t b 0) (fun c l => fld x2 x3 n b c l 0) + zsum (qH x0 x1 t b 1) (fun c l => fld x2 x3 n b c l 1)) := by
    pointwise [val_main_v88, val_main_c_20, val_main_v89, val_main_v90, val_main_v91, val_main_v92, val_main_v108, val_main_c_23, val_main_v109, val_main_v110, val_main_v111, val_main_v112, val_main_v113]
    rw [v82_apply, v87_apply, v102_apply, v107_apply]
    rw [← s0, ← s1]
    have f : ∀ z : ℤ, -2147483648 ≤ z → z ≤ 2147483647 → FloatOps.fptosi (F := Ideal) (φ := .f32) 32 ((z : ℝ) : EReal) = BitVec.ofInt 32 z :=
      fun z h1 h2 => fptosi_coe z h1 h2
    rw [f _ (by omega) (by omega), f _ (by omega) (by omega), f _ (by omega) (by omega), f _ (by omega) (by omega)]
    have e128 : (128#32 : BitVec 32) = BitVec.ofInt 32 128 := by decide
    rw [e128]
    rw [BitVec.ofInt_add, BitVec.ofInt_add, BitVec.ofInt_add, BitVec.ofInt_mul, BitVec.ofInt_mul]
    rfl
  rw [e, BitVec.toInt_ofInt]
  have m : ∀ z : ℤ, -2147483648 ≤ z → z ≤ 2147483647 → z.bmod (2 ^ 32) = z := fun z h1 h2 => by
    rw [Int.bmod_def]; norm_num; split_ifs <;> omega
  exact m _ (by omega) (by omega)

theorem v115_apply (t : Fin 48) (b : Fin 20) (n : Fin 14336) : val_main_v115 (F := Ideal) x0 x1 x3 (ix3 b t n)
    = ((mI (xQ (hF x0) (gF x1) t b) (fun i => x3 (ix3 n b i)) : ℝ) : EReal) := by
  pointwise [val_main_v115, val_main_v114]
  unfold mI
  rw [Int.cast_sum, ← coe_sum]
  refine Finset.sum_congr rfl fun j _ => ?_
  rw [v32_apply, v57_apply]
  have hm := mnN_lt (fun i => x3 (ix3 n b i)) j
  have e : FloatOps.sitofp (F := Ideal) FTy.f32 (BitVec.ofNat 32 (mnN (fun i => x3 (ix3 n b i)) j))
      = (((mnN (fun i => x3 (ix3 n b i)) j : ℕ) : ℤ) : ℝ) := by
    show ((((BitVec.ofNat 32 _).toInt : ℝ)) : EReal) = _
    rw [BitVec.toInt_eq_toNat_of_lt (by rw [BitVec.toNat_ofNat]; omega), BitVec.toNat_ofNat, Nat.mod_eq_of_lt (by omega)]
  rw [e, Int.cast_mul, EReal.coe_mul]

/-! ## The half floats -/

theorem v137_apply (b : Fin 20) (n : Fin 14336) : val_main_v137 (F := Ideal) x4 (ix2 n b) = ((f16V (x4 (ix2 n b)) : ℝ) : EReal) := by
  pointwise [val_main_v116, val_main_c_24, val_main_v117, val_main_v118, val_main_c_25, val_main_v119, val_main_v120, val_main_c_26, val_main_v121, val_main_v122, val_main_c_27, val_main_v123, val_main_v124, val_main_c_28, val_main_v125, val_main_v126, val_main_c_29, val_main_v127, val_main_v128, val_main_c_30, val_main_v129, val_main_v130, val_main_v131, val_main_c_31, val_main_v132, val_main_v133, val_main_v134, val_main_cst_32, val_main_v135, val_main_v136, val_main_v137]
  rw [← f16R_eq]
  exact WordCmp.select_ofBool _ _ _

theorem v161_apply (b : Fin 20) (n : Fin 14336) : val_main_v161 (F := Ideal) x5 (ix2 n b) = ((f16V (x5 (ix2 n b)) : ℝ) : EReal) := by
  pointwise [val_main_v140, val_main_c_33, val_main_v141, val_main_v142, val_main_c_34, val_main_v143, val_main_v144, val_main_c_35, val_main_v145, val_main_v146, val_main_c_36, val_main_v147, val_main_v148, val_main_c_37, val_main_v149, val_main_v150, val_main_c_38, val_main_v151, val_main_v152, val_main_c_39, val_main_v153, val_main_v154, val_main_v155, val_main_c_40, val_main_v156, val_main_v157, val_main_v158, val_main_cst_41, val_main_v159, val_main_v160, val_main_v161]
  rw [← f16R_eq]
  exact WordCmp.select_ofBool _ _ _

/-- The product of row `t` with the packed weights of row `n`. -/
def prodR (t : Fin 48) (n : Fin 14336) : EReal :=
  prodV (xS (hF x0) (gF x1) t) (xQ (hF x0) (gF x1) t) (fun b l => x2 (ix3 n b l)) (fun b i => x3 (ix3 n b i))
    (fun b => x4 (ix2 n b)) (fun b => x5 (ix2 n b))

theorem v174_apply (t : Fin 48) (n : Fin 14336) :
    val_main_v174 (F := Ideal) x0 x1 x2 x3 x4 x5 (ix2 t n) = prodR x0 x1 x2 x3 x4 x5 t n := by
  pointwise [val_main_v162, val_main_v163, val_main_v164, val_main_v165, val_main_v166, val_main_v167, val_main_v168, val_main_v169, val_main_v170, val_main_v171, val_main_v172, val_main_v173, val_main_cst_42, val_main_v174, val_main_v138, val_main_v139]
  unfold prodR prodV
  refine Finset.sum_congr rfl fun b _ => ?_
  rw [v20_apply, v137_apply, v161_apply, v115_apply]
  unfold term
  have e : FloatOps.sitofp (F := Ideal) FTy.f32 (val_main_v113 (F := Ideal) x0 x1 x2 x3 (ix3 b t n))
      = ((sI (xQ (hF x0) (gF x1) t b) (fun l => x2 (ix3 n b l)) (fun i => x3 (ix3 n b i)) : ℝ) : EReal) := by
    rw [← v113_apply]; rfl
  rw [e]

theorem v316_eq : val_main_v316 (F := Ideal) x0 x1 x2 x3 x4 x5 = val_main_v174 (F := Ideal) x0 x1 x2 x3 x4 x5 := rfl

/-- The gated activation of row `t`, column `n`. -/
def actR (t : Fin 48) (n : Fin 14336) : EReal := actV (prodR x0 x1 x2 x3 x4 x5 t n) (prodR x0 x1 x6 x7 x8 x9 t n)

theorem v318_apply (t : Fin 48) (n : Fin 14336) :
    val_main_v318 (F := Ideal) x0 x1 x2 x3 x4 x5 x6 x7 x8 x9 (ix2 t n) = actR x0 x1 x2 x3 x4 x5 x6 x7 x8 x9 t n := by
  pointwise [val_main_cst_77, val_main_call7_v0, val_main_call7_v1, val_main_call7_cst, val_main_call7_v2, val_main_call7_v3, val_main_call7_cst_0, val_main_call7_v4, val_main_call7_v5, val_main_v317, val_main_v318]
  rw [v316_eq, v174_apply, v174_apply]
  rfl

/-- The scale of block `b` of the activations. -/
def actS (t : Fin 48) (b : Fin 56) : EReal := qS fun x => actR x0 x1 x2 x3 x4 x5 x6 x7 x8 x9 t (at256 b x)

theorem v326_apply (t : Fin 48) (b : Fin 56) :
    val_main_v326 (F := Ideal) x0 x1 x2 x3 x4 x5 x6 x7 x8 x9 (ix2 t b) = actS x0 x1 x2 x3 x4 x5 x6 x7 x8 x9 t b := by
  pointwise [val_main_v319, val_main_v320, val_main_cst_78, val_main_v321, val_main_cst_79, val_main_v322, val_main_v323, val_main_cst_80, val_main_v324, val_main_v325, val_main_cst_81, val_main_call8_v0, val_main_call8_v1, val_main_v326]
  rw [c127_bits]
  simp only [v318_apply]
  have e1 : id (constant (F := Ideal) S_ FTy.f32 1065353216#32) ix0 = (1 : EReal) := Ideal.ofBits_one_f32
  rw [e1]
  rfl

theorem v334_apply (t : Fin 48) (n : Fin 14336) :
    val_main_v334 (F := Ideal) x0 x1 x2 x3 x4 x5 x6 x7 x8 x9 (ix2 t n)
      = codeB (actR x0 x1 x2 x3 x4 x5 x6 x7 x8 x9 t n) (actS x0 x1 x2 x3 x4 x5 x6 x7 x8 x9 t ⟨n.val / 256, by omega⟩) := by
  pointwise [val_main_v327, val_main_v328, val_main_v329, val_main_v330, val_main_c_82, val_main_c_83, val_main_call10_v0, val_main_call10_v1, val_main_call10_v2, val_main_call10_v3, val_main_call10_v4, val_main_v331, val_main_v332, val_main_v333, val_main_v334, val_main_v319]
  rw [v318_apply, v326_apply]
  have e1 : FloatOps.sitofp (F := Ideal) FTy.f32 127#32 = (127 : EReal) := by
    show ((((127#32 : BitVec 32).toInt : ℝ)) : EReal) = 127
    have : (127#32 : BitVec 32).toInt = 127 := by decide
    rw [this]; rfl
  have e2 : FloatOps.sitofp (F := Ideal) FTy.f32 4294967169#32 = (-127 : EReal) := by
    show ((((4294967169#32 : BitVec 32).toInt : ℝ)) : EReal) = -127
    have : (4294967169#32 : BitVec 32).toInt = -127 := by decide
    rw [this, Int.cast_neg, EReal.coe_neg]; rfl
  rw [e1, e2]
  rfl

end Cert.Q4k.Ref

end
-- ==== Proof.Match.lean ====
/-
  The results of the two programs, from equal arguments, entry by entry.
-/
module

public import proofs.«01_k».proof.Proof.Fold
public import proofs.«01_k».proof.Proof.RefVal

@[expose] public section

noncomputable section

namespace Cert.Q4k

open Cert.KernelIdeal Cert.KernelIdeal.Gen Cert.KernelIdeal.Value Idealize.ShloMosaic Idealize.ShloMosaic.TcCoe

variable (m : (ℓ : Loc nD τ Cert.KernelIdeal.sig) → Buf (Elt Ideal) ℓ) (c : Dev nD)

theorem match10 : Cert.ReferenceIdeal.Read.val_main_v28 (F := Ideal) (m ((c : Thread nD τ).loc main_arg0)) (m ((c : Thread nD τ).loc main_arg1)) = G10 m c := by
  funext j
  obtain ⟨t, k, rfl⟩ : ∃ (t : Fin 48) (k : Fin 5120), j = ix2 t k := ⟨j 0, j 1, eq_ix2 j⟩
  exact (Ref.v28_apply _ _ t k).trans (G10_val m c t k).symm

theorem match11 : Cert.ReferenceIdeal.Read.val_main_v20 (F := Ideal) (m ((c : Thread nD τ).loc main_arg0)) (m ((c : Thread nD τ).loc main_arg1)) = G11 m c := by
  funext j
  obtain ⟨t, k, rfl⟩ : ∃ (t : Fin 48) (k : Fin 20), j = ix2 t k := ⟨j 0, j 1, eq_ix2 j⟩
  exact (Ref.v20_apply _ _ t k).trans (G11_val m c t k).symm

theorem match12 : Cert.ReferenceIdeal.Read.val_main_v334 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) = G12 m c := by
  funext j
  obtain ⟨t, k, rfl⟩ : ∃ (t : Fin 48) (k : Fin 14336), j = ix2 t k := ⟨j 0, j 1, eq_ix2 j⟩
  exact (Ref.v334_apply _ _ _ _ _ _ _ _ _ _ t k).trans (G12_val m c t k).symm

theorem match13 : Cert.ReferenceIdeal.Read.val_main_v326 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9)) = G13 m c := by
  funext j
  obtain ⟨t, k, rfl⟩ : ∃ (t : Fin 48) (k : Fin 56), j = ix2 t k := ⟨j 0, j 1, eq_ix2 j⟩
  exact (Ref.v326_apply _ _ _ _ _ _ _ _ _ _ t k).trans (G13_val m c t k).symm

end Cert.Q4k

end
-- ==== Proof.lean ====
/-
  The proof of `Cert.Claim`: the three frames, that the ideal kernel keeps the kernel's program, and that over the reals the
  kernel's four results are the reference's. Both sides are brought to one formula per entry (Proof/Spec.lean): the reference in
  Proof/RefVal.lean, the kernel in Proof/Fold.lean; Proof/Match.lean puts the two together.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Match
public import Idealize.ShloMosaic.Adequacy
public import Idealize.ShloMosaic.Init

@[expose] public section

noncomputable section

namespace Cert.Proof

open Idealize.ShloMosaic Idealize.SL.Sem

/-- Over the reals the four results are the reference's. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G10 (F := Ideal) m c, fun c => Cert.KernelIdeal.Value.G11 (F := Ideal) m c,
    fun c => Cert.KernelIdeal.Value.G12 (F := Ideal) m c, fun c => Cert.KernelIdeal.Value.G13 (F := Ideal) m c, ?_, ?_⟩
  · refine (θ_run (Cert.KernelIdeal.defs (F := Ideal)) _ _).mono (fun r h c => ?_) (Cert.KernelIdeal.Value.run (F := Ideal) m g)
    obtain ⟨h0, h1, h2, h3, _, _, ha⟩ := h c
    exact ⟨h0, h1, h2, h3, ha⟩
  · refine (θ_run (Cert.ReferenceIdeal.defs (F := Ideal)) _ _).mono (fun r h c => ?_) (Cert.ReferenceIdeal.Value.run (F := Ideal) m' g')
    obtain ⟨h0, h1, h2, h3, ha⟩ := h c
    obtain ⟨e0, e1, e2, e3, e4, e5, e6, e7, e8, e9⟩ := hargs c
    have k0 : StableHlo.launchContents m' c (Proc.devRef .tc Cert.ReferenceIdeal.main_arg0) = m ((c.tc : Thread _ _).loc Cert.KernelIdeal.main_arg0) := e0
    have k1 : StableHlo.launchContents m' c (Proc.devRef .tc Cert.ReferenceIdeal.main_arg1) = m ((c.tc : Thread _ _).loc Cert.KernelIdeal.main_arg1) := e1
    have k2 : StableHlo.launchContents m' c (Proc.devRef .tc Cert.ReferenceIdeal.main_arg2) = m ((c.tc : Thread _ _).loc Cert.KernelIdeal.main_arg2) := e2
    have k3 : StableHlo.launchContents m' c (Proc.devRef .tc Cert.ReferenceIdeal.main_arg3) = m ((c.tc : Thread _ _).loc Cert.KernelIdeal.main_arg3) := e3
    have k4 : StableHlo.launchContents m' c (Proc.devRef .tc Cert.ReferenceIdeal.main_arg4) = m ((c.tc : Thread _ _).loc Cert.KernelIdeal.main_arg4) := e4
    have k5 : StableHlo.launchContents m' c (Proc.devRef .tc Cert.ReferenceIdeal.main_arg5) = m ((c.tc : Thread _ _).loc Cert.KernelIdeal.main_arg5) := e5
    have k6 : StableHlo.launchContents m' c (Proc.devRef .tc Cert.ReferenceIdeal.main_arg6) = m ((c.tc : Thread _ _).loc Cert.KernelIdeal.main_arg6) := e6
    have k7 : StableHlo.launchContents m' c (Proc.devRef .tc Cert.ReferenceIdeal.main_arg7) = m ((c.tc : Thread _ _).loc Cert.KernelIdeal.main_arg7) := e7
    have k8 : StableHlo.launchContents m' c (Proc.devRef .tc Cert.ReferenceIdeal.main_arg8) = m ((c.tc : Thread _ _).loc Cert.KernelIdeal.main_arg8) := e8
    have k9 : StableHlo.launchContents m' c (Proc.devRef .tc Cert.ReferenceIdeal.main_arg9) = m ((c.tc : Thread _ _).loc Cert.KernelIdeal.main_arg9) := e9
    refine ⟨h0.trans ?_, h1.trans ?_, h2.trans ?_, h3.trans ?_, ha⟩
    · rw [Cert.ReferenceIdeal.Read.val_main_v28_eq]
      rw [k0, k1]
      exact Cert.Q4k.match10 m c
    · rw [Cert.ReferenceIdeal.Read.val_main_v20_eq]
      rw [k0, k1]
      exact Cert.Q4k.match11 m c
    · rw [Cert.ReferenceIdeal.Read.val_main_v334_eq]
      rw [k0, k1, k2, k3, k4, k5, k6, k7, k8, k9]
      exact Cert.Q4k.match12 m c
    · rw [Cert.ReferenceIdeal.Read.val_main_v326_eq]
      rw [k0, k1, k2, k3, k4, k5, k6, k7, k8, k9]
      exact Cert.Q4k.match13 m c

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => (θ_run (Cert.ReferenceIdeal.defs (F := Ideal)) _ _).mono
    (fun r h => ⟨fun c => (h c).2.2.2.2, by funext s; rcases s with ⟨_, s | s⟩ <;> exact s.elim0⟩)
    (Cert.ReferenceIdeal.Value.run (F := Ideal) m g), trivial, algebraic⟩

end Cert.Proof

end
